-- ==== Defs.lean ====
def Pre_Attn [hPre_regions_in_range : Cert.Pre_regions_in_range.Facts] (m : (ℓ : Loc Cert.Attn.nD Cert.Attn.τ Cert.Attn.sig) → Buf (Elt Bits) ℓ) : Prop :=
  ∀ c : Dev Cert.Attn.nD,
    (Cert.Pre_regions_in_range.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3))) = (fun _ => 1#1)

def Pre_AttnIdeal [hPre_regions_in_range : Cert.Pre_regions_in_range.Facts] (m : (ℓ : Loc Cert.AttnIdeal.nD Cert.AttnIdeal.τ Cert.AttnIdeal.sig) → Buf (Elt Ideal) ℓ) : Prop :=
  ∀ c : Dev Cert.AttnIdeal.nD,
    (Cert.Pre_regions_in_range.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnIdeal_regions_in_range_scores_finite [hPre_regions_in_range_scores_finite : Cert.Pre_regions_in_range_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_regions_in_range_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_regions_in_range_scores_finite [hPre_regions_in_range_scores_finite : Cert.Pre_regions_in_range_scores_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_regions_in_range_scores_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def Pre_KernelIdeal (m : (ℓ : Loc Cert.KernelIdeal.nD Cert.KernelIdeal.τ Cert.KernelIdeal.sig) → Buf (Elt Ideal) ℓ) : Prop :=
  True

def Pre_KernelIdeal_projections_finite [hPre_projections_finite : Cert.Pre_projections_finite.Facts] (m : (ℓ : Loc Cert.KernelIdeal.nD Cert.KernelIdeal.τ Cert.KernelIdeal.sig) → Buf (Elt Ideal) ℓ) : Prop :=
  ∀ c : Dev Cert.KernelIdeal.nD,
    (Cert.Pre_projections_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_projections_finite [hPre_projections_finite : Cert.Pre_projections_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_projections_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Attn [hAttn : Cert.Attn.Facts] [hPre_regions_in_range : Cert.Pre_regions_in_range.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] [hPre_regions_in_range : Cert.Pre_regions_in_range.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_regions_in_range_scores_finite [hAttnIdeal : Cert.AttnIdeal.Facts] [hPre_regions_in_range_scores_finite : Cert.Pre_regions_in_range_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_regions_in_range_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_regions_in_range_scores_finite [hAttnReferenceIdeal : Cert.AttnReferenceIdeal.Facts] [hPre_regions_in_range_scores_finite : Cert.Pre_regions_in_range_scores_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_regions_in_range_scores_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_projections_finite [hKernelIdeal : Cert.KernelIdeal.Facts] [hPre_projections_finite : Cert.Pre_projections_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_projections_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_projections_finite [hReferenceIdeal : Cert.ReferenceIdeal.Facts] [hPre_projections_finite : Cert.Pre_projections_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_projections_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Attn_AttnIdeal : Prop :=
  True

def algebraic_AttnIdeal_AttnReferenceIdeal_pre_regions_in_range_scores_finite [hAttnIdeal : Cert.AttnIdeal.Facts] [hAttnReferenceIdeal : Cert.AttnReferenceIdeal.Facts] [hPre_regions_in_range_scores_finite : Cert.Pre_regions_in_range_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_regions_in_range_scores_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v45) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def algebraic_KernelIdeal_ReferenceIdeal_pre_projections_finite [hKernelIdeal : Cert.KernelIdeal.Facts] [hReferenceIdeal : Cert.ReferenceIdeal.Facts] [hPre_projections_finite : Cert.Pre_projections_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_projections_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hAttn : Cert.Attn.Facts) (hAttnIdeal : Cert.AttnIdeal.Facts) (hAttnReferenceIdeal : Cert.AttnReferenceIdeal.Facts) (hKernelIdeal : Cert.KernelIdeal.Facts) (hReferenceIdeal : Cert.ReferenceIdeal.Facts) (hPre_regions_in_range : Cert.Pre_regions_in_range.Facts) (hPre_regions_in_range_scores_finite : Cert.Pre_regions_in_range_scores_finite.Facts) (hPre_projections_finite : Cert.Pre_projections_finite.Facts),
    quiescent_Attn (hAttn := hAttn) (hPre_regions_in_range := hPre_regions_in_range)
    ∧ quiescent_AttnIdeal (hAttnIdeal := hAttnIdeal) (hPre_regions_in_range := hPre_regions_in_range)
    ∧ quiescent_AttnIdeal_pre_regions_in_range_scores_finite (hAttnIdeal := hAttnIdeal) (hPre_regions_in_range_scores_finite := hPre_regions_in_range_scores_finite)
    ∧ quiescent_AttnReferenceIdeal (hAttnReferenceIdeal := hAttnReferenceIdeal)
    ∧ quiescent_AttnReferenceIdeal_pre_regions_in_range_scores_finite (hAttnReferenceIdeal := hAttnReferenceIdeal) (hPre_regions_in_range_scores_finite := hPre_regions_in_range_scores_finite)
    ∧ quiescent_KernelIdeal (hKernelIdeal := hKernelIdeal)
    ∧ quiescent_KernelIdeal_pre_projections_finite (hKernelIdeal := hKernelIdeal) (hPre_projections_finite := hPre_projections_finite)
    ∧ quiescent_ReferenceIdeal (hReferenceIdeal := hReferenceIdeal)
    ∧ quiescent_ReferenceIdeal_pre_projections_finite (hReferenceIdeal := hReferenceIdeal) (hPre_projections_finite := hPre_projections_finite)
    ∧ preserves_Attn_AttnIdeal
    ∧ algebraic_AttnIdeal_AttnReferenceIdeal_pre_regions_in_range_scores_finite (hAttnIdeal := hAttnIdeal) (hAttnReferenceIdeal := hAttnReferenceIdeal) (hPre_regions_in_range_scores_finite := hPre_regions_in_range_scores_finite)
    ∧ algebraic_KernelIdeal_ReferenceIdeal_pre_projections_finite (hKernelIdeal := hKernelIdeal) (hReferenceIdeal := hReferenceIdeal) (hPre_projections_finite := hPre_projections_finite)
-- ==== Pre_projections_finite.lean ====
abbrev S4x96x224x224 : Shape := ⟨4, ![4, 96, 224, 224]⟩
abbrev S96x96 : Shape := ⟨2, ![96, 96]⟩
abbrev S96 : Shape := ⟨1, ![96]⟩
abbrev S192x96 : Shape := ⟨2, ![192, 96]⟩
abbrev S192 : Shape := ⟨1, ![192]⟩
abbrev S96x1x3x3 : Shape := ⟨4, ![96, 1, 3, 3]⟩
abbrev S_ : Shape := ⟨0, ![]⟩

class Facts : Prop where
  slices_S192x96_S96x96_0_0 : S192x96.Slices ![0, 0] S96x96
  slices_S192_S96_0 : S192.Slices ![0] S96
  bcast_S_S4x96x224x224 : S_.BroadcastsInDim S4x96x224x224 (![] : Fin 0 → Fin S4x96x224x224.rank)
  reducesTo_S4x96x224x224_S_d0_1_2_3 : S4x96x224x224.ReducesTo [0, 1, 2, 3] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_v1 : FVec F S96 .f32) (main_v15 : IVec S_ 1) (main_v16 : FVec F S96x96 .f32) (main_cst_4 : FVec F S_ .f32) : IVec S_ 1 :=
  let main_v17 : FVec F S96x96 .f32 := broadcastInDim S96x96 ![] bcast_S_S96x96 main_cst_4
  let main_v18 : IVec S96x96 1 := cmpf .olt main_v16 main_v17
  let main_c_5 : IVec S_ 1 := constantI S_ 1 1#1
  let main_v19 : IVec S_ 1 := (fun x v => Host.reduce IntOp.andi x v reducesTo_S96x96_S_d0_1 h_S_) main_v18 main_c_5
  let main_v20 : IVec S_ 1 := andi main_v15 main_v19
  let main_v21 : FVec F S96 .f32 := Host.absf main_v1
  let main_cst_6 : FVec F S_ .f32 := constant S_ .f32 0x7F800000#32
  let main_v22 : FVec F S96 .f32 := broadcastInDim S96 ![] bcast_S_S96 main_cst_6
  let main_v23 : IVec S96 1 := cmpf .olt main_v21 main_v22
  let main_c_7 : IVec S_ 1 := constantI S_ 1 1#1
  let main_v24 : IVec S_ 1 := (fun x v => Host.reduce IntOp.andi x v reducesTo_S96_S_d0 h_S_) main_v23 main_c_7
  let main_v25 : IVec S_ 1 := andi main_v20 main_v24
  main_v25

def fn {F : FTy → Type} [FloatOps F] (main_arg0 : FVec F S4x96x224x224 .f32) (main_arg1 : FVec F S96x96 .f32) (main_arg2 : FVec F S96 .f32) (main_arg3 : FVec F S192x96 .f32) (main_arg4 : FVec F S192 .f32) (main_arg5 : FVec F S96x96 .f32) (main_arg6 : FVec F S96 .f32) (main_arg7 : FVec F S96x1x3x3 .f32) (main_arg8 : FVec F S96 .f32) : IVec S_ 1 :=
  let main_v0 : FVec F S96x96 .f32 := (extractStridedSlice S96x96 ![0, 0] · slices_S192x96_S96x96_0_0) main_arg3
  let main_v1 : FVec F S96 .f32 := (extractStridedSlice S96 ![0] · slices_S192_S96_0) main_arg4
  let main_v2 : FVec F S4x96x224x224 .f32 := Host.absf main_arg0
  let main_cst : FVec F S_ .f32 := constant S_ .f32 0x7F800000#32
  let main_v3 : FVec F S4x96x224x224 .f32 := broadcastInDim S4x96x224x224 ![] bcast_S_S4x96x224x224 main_cst
  let main_v4 : IVec S4x96x224x224 1 := cmpf .olt main_v2 main_v3
  let main_c : IVec S_ 1 := constantI S_ 1 1#1
  let main_v5 : IVec S_ 1 := (fun x v => Host.reduce IntOp.andi x v reducesTo_S4x96x224x224_S_d0_1_2_3 h_S_) main_v4 main_c
  let main_v6 : FVec F S96x96 .f32 := Host.absf main_arg1
  let main_cst_0 : FVec F S_ .f32 := constant S_ .f32 0x7F800000#32
  let main_v7 : FVec F S96x96 .f32 := broadcastInDim S96x96 ![] bcast_S_S96x96 main_cst_0
  let main_v8 : IVec S96x96 1 := cmpf .olt main_v6 main_v7
  let main_c_1 : IVec S_ 1 := constantI S_ 1 1#1
  let main_v9 : IVec S_ 1 := (fun x v => Host.reduce IntOp.andi x v reducesTo_S96x96_S_d0_1 h_S_) main_v8 main_c_1
  let main_v10 : IVec S_ 1 := andi main_v5 main_v9
  let main_v11 : FVec F S96 .f32 := Host.absf main_arg2
  let main_cst_2 : FVec F S_ .f32 := constant S_ .f32 0x7F800000#32
  let main_v12 : FVec F S96 .f32 := broadcastInDim S96 ![] bcast_S_S96 main_cst_2
  let main_v13 : IVec S96 1 := cmpf .olt main_v11 main_v12
  let main_c_3 : IVec S_ 1 := constantI S_ 1 1#1
  let main_v14 : IVec S_ 1 := (fun x v => Host.reduce IntOp.andi x v reducesTo_S96_S_d0 h_S_) main_v13 main_c_3
  let main_v15 : IVec S_ 1 := andi main_v10 main_v14
  let main_v16 : FVec F S96x96 .f32 := Host.absf main_v0
  let main_cst_4 : FVec F S_ .f32 := constant S_ .f32 0x7F800000#32
  fn_part1 (F := F) main_v1 main_v15 main_v16 main_cst_4
-- ==== Pre_regions_in_range.lean ====
abbrev S196x4 : Shape := ⟨2, ![196, 4]⟩
abbrev S224x224x96 : Shape := ⟨3, ![224, 224, 96]⟩
abbrev S_ : Shape := ⟨0, ![]⟩

class Facts : Prop where
  bcast_S_S196x4 : S_.BroadcastsInDim S196x4 (![] : Fin 0 → Fin S196x4.rank)
  reducesTo_S196x4_S_d0_1 : S196x4.ReducesTo [0, 1] S_
  h_S_ : 0 < S_.numel

variable [Facts]

def fn {F : FTy → Type} [FloatOps F] (main_arg0 : IVec S196x4 32) (main_arg1 : FVec F S224x224x96 .bf16) (main_arg2 : FVec F S224x224x96 .bf16) (main_arg3 : FVec F S224x224x96 .bf16) : IVec S_ 1 :=
  let main_c : IVec S_ 32 := constantI S_ 32 0#32
  let main_v0 : IVec S196x4 32 := broadcastInDim S196x4 ![] bcast_S_S196x4 main_c
  let main_v1 : IVec S196x4 1 := cmpi .sge main_arg0 main_v0
  let main_c_0 : IVec S_ 32 := constantI S_ 32 196#32
  let main_v2 : IVec S196x4 32 := broadcastInDim S196x4 ![] bcast_S_S196x4 main_c_0
  let main_v3 : IVec S196x4 1 := cmpi .slt main_arg0 main_v2
  let main_v4 : IVec S196x4 1 := andi main_v1 main_v3
  let main_c_1 : IVec S_ 1 := constantI S_ 1 1#1
  let main_v5 : IVec S_ 1 := (fun x v => Host.reduce IntOp.andi x v reducesTo_S196x4_S_d0_1 h_S_) main_v4 main_c_1
  main_v5
-- ==== Pre_regions_in_range_scores_finite.lean ====
abbrev S196x4 : Shape := ⟨2, ![196, 4]⟩
abbrev S224x224x96 : Shape := ⟨3, ![224, 224, 96]⟩
abbrev S_ : Shape := ⟨0, ![]⟩

class Facts : Prop where
  bcast_S_S196x4 : S_.BroadcastsInDim S196x4 (![] : Fin 0 → Fin S196x4.rank)
  reducesTo_S196x4_S_d0_1 : S196x4.ReducesTo [0, 1] S_
  h_S_ : 0 < S_.numel
  bitsLt_bf16_f32 : FTy.bits .bf16 < FTy.bits .f32
  bcast_S_S224x224x96 : S_.BroadcastsInDim S224x224x96 (![] : Fin 0 → Fin S224x224x96.rank)
  reducesTo_S224x224x96_S_d0_1_2 : S224x224x96.ReducesTo [0, 1, 2] S_

variable [Facts]

def fn_part1 {F : FTy → Type} [FloatOps F] (main_v15 : IVec S_ 1) (main_v16 : IVec S_ 1) : IVec S_ 1 :=
  let main_v17 : IVec S_ 1 := andi main_v16 main_v15
  main_v17

def fn {F : FTy → Type} [FloatOps F] (main_arg0 : IVec S196x4 32) (main_arg1 : FVec F S224x224x96 .bf16) (main_arg2 : FVec F S224x224x96 .bf16) (main_arg3 : FVec F S224x224x96 .bf16) : IVec S_ 1 :=
  let main_c : IVec S_ 32 := constantI S_ 32 0#32
  let main_v0 : IVec S196x4 32 := broadcastInDim S196x4 ![] bcast_S_S196x4 main_c
  let main_v1 : IVec S196x4 1 := cmpi .sge main_arg0 main_v0
  let main_c_0 : IVec S_ 32 := constantI S_ 32 196#32
  let main_v2 : IVec S196x4 32 := broadcastInDim S196x4 ![] bcast_S_S196x4 main_c_0
  let main_v3 : IVec S196x4 1 := cmpi .slt main_arg0 main_v2
  let main_v4 : IVec S196x4 1 := andi main_v1 main_v3
  let main_c_1 : IVec S_ 1 := constantI S_ 1 1#1
  let main_v5 : IVec S_ 1 := (fun x v => Host.reduce IntOp.andi x v reducesTo_S196x4_S_d0_1 h_S_) main_v4 main_c_1
  let main_v6 : FVec F S224x224x96 .f32 := (extf .f32 · bitsLt_bf16_f32) main_arg1
  let main_v7 : FVec F S224x224x96 .f32 := Host.absf main_v6
  let main_cst : FVec F S_ .f32 := constant S_ .f32 0x7F800000#32
  let main_v8 : FVec F S224x224x96 .f32 := broadcastInDim S224x224x96 ![] bcast_S_S224x224x96 main_cst
  let main_v9 : IVec S224x224x96 1 := cmpf .olt main_v7 main_v8
  let main_c_2 : IVec S_ 1 := constantI S_ 1 1#1
  let main_v10 : IVec S_ 1 := (fun x v => Host.reduce IntOp.andi x v reducesTo_S224x224x96_S_d0_1_2 h_S_) main_v9 main_c_2
  let main_v11 : FVec F S224x224x96 .f32 := (extf .f32 · bitsLt_bf16_f32) main_arg2
  let main_v12 : FVec F S224x224x96 .f32 := Host.absf main_v11
  let main_cst_3 : FVec F S_ .f32 := constant S_ .f32 0x7F800000#32
  let main_v13 : FVec F S224x224x96 .f32 := broadcastInDim S224x224x96 ![] bcast_S_S224x224x96 main_cst_3
  let main_v14 : IVec S224x224x96 1 := cmpf .olt main_v12 main_v13
  let main_c_4 : IVec S_ 1 := constantI S_ 1 1#1
  let main_v15 : IVec S_ 1 := (fun x v => Host.reduce IntOp.andi x v reducesTo_S224x224x96_S_d0_1_2 h_S_) main_v14 main_c_4
  let main_v16 : IVec S_ 1 := andi main_v5 main_v10
  fn_part1 (F := F) main_v15 main_v16
-- ==== Attn.lean ====
abbrev S196x4 : Shape := ⟨2, ![196, 4]⟩
abbrev S224x224x96 : Shape := ⟨3, ![224, 224, 96]⟩
abbrev S16x16x96 : Shape := ⟨3, ![16, 16, 96]⟩
abbrev S1x1 : Shape := ⟨2, ![1, 1]⟩
abbrev S256x96 : Shape := ⟨2, ![256, 96]⟩
abbrev S256x1 : Shape := ⟨2, ![256, 1]⟩
abbrev S256x12 : Shape := ⟨2, ![256, 12]⟩
abbrev S256x256 : Shape := ⟨2, ![256, 256]⟩
abbrev S256 : Shape := ⟨1, ![256]⟩
abbrev S1x256 : Shape := ⟨2, ![1, 256]⟩
abbrev S256x13 : Shape := ⟨2, ![256, 13]⟩
abbrev S13x256 : Shape := ⟨2, ![13, 256]⟩
abbrev S12x256 : Shape := ⟨2, ![12, 256]⟩
abbrev S96x256 : Shape := ⟨2, ![96, 256]⟩

abbrev nBuf : Space → Nat
  | .hbm => 4
  | .vmem => 20
  | .smem => 1
  | _ => 0

abbrev bufTy : (tb : Table) → Fin (tcTables nBuf tb) → BufTy
  | .hbm, ⟨0, _⟩ => ⟨S224x224x96, .bf16⟩
  | .hbm, ⟨1, _⟩ => ⟨S224x224x96, .bf16⟩
  | .hbm, ⟨2, _⟩ => ⟨S224x224x96, .bf16⟩
  | .hbm, ⟨3, _⟩ => ⟨S224x224x96, .f32⟩
  | .local _ .vmem, ⟨0, _⟩ => ⟨S16x16x96, .bf16⟩
  | .local _ .vmem, ⟨1, _⟩ => ⟨S16x16x96, .bf16⟩
  | .local _ .vmem, ⟨2, _⟩ => ⟨S16x16x96, .bf16⟩
  | .local _ .vmem, ⟨3, _⟩ => ⟨S16x16x96, .bf16⟩
  | .local _ .vmem, ⟨4, _⟩ => ⟨S16x16x96, .bf16⟩
  | .local _ .vmem, ⟨5, _⟩ => ⟨S16x16x96, .bf16⟩
  | .local _ .vmem, ⟨6, _⟩ => ⟨S16x16x96, .bf16⟩
  | .local _ .vmem, ⟨7, _⟩ => ⟨S16x16x96, .bf16⟩
  | .local _ .vmem, ⟨8, _⟩ => ⟨S16x16x96, .bf16⟩
  | .local _ .vmem, ⟨9, _⟩ => ⟨S16x16x96, .bf16⟩
  | .local _ .vmem, ⟨10, _⟩ => ⟨S16x16x96, .bf16⟩
  | .local _ .vmem, ⟨11, _⟩ => ⟨S16x16x96, .bf16⟩
  | .local _ .vmem, ⟨12, _⟩ => ⟨S16x16x96, .bf16⟩
  | .local _ .vmem, ⟨13, _⟩ => ⟨S16x16x96, .bf16⟩
  | .local _ .vmem, ⟨14, _⟩ => ⟨S16x16x96, .bf16⟩
  | .local _ .vmem, ⟨15, _⟩ => ⟨S16x16x96, .bf16⟩
  | .local _ .vmem, ⟨16, _⟩ => ⟨S16x16x96, .bf16⟩
  | .local _ .vmem, ⟨17, _⟩ => ⟨S16x16x96, .bf16⟩
  | .local _ .vmem, ⟨18, _⟩ => ⟨S16x16x96, .f32⟩
  | .local _ .vmem, ⟨19, _⟩ => ⟨S16x16x96, .f32⟩
  | .local _ .smem, ⟨0, _⟩ => ⟨S196x4, .i32⟩
  | _, _ => ⟨S224x224x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![196], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def cc0_transform_0 (i : grid0.Coords) : Fin 3 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (k0_off1_inb : ∀ i : grid0.Coords, ∀ a, (k0_off1 i) a + S1x1.size a ≤ S196x4.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S196x4) ![v0.toNat, 0] S1x1.size (k0_off1_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c0_4 : Index := 0#32
  let v20 : BitVec 32 := pf.at 0 (Rect.unit (s := S196x4) ![v19.toNat, 0] S1x1.size (k0_off1_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_2 (k0_off2_inb : ∀ i : grid0.Coords, ∀ a, (k0_off2 i) a + S1x1.size a ≤ S196x4.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S196x4) ![v0.toNat, 1] S1x1.size (k0_off2_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c1_4 : Index := 1#32
  let v20 : BitVec 32 := pf.at 0 (Rect.unit (s := S196x4) ![v19.toNat, 1] S1x1.size (k0_off2_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_3 (k0_off3_inb : ∀ i : grid0.Coords, ∀ a, (k0_off3 i) a + S1x1.size a ≤ S196x4.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S196x4) ![v0.toNat, 2] S1x1.size (k0_off3_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c2_4 : Index := 2#32
  let v20 : BitVec 32 := pf.at 0 (Rect.unit (s := S196x4) ![v19.toNat, 2] S1x1.size (k0_off3_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_4 (k0_off4_inb : ∀ i : grid0.Coords, ∀ a, (k0_off4 i) a + S1x1.size a ≤ S196x4.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S196x4) ![v0.toNat, 3] S1x1.size (k0_off4_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c3_4 : Index := 3#32
  let v20 : BitVec 32 := pf.at 0 (Rect.unit (s := S196x4) ![v19.toNat, 3] S1x1.size (k0_off4_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_5 (k0_off1_inb : ∀ i : grid0.Coords, ∀ a, (k0_off1 i) a + S1x1.size a ≤ S196x4.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S196x4) ![v0.toNat, 0] S1x1.size (k0_off1_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c0_4 : Index := 0#32
  let v20 : BitVec 32 := pf.at 0 (Rect.unit (s := S196x4) ![v19.toNat, 0] S1x1.size (k0_off1_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_6 (k0_off2_inb : ∀ i : grid0.Coords, ∀ a, (k0_off2 i) a + S1x1.size a ≤ S196x4.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S196x4) ![v0.toNat, 1] S1x1.size (k0_off2_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c1_4 : Index := 1#32
  let v20 : BitVec 32 := pf.at 0 (Rect.unit (s := S196x4) ![v19.toNat, 1] S1x1.size (k0_off2_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_7 (k0_off3_inb : ∀ i : grid0.Coords, ∀ a, (k0_off3 i) a + S1x1.size a ≤ S196x4.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S196x4) ![v0.toNat, 2] S1x1.size (k0_off3_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c2_4 : Index := 2#32
  let v20 : BitVec 32 := pf.at 0 (Rect.unit (s := S196x4) ![v19.toNat, 2] S1x1.size (k0_off3_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_8 (k0_off4_inb : ∀ i : grid0.Coords, ∀ a, (k0_off4 i) a + S1x1.size a ≤ S196x4.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S196x4) ![v0.toNat, 3] S1x1.size (k0_off4_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c3_4 : Index := 3#32
  let v20 : BitVec 32 := pf.at 0 (Rect.unit (s := S196x4) ![v19.toNat, 3] S1x1.size (k0_off4_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_9 (i : grid0.Coords) : Fin 3 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S16x16x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x16x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x16x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x16x96 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x16x96 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x16x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x16x96 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x16x96 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x16x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnReferenceIdeal.lean ====
abbrev S196x4 : Shape := ⟨2, ![196, 4]⟩
abbrev S224x224x96 : Shape := ⟨3, ![224, 224, 96]⟩
abbrev S14x16x14x16x8x12 : Shape := ⟨6, ![14, 16, 14, 16, 8, 12]⟩
abbrev S8x14x14x16x16x12 : Shape := ⟨6, ![8, 14, 14, 16, 16, 12]⟩
abbrev S8x196x256x12 : Shape := ⟨4, ![8, 196, 256, 12]⟩
abbrev S1x196x4 : Shape := ⟨3, ![1, 196, 4]⟩
abbrev S8x196x4 : Shape := ⟨3, ![8, 196, 4]⟩
abbrev S_ : Shape := ⟨0, ![]⟩
abbrev S8x196x4x1 : Shape := ⟨4, ![8, 196, 4, 1]⟩
abbrev S8x196x4x256x12 : Shape := ⟨5, ![8, 196, 4, 256, 12]⟩
abbrev S8x196x1024x12 : Shape := ⟨4, ![8, 196, 1024, 12]⟩
abbrev S8x196x256x1024 : Shape := ⟨4, ![8, 196, 256, 1024]⟩
abbrev S8x196x256 : Shape := ⟨3, ![8, 196, 256]⟩
abbrev S8x196x256x1 : Shape := ⟨4, ![8, 196, 256, 1]⟩

abbrev nBuf : Space → Nat
  | .hbm => 57
  | .vmem => 0
  | .smem => 0
  | _ => 0

abbrev bufTy : (tb : Table) → Fin (tcTables nBuf tb) → BufTy
  | .hbm, ⟨0, _⟩ => ⟨S196x4, .i32⟩
  | .hbm, ⟨1, _⟩ => ⟨S224x224x96, .bf16⟩
  | .hbm, ⟨2, _⟩ => ⟨S224x224x96, .bf16⟩
  | .hbm, ⟨3, _⟩ => ⟨S224x224x96, .bf16⟩
  | .hbm, ⟨4, _⟩ => ⟨S224x224x96, .f32⟩
  | .hbm, ⟨5, _⟩ => ⟨S14x16x14x16x8x12, .f32⟩
  | .hbm, ⟨6, _⟩ => ⟨S8x14x14x16x16x12, .f32⟩
  | .hbm, ⟨7, _⟩ => ⟨S8x196x256x12, .f32⟩
  | .hbm, ⟨8, _⟩ => ⟨S224x224x96, .f32⟩
  | .hbm, ⟨9, _⟩ => ⟨S14x16x14x16x8x12, .f32⟩
  | .hbm, ⟨10, _⟩ => ⟨S8x14x14x16x16x12, .f32⟩
  | .hbm, ⟨11, _⟩ => ⟨S8x196x256x12, .f32⟩
  | .hbm, ⟨12, _⟩ => ⟨S224x224x96, .f32⟩
  | .hbm, ⟨13, _⟩ => ⟨S14x16x14x16x8x12, .f32⟩
  | .hbm, ⟨14, _⟩ => ⟨S8x14x14x16x16x12, .f32⟩
  | .hbm, ⟨15, _⟩ => ⟨S8x196x256x12, .f32⟩
  | .hbm, ⟨16, _⟩ => ⟨S1x196x4, .i32⟩
  | .hbm, ⟨17, _⟩ => ⟨S8x196x4, .i32⟩
  | .hbm, ⟨18, _⟩ => ⟨S_, .i32⟩
  | .hbm, ⟨19, _⟩ => ⟨S8x196x4, .i32⟩
  | .hbm, ⟨20, _⟩ => ⟨S8x196x4, .i1⟩
  | .hbm, ⟨21, _⟩ => ⟨S_, .i32⟩
  | .hbm, ⟨22, _⟩ => ⟨S8x196x4, .i32⟩
  | .hbm, ⟨23, _⟩ => ⟨S8x196x4, .i32⟩
  | .hbm, ⟨24, _⟩ => ⟨S8x196x4, .i32⟩
  | .hbm, ⟨25, _⟩ => ⟨S8x196x4x1, .i32⟩
  | .hbm, ⟨26, _⟩ => ⟨S8x196x4x256x12, .f32⟩
  | .hbm, ⟨27, _⟩ => ⟨S8x196x1024x12, .f32⟩
  | .hbm, ⟨28, _⟩ => ⟨S_, .i32⟩
  | .hbm, ⟨29, _⟩ => ⟨S8x196x4, .i32⟩
  | .hbm, ⟨30, _⟩ => ⟨S8x196x4, .i1⟩
  | .hbm, ⟨31, _⟩ => ⟨S_, .i32⟩
  | .hbm, ⟨32, _⟩ => ⟨S8x196x4, .i32⟩
  | .hbm, ⟨33, _⟩ => ⟨S8x196x4, .i32⟩
  | .hbm, ⟨34, _⟩ => ⟨S8x196x4, .i32⟩
  | .hbm, ⟨35, _⟩ => ⟨S8x196x4x1, .i32⟩
  | .hbm, ⟨36, _⟩ => ⟨S8x196x4x256x12, .f32⟩
  | .hbm, ⟨37, _⟩ => ⟨S8x196x1024x12, .f32⟩
  | .hbm, ⟨38, _⟩ => ⟨S8x196x256x1024, .f32⟩
  | .hbm, ⟨39, _⟩ => ⟨S_, .f32⟩
  | .hbm, ⟨40, _⟩ => ⟨S8x196x256, .f32⟩
  | .hbm, ⟨41, _⟩ => ⟨S_, .f32⟩
  | .hbm, ⟨42, _⟩ => ⟨S8x196x256, .f32⟩
  | .hbm, ⟨43, _⟩ => ⟨S8x196x256, .f32⟩
  | .hbm, ⟨44, _⟩ => ⟨S8x196x256x1, .f32⟩
  | .hbm, ⟨45, _⟩ => ⟨S8x196x256x1024, .f32⟩
  | .hbm, ⟨46, _⟩ => ⟨S8x196x256x1024, .f32⟩
  | .hbm, ⟨47, _⟩ => ⟨S8x196x256x1024, .f32⟩
  | .hbm, ⟨48, _⟩ => ⟨S_, .f32⟩
  | .hbm, ⟨49, _⟩ => ⟨S8x196x256, .f32⟩
  | .hbm, ⟨50, _⟩ => ⟨S8x196x256x1, .f32⟩
  | .hbm, ⟨51, _⟩ => ⟨S8x196x256x1024, .f32⟩
  | .hbm, ⟨52, _⟩ => ⟨S8x196x256x1024, .f32⟩
  | .hbm, ⟨53, _⟩ => ⟨S8x196x256x12, .f32⟩
  | .hbm, ⟨54, _⟩ => ⟨S8x14x14x16x16x12, .f32⟩
  | .hbm, ⟨55, _⟩ => ⟨S14x16x14x16x8x12, .f32⟩
  | .hbm, ⟨56, _⟩ => ⟨S224x224x96, .f32⟩
  | _, _ => ⟨S196x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== KernelIdeal.lean ====
abbrev S4x96x224x224 : Shape := ⟨4, ![4, 96, 224, 224]⟩
abbrev S96x96 : Shape := ⟨2, ![96, 96]⟩
abbrev S96 : Shape := ⟨1, ![96]⟩
abbrev S192x96 : Shape := ⟨2, ![192, 96]⟩
abbrev S192 : Shape := ⟨1, ![192]⟩
abbrev S96x1x3x3 : Shape := ⟨4, ![96, 1, 3, 3]⟩
abbrev S96x9 : Shape := ⟨2, ![96, 9]⟩
abbrev S9x96 : Shape := ⟨2, ![9, 96]⟩
abbrev S224x224x96 : Shape := ⟨3, ![224, 224, 96]⟩
abbrev S14x14x96 : Shape := ⟨3, ![14, 14, 96]⟩
abbrev S4x96x16x224 : Shape := ⟨4, ![4, 96, 16, 224]⟩
abbrev S16x224x96 : Shape := ⟨3, ![16, 224, 96]⟩
abbrev S1x14x96 : Shape := ⟨3, ![1, 14, 96]⟩
abbrev S1x96x16x224 : Shape := ⟨4, ![1, 96, 16, 224]⟩
abbrev S96x16x224 : Shape := ⟨3, ![96, 16, 224]⟩
abbrev S3584x96 : Shape := ⟨2, ![3584, 96]⟩
abbrev S1x96 : Shape := ⟨2, ![1, 96]⟩
abbrev S16x224x192 : Shape := ⟨3, ![16, 224, 192]⟩
abbrev S3584x192 : Shape := ⟨2, ![3584, 192]⟩
abbrev S1x192 : Shape := ⟨2, ![1, 192]⟩
abbrev S16x14x16x96 : Shape := ⟨4, ![16, 14, 16, 96]⟩
abbrev S14x96 : Shape := ⟨2, ![14, 96]⟩
abbrev S196x96 : Shape := ⟨2, ![196, 96]⟩
abbrev S196x4 : Shape := ⟨2, ![196, 4]⟩
abbrev S196x196 : Shape := ⟨2, ![196, 196]⟩
abbrev S196 : Shape := ⟨1, ![196]⟩
abbrev S196x1 : Shape := ⟨2, ![196, 1]⟩
abbrev S_ : Shape := ⟨0, ![]⟩
abbrev S16x16x96 : Shape := ⟨3, ![16, 16, 96]⟩
abbrev S1x1 : Shape := ⟨2, ![1, 1]⟩
abbrev S256x96 : Shape := ⟨2, ![256, 96]⟩
abbrev S256x1 : Shape := ⟨2, ![256, 1]⟩
abbrev S256x12 : Shape := ⟨2, ![256, 12]⟩
abbrev S256x256 : Shape := ⟨2, ![256, 256]⟩
abbrev S256 : Shape := ⟨1, ![256]⟩
abbrev S1x256 : Shape := ⟨2, ![1, 256]⟩
abbrev S256x13 : Shape := ⟨2, ![256, 13]⟩
abbrev S13x256 : Shape := ⟨2, ![13, 256]⟩
abbrev S12x256 : Shape := ⟨2, ![12, 256]⟩
abbrev S96x256 : Shape := ⟨2, ![96, 256]⟩
abbrev S1 : Shape := ⟨1, ![1]⟩
abbrev S96x224x224 : Shape := ⟨3, ![96, 224, 224]⟩
abbrev S1x224x96 : Shape := ⟨3, ![1, 224, 96]⟩
abbrev S224x96 : Shape := ⟨2, ![224, 96]⟩
abbrev S18x224x96 : Shape := ⟨3, ![18, 224, 96]⟩
abbrev S18x1x96 : Shape := ⟨3, ![18, 1, 96]⟩
abbrev S18x225x96 : Shape := ⟨3, ![18, 225, 96]⟩
abbrev S18x226x96 : Shape := ⟨3, ![18, 226, 96]⟩
abbrev S1x1x96 : Shape := ⟨3, ![1, 1, 96]⟩
abbrev S96x3584 : Shape := ⟨2, ![96, 3584]⟩
abbrev S96x1 : Shape := ⟨2, ![96, 1]⟩
abbrev S1x96x224x224 : Shape := ⟨4, ![1, 96, 224, 224]⟩

abbrev nBuf : Space → Nat
  | .hbm => 25
  | .vmem => 53
  | .smem => 2
  | _ => 0

abbrev bufTy : (tb : Table) → Fin (tcTables nBuf tb) → BufTy
  | .hbm, ⟨0, _⟩ => ⟨S4x96x224x224, .f32⟩
  | .hbm, ⟨1, _⟩ => ⟨S96x96, .f32⟩
  | .hbm, ⟨2, _⟩ => ⟨S96, .f32⟩
  | .hbm, ⟨3, _⟩ => ⟨S192x96, .f32⟩
  | .hbm, ⟨4, _⟩ => ⟨S192, .f32⟩
  | .hbm, ⟨5, _⟩ => ⟨S96x96, .f32⟩
  | .hbm, ⟨6, _⟩ => ⟨S96, .f32⟩
  | .hbm, ⟨7, _⟩ => ⟨S96x1x3x3, .f32⟩
  | .hbm, ⟨8, _⟩ => ⟨S96, .f32⟩
  | .hbm, ⟨9, _⟩ => ⟨S96x9, .f32⟩
  | .hbm, ⟨10, _⟩ => ⟨S9x96, .f32⟩
  | .hbm, ⟨11, _⟩ => ⟨S224x224x96, .bf16⟩
  | .hbm, ⟨12, _⟩ => ⟨S224x224x96, .bf16⟩
  | .hbm, ⟨13, _⟩ => ⟨S224x224x96, .bf16⟩
  | .hbm, ⟨14, _⟩ => ⟨S14x14x96, .f32⟩
  | .hbm, ⟨15, _⟩ => ⟨S14x14x96, .f32⟩
  | .hbm, ⟨16, _⟩ => ⟨S196x96, .f32⟩
  | .hbm, ⟨17, _⟩ => ⟨S196x96, .f32⟩
  | .hbm, ⟨18, _⟩ => ⟨S196x4, .i32⟩
  | .hbm, ⟨19, _⟩ => ⟨S_, .i32⟩
  | .hbm, ⟨20, _⟩ => ⟨S_, .i32⟩
  | .hbm, ⟨21, _⟩ => ⟨S224x224x96, .f32⟩
  | .hbm, ⟨22, _⟩ => ⟨S_, .i32⟩
  | .hbm, ⟨23, _⟩ => ⟨S96x224x224, .f32⟩
  | .hbm, ⟨24, _⟩ => ⟨S1x96x224x224, .f32⟩
  | .local _ .vmem, ⟨0, _⟩ => ⟨S4x96x16x224, .f32⟩
  | .local _ .vmem, ⟨1, _⟩ => ⟨S4x96x16x224, .f32⟩
  | .local _ .vmem, ⟨2, _⟩ => ⟨S96x96, .f32⟩
  | .local _ .vmem, ⟨3, _⟩ => ⟨S96, .f32⟩
  | .local _ .vmem, ⟨4, _⟩ => ⟨S192x96, .f32⟩
  | .local _ .vmem, ⟨5, _⟩ => ⟨S192, .f32⟩
  | .local _ .vmem, ⟨6, _⟩ => ⟨S16x224x96, .bf16⟩
  | .local _ .vmem, ⟨7, _⟩ => ⟨S16x224x96, .bf16⟩
  | .local _ .vmem, ⟨8, _⟩ => ⟨S16x224x96, .bf16⟩
  | .local _ .vmem, ⟨9, _⟩ => ⟨S16x224x96, .bf16⟩
  | .local _ .vmem, ⟨10, _⟩ => ⟨S16x224x96, .bf16⟩
  | .local _ .vmem, ⟨11, _⟩ => ⟨S16x224x96, .bf16⟩
  | .local _ .vmem, ⟨12, _⟩ => ⟨S1x14x96, .f32⟩
  | .local _ .vmem, ⟨13, _⟩ => ⟨S1x14x96, .f32⟩
  | .local _ .vmem, ⟨14, _⟩ => ⟨S1x14x96, .f32⟩
  | .local _ .vmem, ⟨15, _⟩ => ⟨S1x14x96, .f32⟩
  | .local _ .vmem, ⟨16, _⟩ => ⟨S196x96, .f32⟩
  | .local _ .vmem, ⟨17, _⟩ => ⟨S196x96, .f32⟩
  | .local _ .vmem, ⟨18, _⟩ => ⟨S196x4, .i32⟩
  | .local _ .vmem, ⟨19, _⟩ => ⟨S16x16x96, .bf16⟩
  | .local _ .vmem, ⟨20, _⟩ => ⟨S16x16x96, .bf16⟩
  | .local _ .vmem, ⟨21, _⟩ => ⟨S16x16x96, .bf16⟩
  | .local _ .vmem, ⟨22, _⟩ => ⟨S16x16x96, .bf16⟩
  | .local _ .vmem, ⟨23, _⟩ => ⟨S16x16x96, .bf16⟩
  | .local _ .vmem, ⟨24, _⟩ => ⟨S16x16x96, .bf16⟩
  | .local _ .vmem, ⟨25, _⟩ => ⟨S16x16x96, .bf16⟩
  | .local _ .vmem, ⟨26, _⟩ => ⟨S16x16x96, .bf16⟩
  | .local _ .vmem, ⟨27, _⟩ => ⟨S16x16x96, .bf16⟩
  | .local _ .vmem, ⟨28, _⟩ => ⟨S16x16x96, .bf16⟩
  | .local _ .vmem, ⟨29, _⟩ => ⟨S16x16x96, .bf16⟩
  | .local _ .vmem, ⟨30, _⟩ => ⟨S16x16x96, .bf16⟩
  | .local _ .vmem, ⟨31, _⟩ => ⟨S16x16x96, .bf16⟩
  | .local _ .vmem, ⟨32, _⟩ => ⟨S16x16x96, .bf16⟩
  | .local _ .vmem, ⟨33, _⟩ => ⟨S16x16x96, .bf16⟩
  | .local _ .vmem, ⟨34, _⟩ => ⟨S16x16x96, .bf16⟩
  | .local _ .vmem, ⟨35, _⟩ => ⟨S16x16x96, .bf16⟩
  | .local _ .vmem, ⟨36, _⟩ => ⟨S16x16x96, .bf16⟩
  | .local _ .vmem, ⟨37, _⟩ => ⟨S16x16x96, .f32⟩
  | .local _ .vmem, ⟨38, _⟩ => ⟨S16x16x96, .f32⟩
  | .local _ .vmem, ⟨39, _⟩ => ⟨S16x224x96, .f32⟩
  | .local _ .vmem, ⟨40, _⟩ => ⟨S16x224x96, .f32⟩
  | .local _ .vmem, ⟨41, _⟩ => ⟨S16x224x96, .bf16⟩
  | .local _ .vmem, ⟨42, _⟩ => ⟨S16x224x96, .bf16⟩
  | .local _ .vmem, ⟨43, _⟩ => ⟨S16x224x96, .bf16⟩
  | .local _ .vmem, ⟨44, _⟩ => ⟨S16x224x96, .bf16⟩
  | .local _ .vmem, ⟨45, _⟩ => ⟨S16x224x96, .bf16⟩
  | .local _ .vmem, ⟨46, _⟩ => ⟨S16x224x96, .bf16⟩
  | .local _ .vmem, ⟨47, _⟩ => ⟨S9x96, .f32⟩
  | .local _ .vmem, ⟨48, _⟩ => ⟨S96, .f32⟩
  | .local _ .vmem, ⟨49, _⟩ => ⟨S96x96, .f32⟩
  | .local _ .vmem, ⟨50, _⟩ => ⟨S96, .f32⟩
  | .local _ .vmem, ⟨51, _⟩ => ⟨S96x16x224, .f32⟩
  | .local _ .vmem, ⟨52, _⟩ => ⟨S96x16x224, .f32⟩
  | .local _ .smem, ⟨0, _⟩ => ⟨S196x4, .i32⟩
  | .local _ .smem, ⟨1, _⟩ => ⟨S1, .i32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_c_0 : Ref sig .tc := ⟨.hbm, 20, rfl⟩
abbrev main_v7 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_v6 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc2_stg8_0 : Ref sig .tc := ⟨.vmem, 35, rfl⟩
abbrev cc2_stg8_1 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg8_0 : Ref sig .tc := ⟨.vmem, 51, rfl⟩
abbrev cc3_stg8_1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem1_0 : DmaSem sig := 17
abbrev cc1_sem2_0 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem6_1 : DmaSem sig := 32
abbrev cc2_sem7_0 : DmaSem sig := 33
abbrev cc2_sem7_1 : DmaSem sig := 34
abbrev cc2_sem8_0 : DmaSem sig := 35
abbrev cc2_sem8_1 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem5_0 : DmaSem sig := 48
abbrev cc3_sem6_0 : DmaSem sig := 49
abbrev cc3_sem7_0 : DmaSem sig := 50
abbrev cc3_sem8_0 : DmaSem sig := 51
abbrev cc3_sem8_1 : DmaSem sig := 52

abbrev nD : Nat := 1
abbrev τ : Topo := Topo.v7x

variable {F : FTy → Type} [FloatOps F]

abbrev grid0 : Pipeline.Grid := ⟨1, ![14], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x96x16x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x224x96 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x224x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x224x96 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x14x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x14x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := .none

abbrev stage1_0 : Fin 1 → Memref sig .tc .vmem S196x96 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S196x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S196x4 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![196], ![false]⟩

abbrev pre2 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 2 → Nat :=
  let arg0 : BitVec 32 := BitVec.ofNat 32 (i 0).val
  let v0 : Index := Scalar.indexCast arg0
  let c0 : Index := 0#32
  ![v0.toNat, 0]
def k2_off2 (i : grid2.Coords) : Fin 2 → Nat :=
  let arg0 : BitVec 32 := BitVec.ofNat 32 (i 0).val
  let v0 : Index := Scalar.indexCast arg0
  let c1 : Index := 1#32
  ![v0.toNat, 1]
def k2_off3 (i : grid2.Coords) : Fin 2 → Nat :=
  let arg0 : BitVec 32 := BitVec.ofNat 32 (i 0).val
  let v0 : Index := Scalar.indexCast arg0
  let c2 : Index := 2#32
  ![v0.toNat, 2]
def k2_off4 (i : grid2.Coords) : Fin 2 → Nat :=
  let arg0 : BitVec 32 := BitVec.ofNat 32 (i 0).val
  let v0 : Index := Scalar.indexCast arg0
  let c3 : Index := 3#32
  ![v0.toNat, 3]
def cc2_transform_0 (i : grid2.Coords) : Fin 3 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc2_transform_1 (k2_off1_inb : ∀ i : grid2.Coords, ∀ a, (k2_off1 i) a + S1x1.size a ≤ S196x4.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c0 : Index := 0#32
  let v1 : BitVec 32 := pf.at 0 (Rect.unit (s := S196x4) ![v0.toNat, 0] S1x1.size (k2_off1_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c0_4 : Index := 0#32
  let v20 : BitVec 32 := pf.at 0 (Rect.unit (s := S196x4) ![v19.toNat, 0] S1x1.size (k2_off1_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc2_transform_2 (k2_off2_inb : ∀ i : grid2.Coords, ∀ a, (k2_off2 i) a + S1x1.size a ≤ S196x4.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c1 : Index := 1#32
  let v1 : BitVec 32 := pf.at 0 (Rect.unit (s := S196x4) ![v0.toNat, 1] S1x1.size (k2_off2_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c1_4 : Index := 1#32
  let v20 : BitVec 32 := pf.at 0 (Rect.unit (s := S196x4) ![v19.toNat, 1] S1x1.size (k2_off2_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc2_transform_3 (k2_off3_inb : ∀ i : grid2.Coords, ∀ a, (k2_off3 i) a + S1x1.size a ≤ S196x4.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c2 : Index := 2#32
  let v1 : BitVec 32 := pf.at 0 (Rect.unit (s := S196x4) ![v0.toNat, 2] S1x1.size (k2_off3_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c2_4 : Index := 2#32
  let v20 : BitVec 32 := pf.at 0 (Rect.unit (s := S196x4) ![v19.toNat, 2] S1x1.size (k2_off3_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc2_transform_4 (k2_off4_inb : ∀ i : grid2.Coords, ∀ a, (k2_off4 i) a + S1x1.size a ≤ S196x4.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c3 : Index := 3#32
  let v1 : BitVec 32 := pf.at 0 (Rect.unit (s := S196x4) ![v0.toNat, 3] S1x1.size (k2_off4_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c3_4 : Index := 3#32
  let v20 : BitVec 32 := pf.at 0 (Rect.unit (s := S196x4) ![v19.toNat, 3] S1x1.size (k2_off4_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc2_transform_5 (k2_off1_inb : ∀ i : grid2.Coords, ∀ a, (k2_off1 i) a + S1x1.size a ≤ S196x4.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c0 : Index := 0#32
  let v1 : BitVec 32 := pf.at 0 (Rect.unit (s := S196x4) ![v0.toNat, 0] S1x1.size (k2_off1_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c0_4 : Index := 0#32
  let v20 : BitVec 32 := pf.at 0 (Rect.unit (s := S196x4) ![v19.toNat, 0] S1x1.size (k2_off1_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc2_transform_6 (k2_off2_inb : ∀ i : grid2.Coords, ∀ a, (k2_off2 i) a + S1x1.size a ≤ S196x4.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c1 : Index := 1#32
  let v1 : BitVec 32 := pf.at 0 (Rect.unit (s := S196x4) ![v0.toNat, 1] S1x1.size (k2_off2_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c1_4 : Index := 1#32
  let v20 : BitVec 32 := pf.at 0 (Rect.unit (s := S196x4) ![v19.toNat, 1] S1x1.size (k2_off2_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc2_transform_7 (k2_off3_inb : ∀ i : grid2.Coords, ∀ a, (k2_off3 i) a + S1x1.size a ≤ S196x4.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c2 : Index := 2#32
  let v1 : BitVec 32 := pf.at 0 (Rect.unit (s := S196x4) ![v0.toNat, 2] S1x1.size (k2_off3_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c2_4 : Index := 2#32
  let v20 : BitVec 32 := pf.at 0 (Rect.unit (s := S196x4) ![v19.toNat, 2] S1x1.size (k2_off3_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc2_transform_8 (k2_off4_inb : ∀ i : grid2.Coords, ∀ a, (k2_off4 i) a + S1x1.size a ≤ S196x4.size a) (numel1_S1x1 : S1x1.numel = 1) (pf : pre2.Contents (Elt F)) (i : grid2.Coords) : Fin 3 → Nat :=
  let arg0 : BitVec 32 := BitVec.ofNat 32 (i 0).val
  let v0 : Index := Scalar.indexCast arg0
  let c3 : Index := 3#32
  let v1 : BitVec 32 := pf.at 0 (Rect.unit (s := S196x4) ![v0.toNat, 3] S1x1.size (k2_off4_inb i)) numel1_S1x1
  let c14_i32 : BitVec 32 := 14#32
  let v2 : BitVec 32 := Scalar.divsi v1 c14_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c14_i32 c0_i32_1
  let v9 : BitVec 32 := Scalar.extui v8
  let c0_i32_2 : BitVec 32 := 0#32
  let v10 : BitVec 1 := Scalar.cmpi .slt c14_i32 c0_i32_2
  let v11 : BitVec 32 := Scalar.extui v10
  let v12 : BitVec 32 := Scalar.subi v9 v11
  let v13 : BitVec 1 := Scalar.cmpi .ne v7 v12
  let v14 : BitVec 32 := Scalar.remsi v1 c14_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg0
  let c3_4 : Index := 3#32
  let v20 : BitVec 32 := pf.at 0 (Rect.unit (s := S196x4) ![v19.toNat, 3] S1x1.size (k2_off4_inb i)) numel1_S1x1
  let c14_i32_5 : BitVec 32 := 14#32
  let c0_i32_6 : BitVec 32 := 0#32
  let v21 : BitVec 1 := Scalar.cmpi .eq c14_i32_5 c0_i32_6
  let c1_i32_7 : BitVec 32 := 1#32
  let v22 : BitVec 32 := Scalar.select v21 c1_i32_7 c14_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc2_transform_9 (i : grid2.Coords) : Fin 3 → Nat :=
  let arg0 : BitVec 32 := BitVec.ofNat 32 (i 0).val
  let c14_i32 : BitVec 32 := 14#32
  let v0 : BitVec 32 := Scalar.divsi arg0 c14_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c14_i32 c0_i32_1
  let v7 : BitVec 32 := Scalar.extui v6
  let c0_i32_2 : BitVec 32 := 0#32
  let v8 : BitVec 1 := Scalar.cmpi .slt c14_i32 c0_i32_2
  let v9 : BitVec 32 := Scalar.extui v8
  let v10 : BitVec 32 := Scalar.subi v7 v9
  let v11 : BitVec 1 := Scalar.cmpi .ne v5 v10
  let v12 : BitVec 32 := Scalar.remsi arg0 c14_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32_4 : BitVec 32 := 14#32
  let c0_i32_5 : BitVec 32 := 0#32
  let v17 : BitVec 1 := Scalar.cmpi .eq c14_i32_4 c0_i32_5
  let c1_i32_6 : BitVec 32 := 1#32
  let v18 : BitVec 32 := Scalar.select v17 c1_i32_6 c14_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage2_0 : Fin 2 → Memref sig .tc .vmem S16x16x96 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x16x96 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x16x96 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S16x16x96 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S16x16x96 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S16x16x96 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S16x16x96 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S16x16x96 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S16x16x96 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S16x16x96 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![14], ![false]⟩

abbrev pre3 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (inb_S1_S1_0 : ∀ a, (![0] : Fin 1 → Nat) a + S1.size a ≤ S1.size a) (numel1_S1 : S1.numel = 1) (pf : pre3.Contents (Elt F)) (i : grid3.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c_m1_i32 : BitVec 32 := 4294967295#32
  let v2 : BitVec 32 := Scalar.addi v1 c_m1_i32
  let c0_i32 : BitVec 32 := 0#32
  let c13_i32 : BitVec 32 := 13#32
  let v3 : BitVec 32 := Scalar.maxsi c0_i32 v2
  let v4 : BitVec 32 := Scalar.minsi c13_i32 v3
  let c0_i32_0 : BitVec 32 := 0#32
  let c0_i32_1 : BitVec 32 := 0#32
  let c0_i32_2 : BitVec 32 := 0#32
  ![v4.toNat, c0_i32_0.toNat, c0_i32_1.toNat]

def cc3_transform_2 (inb_S1_S1_0 : ∀ a, (![0] : Fin 1 → Nat) a + S1.size a ≤ S1.size a) (numel1_S1 : S1.numel = 1) (pf : pre3.Contents (Elt F)) (i : grid3.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c0_i32 : BitVec 32 := 0#32
  let v2 : BitVec 32 := Scalar.addi v1 c0_i32
  let c0_i32_0 : BitVec 32 := 0#32
  let c13_i32 : BitVec 32 := 13#32
  let v3 : BitVec 32 := Scalar.maxsi c0_i32_0 v2
  let v4 : BitVec 32 := Scalar.minsi c13_i32 v3
  let c0_i32_1 : BitVec 32 := 0#32
  let c0_i32_2 : BitVec 32 := 0#32
  let c0_i32_3 : BitVec 32 := 0#32
  ![v4.toNat, c0_i32_1.toNat, c0_i32_2.toNat]

def cc3_transform_3 (inb_S1_S1_0 : ∀ a, (![0] : Fin 1 → Nat) a + S1.size a ≤ S1.size a) (numel1_S1 : S1.numel = 1) (pf : pre3.Contents (Elt F)) (i : grid3.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c1_i32 : BitVec 32 := 1#32
  let v2 : BitVec 32 := Scalar.addi v1 c1_i32
  let c0_i32 : BitVec 32 := 0#32
  let c13_i32 : BitVec 32 := 13#32
  let v3 : BitVec 32 := Scalar.maxsi c0_i32 v2
  let v4 : BitVec 32 := Scalar.minsi c13_i32 v3
  let c0_i32_0 : BitVec 32 := 0#32
  let c0_i32_1 : BitVec 32 := 0#32
  let c0_i32_2 : BitVec 32 := 0#32
  ![v4.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S16x224x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16x224x96 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S16x224x96 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S16x224x96 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S9x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S96 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S96x96 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S96 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S96x16x224 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== ReferenceIdeal.lean ====
abbrev S4x96x224x224 : Shape := ⟨4, ![4, 96, 224, 224]⟩
abbrev S96x96 : Shape := ⟨2, ![96, 96]⟩
abbrev S96 : Shape := ⟨1, ![96]⟩
abbrev S192x96 : Shape := ⟨2, ![192, 96]⟩
abbrev S192 : Shape := ⟨1, ![192]⟩
abbrev S96x1x3x3 : Shape := ⟨4, ![96, 1, 3, 3]⟩
abbrev S1x96x224x224 : Shape := ⟨4, ![1, 96, 224, 224]⟩
abbrev S96x224x224 : Shape := ⟨3, ![96, 224, 224]⟩
abbrev S_ : Shape := ⟨0, ![]⟩
abbrev S224x224x96 : Shape := ⟨3, ![224, 224, 96]⟩
abbrev S1x1x96 : Shape := ⟨3, ![1, 1, 96]⟩
abbrev S224x224x192 : Shape := ⟨3, ![224, 224, 192]⟩
abbrev S1x1x192 : Shape := ⟨3, ![1, 1, 192]⟩
abbrev S14x16x14x16x96 : Shape := ⟨5, ![14, 16, 14, 16, 96]⟩
abbrev S14x14x96 : Shape := ⟨3, ![14, 14, 96]⟩
abbrev S196x96 : Shape := ⟨2, ![196, 96]⟩
abbrev S96x196 : Shape := ⟨2, ![96, 196]⟩
abbrev S196x196 : Shape := ⟨2, ![196, 196]⟩
abbrev S196x4 : Shape := ⟨2, ![196, 4]⟩
abbrev S14x16x14x16x8x12 : Shape := ⟨6, ![14, 16, 14, 16, 8, 12]⟩
abbrev S8x14x14x16x16x12 : Shape := ⟨6, ![8, 14, 14, 16, 16, 12]⟩
abbrev S8x196x256x12 : Shape := ⟨4, ![8, 196, 256, 12]⟩
abbrev S1x196x4 : Shape := ⟨3, ![1, 196, 4]⟩
abbrev S8x196x4 : Shape := ⟨3, ![8, 196, 4]⟩
abbrev S8x196x4x1 : Shape := ⟨4, ![8, 196, 4, 1]⟩
abbrev S8x196x4x256x12 : Shape := ⟨5, ![8, 196, 4, 256, 12]⟩
abbrev S8x196x1024x12 : Shape := ⟨4, ![8, 196, 1024, 12]⟩
abbrev S8x196x256x1024 : Shape := ⟨4, ![8, 196, 256, 1024]⟩
abbrev S8x196x256 : Shape := ⟨3, ![8, 196, 256]⟩
abbrev S8x196x256x1 : Shape := ⟨4, ![8, 196, 256, 1]⟩
abbrev S226x226x96 : Shape := ⟨3, ![226, 226, 96]⟩
abbrev S96x1x1x1 : Shape := ⟨4, ![96, 1, 1, 1]⟩
abbrev S96x1x1 : Shape := ⟨3, ![96, 1, 1]⟩

abbrev nBuf : Space → Nat
  | .hbm => 189
  | .vmem => 0
  | .smem => 0
  | _ => 0

abbrev hbmTy0_0 (i : Nat) : BufTy := match i % 128 with
  | 0 => ⟨S4x96x224x224, .f32⟩
  | 1 => ⟨S96x96, .f32⟩
  | 2 => ⟨S96, .f32⟩
  | 3 => ⟨S192x96, .f32⟩
  | 4 => ⟨S192, .f32⟩
  | 5 => ⟨S96x96, .f32⟩
  | 6 => ⟨S96, .f32⟩
  | 7 => ⟨S96x1x3x3, .f32⟩
  | 8 => ⟨S96, .f32⟩
  | 9 => ⟨S1x96x224x224, .f32⟩
  | 10 => ⟨S96x224x224, .f32⟩
  | 11 => ⟨S1x96x224x224, .f32⟩
  | 12 => ⟨S96x224x224, .f32⟩
  | 13 => ⟨S_, .f32⟩
  | 14 => ⟨S96x224x224, .f32⟩
  | 15 => ⟨S96x224x224, .f32⟩
  | 16 => ⟨S_, .f32⟩
  | 17 => ⟨S96x224x224, .f32⟩
  | 18 => ⟨S96x224x224, .f32⟩
  | 19 => ⟨S1x96x224x224, .f32⟩
  | 20 => ⟨S96x224x224, .f32⟩
  | 21 => ⟨S_, .f32⟩
  | 22 => ⟨S96x224x224, .f32⟩
  | 23 => ⟨S96x224x224, .f32⟩
  | 24 => ⟨S96x224x224, .f32⟩
  | 25 => ⟨S1x96x224x224, .f32⟩
  | 26 => ⟨S96x224x224, .f32⟩
  | 27 => ⟨S_, .f32⟩
  | 28 => ⟨S96x224x224, .f32⟩
  | 29 => ⟨S96x224x224, .f32⟩
  | 30 => ⟨S96x224x224, .f32⟩
  | 31 => ⟨S224x224x96, .f32⟩
  | 32 => ⟨S1x1x96, .f32⟩
  | 33 => ⟨S224x224x96, .f32⟩
  | 34 => ⟨S224x224x96, .f32⟩
  | 35 => ⟨S224x224x192, .f32⟩
  | 36 => ⟨S1x1x192, .f32⟩
  | 37 => ⟨S224x224x192, .f32⟩
  | 38 => ⟨S224x224x192, .f32⟩
  | 39 => ⟨S224x224x96, .f32⟩
  | 40 => ⟨S224x224x96, .f32⟩
  | 41 => ⟨S14x16x14x16x96, .f32⟩
  | 42 => ⟨S_, .f32⟩
  | 43 => ⟨S14x14x96, .f32⟩
  | 44 => ⟨S_, .f32⟩
  | 45 => ⟨S14x14x96, .f32⟩
  | 46 => ⟨S14x14x96, .f32⟩
  | 47 => ⟨S196x96, .f32⟩
  | 48 => ⟨S14x16x14x16x96, .f32⟩
  | 49 => ⟨S_, .f32⟩
  | 50 => ⟨S14x14x96, .f32⟩
  | 51 => ⟨S_, .f32⟩
  | 52 => ⟨S14x14x96, .f32⟩
  | 53 => ⟨S14x14x96, .f32⟩
  | 54 => ⟨S196x96, .f32⟩
  | 55 => ⟨S96x196, .f32⟩
  | 56 => ⟨S196x196, .f32⟩
  | 57 => ⟨S196x4, .f32⟩
  | 58 => ⟨S196x4, .i32⟩
  | 59 => ⟨S_, .f32⟩
  | 60 => ⟨S224x224x96, .f32⟩
  | 61 => ⟨S224x224x96, .f32⟩
  | 62 => ⟨S14x16x14x16x8x12, .f32⟩
  | 63 => ⟨S8x14x14x16x16x12, .f32⟩
  | 64 => ⟨S8x196x256x12, .f32⟩
  | 65 => ⟨S14x16x14x16x8x12, .f32⟩
  | 66 => ⟨S8x14x14x16x16x12, .f32⟩
  | 67 => ⟨S8x196x256x12, .f32⟩
  | 68 => ⟨S14x16x14x16x8x12, .f32⟩
  | 69 => ⟨S8x14x14x16x16x12, .f32⟩
  | 70 => ⟨S8x196x256x12, .f32⟩
  | 71 => ⟨S1x196x4, .i32⟩
  | 72 => ⟨S8x196x4, .i32⟩
  | 73 => ⟨S_, .i32⟩
  | 74 => ⟨S8x196x4, .i32⟩
  | 75 => ⟨S8x196x4, .i1⟩
  | 76 => ⟨S_, .i32⟩
  | 77 => ⟨S8x196x4, .i32⟩
  | 78 => ⟨S8x196x4, .i32⟩
  | 79 => ⟨S8x196x4, .i32⟩
  | 80 => ⟨S8x196x4x1, .i32⟩
  | 81 => ⟨S8x196x4x256x12, .f32⟩
  | 82 => ⟨S8x196x1024x12, .f32⟩
  | 83 => ⟨S_, .i32⟩
  | 84 => ⟨S8x196x4, .i32⟩
  | 85 => ⟨S8x196x4, .i1⟩
  | 86 => ⟨S_, .i32⟩
  | 87 => ⟨S8x196x4, .i32⟩
  | 88 => ⟨S8x196x4, .i32⟩
  | 89 => ⟨S8x196x4, .i32⟩
  | 90 => ⟨S8x196x4x1, .i32⟩
  | 91 => ⟨S8x196x4x256x12, .f32⟩
  | 92 => ⟨S8x196x1024x12, .f32⟩
  | 93 => ⟨S8x196x256x1024, .f32⟩
  | 94 => ⟨S_, .f32⟩
  | 95 => ⟨S8x196x256, .f32⟩
  | 96 => ⟨S_, .f32⟩
  | 97 => ⟨S8x196x256, .f32⟩
  | 98 => ⟨S8x196x256, .f32⟩
  | 99 => ⟨S8x196x256x1, .f32⟩
  | 100 => ⟨S8x196x256x1024, .f32⟩
  | 101 => ⟨S8x196x256x1024, .f32⟩
  | 102 => ⟨S8x196x256x1024, .f32⟩
  | 103 => ⟨S_, .f32⟩
  | 104 => ⟨S8x196x256, .f32⟩
  | 105 => ⟨S8x196x256x1, .f32⟩
  | 106 => ⟨S8x196x256x1024, .f32⟩
  | 107 => ⟨S8x196x256x1024, .f32⟩
  | 108 => ⟨S8x196x256x12, .f32⟩
  | 109 => ⟨S8x14x14x16x16x12, .f32⟩
  | 110 => ⟨S14x16x14x16x8x12, .f32⟩
  | 111 => ⟨S224x224x96, .f32⟩
  | 112 => ⟨S_, .i32⟩
  | 113 => ⟨S_, .f32⟩
  | 114 => ⟨S226x226x96, .f32⟩
  | 115 => ⟨S224x224x96, .f32⟩
  | 116 => ⟨S96x1x1x1, .f32⟩
  | 117 => ⟨S96, .f32⟩
  | 118 => ⟨S1x1x96, .f32⟩
  | 119 => ⟨S224x224x96, .f32⟩
  | 120 => ⟨S224x224x96, .f32⟩
  | 121 => ⟨S_, .f32⟩
  | 122 => ⟨S224x224x96, .f32⟩
  | 123 => ⟨S224x224x96, .f32⟩
  | 124 => ⟨S224x224x96, .f32⟩
  | 125 => ⟨S96x1x1x1, .f32⟩
  | 126 => ⟨S96, .f32⟩
  | 127 => ⟨S1x1x96, .f32⟩
  | _ => ⟨S4x96x224x224, .f32⟩

abbrev hbmTy0_1 (i : Nat) : BufTy := match i % 128 with
  | 0 => ⟨S224x224x96, .f32⟩
  | 1 => ⟨S224x224x96, .f32⟩
  | 2 => ⟨S224x224x96, .f32⟩
  | 3 => ⟨S224x224x96, .f32⟩
  | 4 => ⟨S96x1x1x1, .f32⟩
  | 5 => ⟨S96, .f32⟩
  | 6 => ⟨S1x1x96, .f32⟩
  | 7 => ⟨S224x224x96, .f32⟩
  | 8 => ⟨S224x224x96, .f32⟩
  | 9 => ⟨S224x224x96, .f32⟩
  | 10 => ⟨S224x224x96, .f32⟩
  | 11 => ⟨S96x1x1x1, .f32⟩
  | 12 => ⟨S96, .f32⟩
  | 13 => ⟨S1x1x96, .f32⟩
  | 14 => ⟨S224x224x96, .f32⟩
  | 15 => ⟨S224x224x96, .f32⟩
  | 16 => ⟨S224x224x96, .f32⟩
  | 17 => ⟨S224x224x96, .f32⟩
  | 18 => ⟨S96x1x1x1, .f32⟩
  | 19 => ⟨S96, .f32⟩
  | 20 => ⟨S1x1x96, .f32⟩
  | 21 => ⟨S224x224x96, .f32⟩
  | 22 => ⟨S224x224x96, .f32⟩
  | 23 => ⟨S224x224x96, .f32⟩
  | 24 => ⟨S224x224x96, .f32⟩
  | 25 => ⟨S96x1x1x1, .f32⟩
  | 26 => ⟨S96, .f32⟩
  | 27 => ⟨S1x1x96, .f32⟩
  | 28 => ⟨S224x224x96, .f32⟩
  | 29 => ⟨S224x224x96, .f32⟩
  | 30 => ⟨S224x224x96, .f32⟩
  | 31 => ⟨S224x224x96, .f32⟩
  | 32 => ⟨S96x1x1x1, .f32⟩
  | 33 => ⟨S96, .f32⟩
  | 34 => ⟨S1x1x96, .f32⟩
  | 35 => ⟨S224x224x96, .f32⟩
  | 36 => ⟨S224x224x96, .f32⟩
  | 37 => ⟨S224x224x96, .f32⟩
  | 38 => ⟨S224x224x96, .f32⟩
  | 39 => ⟨S96x1x1x1, .f32⟩
  | 40 => ⟨S96, .f32⟩
  | 41 => ⟨S1x1x96, .f32⟩
  | 42 => ⟨S224x224x96, .f32⟩
  | 43 => ⟨S224x224x96, .f32⟩
  | 44 => ⟨S224x224x96, .f32⟩
  | 45 => ⟨S224x224x96, .f32⟩
  | 46 => ⟨S96x1x1x1, .f32⟩
  | 47 => ⟨S96, .f32⟩
  | 48 => ⟨S1x1x96, .f32⟩
  | 49 => ⟨S224x224x96, .f32⟩
  | 50 => ⟨S224x224x96, .f32⟩
  | 51 => ⟨S224x224x96, .f32⟩
  | 52 => ⟨S1x1x96, .f32⟩
  | 53 => ⟨S224x224x96, .f32⟩
  | 54 => ⟨S224x224x96, .f32⟩
  | 55 => ⟨S224x224x96, .f32⟩
  | 56 => ⟨S96x224x224, .f32⟩
  | 57 => ⟨S96x1x1, .f32⟩
  | 58 => ⟨S96x224x224, .f32⟩
  | 59 => ⟨S96x224x224, .f32⟩
  | 60 => ⟨S1x96x224x224, .f32⟩
  | _ => ⟨S4x96x224x224, .f32⟩

abbrev hbmTy (i : Nat) : BufTy := match i / 128 with
  | 0 => hbmTy0_0 i
  | 1 => hbmTy0_1 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_values : Ref sig .tc := ⟨.hbm, 57, rfl⟩
abbrev main_indices : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c : Ref sig .tc := ⟨.hbm, 73, rfl⟩
abbrev main_v53 : Ref sig .tc := ⟨.hbm, 74, rfl⟩
abbrev main_v54 : Ref sig .tc := ⟨.hbm, 75, rfl⟩
abbrev main_c_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_9 : Ref sig .tc := ⟨.hbm, 83, rfl⟩
abbrev main_v61 : Ref sig .tc := ⟨.hbm, 84, rfl⟩
abbrev main_v62 : Ref sig .tc := ⟨.hbm, 85, rfl⟩
abbrev main_c_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_11 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_c_14 : Ref sig .tc := ⟨.hbm, 112, rfl⟩
abbrev main_call0_v0 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_15 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩

abbrev nD : Nat := 1
abbrev τ : Topo := Topo.v7x

variable {F : FTy → Type} [FloatOps F]
-- ==== Proof.Table.lean ====
/- Which blocks the routing table names: where a word of the table lies in 0..195, the index maps of windows 1 to 8 name
   row `word / 14` and column `word % 14` of the map's windows; and then every such block is inside its array. -/
module

public import proofs.«01_k».proof.Proof.Gen.AttnIdeal.Frame
public import Idealize.ShloMosaic.Lib.Pointwise

@[expose] public section

noncomputable section

namespace Cert.Attention

open Cert.AttnIdeal Cert.AttnIdeal.Gen
open Idealize.ShloMosaic

variable {F : FTy → Type} [FloatOps F]

/-- A word's quotient by 14, rounded down, as the index maps compute it. -/
def rowOf (w : BitVec 32) : BitVec 32 :=
  Scalar.select (Scalar.andi
      (Scalar.cmpi .ne (Scalar.subi (Scalar.extui (Scalar.cmpi .sgt w 0#32)) (Scalar.extui (Scalar.cmpi .slt w 0#32)))
        (Scalar.subi (Scalar.extui (Scalar.cmpi .sgt 14#32 0#32)) (Scalar.extui (Scalar.cmpi .slt 14#32 0#32))))
      (Scalar.cmpi .ne (Scalar.remsi w 14#32) 0#32))
    (Scalar.subi (Scalar.divsi w 14#32) 1#32) (Scalar.divsi w 14#32)

/-- A word's remainder by 14, not negative, as the index maps compute it. -/
def colOf (w : BitVec 32) : BitVec 32 :=
  Scalar.select (Scalar.andi
      (Scalar.xori (Scalar.cmpi .slt (Scalar.remsi w (Scalar.select (Scalar.cmpi .eq 14#32 0#32) 1#32 14#32)) 0#32)
        (Scalar.cmpi .slt (Scalar.select (Scalar.cmpi .eq 14#32 0#32) 1#32 14#32) 0#32))
      (Scalar.cmpi .ne (Scalar.remsi w (Scalar.select (Scalar.cmpi .eq 14#32 0#32) 1#32 14#32)) 0#32))
    (Scalar.addi (Scalar.remsi w (Scalar.select (Scalar.cmpi .eq 14#32 0#32) 1#32 14#32)) (Scalar.select (Scalar.cmpi .eq 14#32 0#32) 1#32 14#32))
    (Scalar.remsi w (Scalar.select (Scalar.cmpi .eq 14#32 0#32) 1#32 14#32))

theorem rowOf_colOf_fin : ∀ n : Fin 196, (rowOf (BitVec.ofNat 32 n.val)).toNat = n.val / 14 ∧ (colOf (BitVec.ofNat 32 n.val)).toNat = n.val % 14 := by
  decide +kernel

theorem rowOf_toNat (w : BitVec 32) (h : w.toNat < 196) : (rowOf w).toNat = w.toNat / 14 := by
  have := (rowOf_colOf_fin ⟨w.toNat, h⟩).1
  simpa using this

theorem colOf_toNat (w : BitVec 32) (h : w.toNat < 196) : (colOf w).toNat = w.toNat % 14 := by
  have := (rowOf_colOf_fin ⟨w.toNat, h⟩).2
  simpa using this

/-- The table's word at a grid point and one of its four places. -/
abbrev word (pf : pre0.Contents (Elt F)) (i : grid0.Coords) (j : Fin 4) : BitVec 32 := pf 0 (ix2 (i 0) j)

theorem word_at (pf : pre0.Contents (Elt F)) (i : grid0.Coords) (j : Fin 4)
    (h : ∀ a, (![(Scalar.indexCast (BitVec.ofNat 32 (i 0).val)).toNat, j.val] : Fin 2 → ℕ) a + S1x1.size a ≤ S196x4.size a) (h1 : S1x1.numel = 1) :
    pf.at 0 (Rect.unit (s := S196x4) ![(Scalar.indexCast (BitVec.ofNat 32 (i 0).val)).toNat, j.val] S1x1.size h) h1 = word pf i j := by
  have hi : (i 0).val < 196 := (i 0).isLt
  refine congrArg (pf 0) (funext fun a => Fin.ext ?_)
  fin_cases a
  · show (BitVec.ofNat 32 (i 0).val).toNat + 1 * 0 = (i 0).val
    rw [BitVec.toNat_ofNat]; omega
  · show j.val + 1 * 0 = j.val
    omega

theorem transform_1 (pf : pre0.Contents (Elt F)) (i : grid0.Coords) :
    cc0_transform_1 k0_off1_inb numel1_S1x1 pf i = ![(rowOf (word pf i 0)).toNat, (colOf (word pf i 0)).toNat, 0] := by
  rw [← word_at pf i 0 (k0_off1_inb i) numel1_S1x1]; rfl
theorem transform_2 (pf : pre0.Contents (Elt F)) (i : grid0.Coords) :
    cc0_transform_2 k0_off2_inb numel1_S1x1 pf i = ![(rowOf (word pf i 1)).toNat, (colOf (word pf i 1)).toNat, 0] := by
  rw [← word_at pf i 1 (k0_off2_inb i) numel1_S1x1]; rfl
theorem transform_3 (pf : pre0.Contents (Elt F)) (i : grid0.Coords) :
    cc0_transform_3 k0_off3_inb numel1_S1x1 pf i = ![(rowOf (word pf i 2)).toNat, (colOf (word pf i 2)).toNat, 0] := by
  rw [← word_at pf i 2 (k0_off3_inb i) numel1_S1x1]; rfl
theorem transform_4 (pf : pre0.Contents (Elt F)) (i : grid0.Coords) :
    cc0_transform_4 k0_off4_inb numel1_S1x1 pf i = ![(rowOf (word pf i 3)).toNat, (colOf (word pf i 3)).toNat, 0] := by
  rw [← word_at pf i 3 (k0_off4_inb i) numel1_S1x1]; rfl

/-- The value windows' index maps are the key windows'. -/
theorem transform_5 (pf : pre0.Contents (Elt F)) (i : grid0.Coords) :
    cc0_transform_5 k0_off1_inb numel1_S1x1 pf i = ![(rowOf (word pf i 0)).toNat, (colOf (word pf i 0)).toNat, 0] := transform_1 pf i
theorem transform_6 (pf : pre0.Contents (Elt F)) (i : grid0.Coords) :
    cc0_transform_6 k0_off2_inb numel1_S1x1 pf i = ![(rowOf (word pf i 1)).toNat, (colOf (word pf i 1)).toNat, 0] := transform_2 pf i
theorem transform_7 (pf : pre0.Contents (Elt F)) (i : grid0.Coords) :
    cc0_transform_7 k0_off3_inb numel1_S1x1 pf i = ![(rowOf (word pf i 2)).toNat, (colOf (word pf i 2)).toNat, 0] := transform_3 pf i
theorem transform_8 (pf : pre0.Contents (Elt F)) (i : grid0.Coords) :
    cc0_transform_8 k0_off4_inb numel1_S1x1 pf i = ![(rowOf (word pf i 3)).toNat, (colOf (word pf i 3)).toNat, 0] := transform_4 pf i

/-- A block that a word below 196 names is inside its array, and ends on whole words. -/
theorem block_ok (t : Fin 3 → ℕ) (w : BitVec 32) (hw : w.toNat < 196) (ht : t = ![(rowOf w).toNat, (colOf w).toNat, 0]) :
    ∃ h : (∀ a, (t a + 1) * S16x16x96.size a ≤ S224x224x96.size a),
      EltTy.bits .bf16 = 32 ∨ (Rect.block (s := S224x224x96) S16x16x96.size t h).WholeWords (EltTy.packing .bf16) := by
  subst ht
  have hr := rowOf_toNat w hw
  have hc := colOf_toNat w hw
  refine ⟨fun a => ?_, .inr (Affine.block_words_dvd (of_decide_eq_true rfl) (by decide))⟩
  fin_cases a
  · show ((rowOf w).toNat + 1) * 16 ≤ 224; omega
  · show ((colOf w).toNat + 1) * 16 ≤ 224; omega
  · show (0 + 1) * 96 ≤ 96; omega

/-- Where every word lies in 0..195, the pipeline's side condition of the table holds. -/
theorem ok_of_words (pf : pre0.Contents (Elt F)) (h : ∀ i j, (word pf i j).toNat < 196) : ok0 pf :=
  ⟨fun i => block_ok _ _ (h i 0) (transform_1 pf i), fun i => block_ok _ _ (h i 1) (transform_2 pf i),
   fun i => block_ok _ _ (h i 2) (transform_3 pf i), fun i => block_ok _ _ (h i 3) (transform_4 pf i),
   fun i => block_ok _ _ (h i 0) (transform_5 pf i), fun i => block_ok _ _ (h i 1) (transform_6 pf i),
   fun i => block_ok _ _ (h i 2) (transform_7 pf i), fun i => block_ok _ _ (h i 3) (transform_8 pf i)⟩

end Cert.Attention

end
-- ==== Proof.Softmax.lean ====
/- A softmax-weighted sum over the extended reals, two ways: the values weighted by the exponentials and divided once by the sum of the
   exponentials, or each exponential divided first. The scores are real numbers, the values any extended reals. -/
module

public import Idealize.ShloMosaic.PureOps.Ideal.Laws
public import Idealize.ShloMosaic.Lib.Pointwise

@[expose] public section

noncomputable section

namespace Cert.Softmax

open Idealize.ShloMosaic

/-- Multiplication by a real number that is not negative passes through a sum of extended reals. -/
theorem sum_mul_coe {ι : Type} (t : Finset ι) (f : ι → EReal) {x : ℝ} (hx : 0 ≤ x) :
    (∑ i ∈ t, f i) * (x : EReal) = ∑ i ∈ t, f i * (x : EReal) := by
  classical
  induction t using Finset.induction_on with
  | empty => simp
  | insert a t ha ih =>
    rw [Finset.sum_insert ha, Finset.sum_insert ha, ← ih]
    exact EReal.right_distrib_of_nonneg_of_ne_top (EReal.coe_nonneg.2 hx) (EReal.coe_ne_top x) _ _

/-- A sum of real numbers, as an extended real. -/
theorem sum_coe {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- An extended real that is neither infinity. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (t : Finset ι) {f : ι → EReal} (h : ∀ i, IsReal (f i)) : IsReal (∑ i ∈ t, f i) := by
  choose r hr using h
  exact ⟨∑ i ∈ t, r i, by rw [← sum_coe]; exact Finset.sum_congr rfl fun i _ => hr i⟩

/-- The two ways agree. -/
theorem quotient_eq {ι : Type} [Fintype ι] [Nonempty ι] (s v : ι → EReal) (hs : ∀ i, IsReal (s i)) :
    Ideal.div (∑ i, v i * Ideal.exp (s i - Finset.univ.sup s)) (∑ i, Ideal.exp (s i - Finset.univ.sup s))
      = ∑ i, Ideal.div (Ideal.exp (s i - Finset.univ.sup s)) (∑ i, Ideal.exp (s i - Finset.univ.sup s)) * v i := by
  choose r hr using hs
  obtain ⟨k, -, hk⟩ := Finset.exists_mem_eq_sup (Finset.univ : Finset ι) Finset.univ_nonempty s
  have he (i : ι) : Ideal.exp (s i - Finset.univ.sup s) = ((Real.exp (r i - r k) : ℝ) : EReal) := by
    rw [hk, hr i, hr k, ← EReal.coe_sub]; rfl
  simp only [he]
  rw [sum_coe]
  have hpos : 0 < ∑ i, Real.exp (r i - r k) := Finset.sum_pos (fun i _ => Real.exp_pos _) Finset.univ_nonempty
  have hdiv (x : EReal) : Ideal.div x ((∑ i, Real.exp (r i - r k) : ℝ) : EReal) = x * (((∑ i, Real.exp (r i - r k))⁻¹ : ℝ) : EReal) := by
    rw [Ideal.div, if_neg (by exact_mod_cast hpos.ne'), EReal.coe_inv]
  simp only [hdiv]
  rw [sum_mul_coe _ _ (inv_nonneg.2 hpos.le)]
  refine Finset.sum_congr rfl fun i _ => ?_
  rw [mul_assoc, mul_comm]

/-- The greatest of the scores of four windows of 256, taken window by window. -/
theorem max_windows (s : Fin 4 → Fin 256 → EReal) :
    max (max (max (Finset.univ.fold max ⊥ (s 0)) (Finset.univ.fold max ⊥ (s 1))) (Finset.univ.fold max ⊥ (s 2))) (Finset.univ.fold max ⊥ (s 3))
      = Finset.univ.sup fun i : Fin 4 × Fin 256 => s i.1 i.2 := by
  change max (max (max (Finset.univ.sup (s 0)) (Finset.univ.sup (s 1))) (Finset.univ.sup (s 2))) (Finset.univ.sup (s 3)) = _
  apply le_antisymm
  · have h (j : Fin 4) : Finset.univ.sup (s j) ≤ Finset.univ.sup fun i : Fin 4 × Fin 256 => s i.1 i.2 :=
      Finset.sup_le fun m _ => Finset.le_sup (f := fun i : Fin 4 × Fin 256 => s i.1 i.2) (Finset.mem_univ (j, m))
    exact max_le (max_le (max_le (h 0) (h 1)) (h 2)) (h 3)
  · refine Finset.sup_le fun i _ => ?_
    obtain ⟨j, m⟩ := i
    have h : s j m ≤ Finset.univ.sup (s j) := Finset.le_sup (f := s j) (Finset.mem_univ m)
    fin_cases j
    · exact h.trans ((le_max_left _ _).trans ((le_max_left _ _).trans (le_max_left _ _)))
    · exact h.trans ((le_max_right _ _).trans ((le_max_left _ _).trans (le_max_left _ _)))
    · exact h.trans ((le_max_right _ _).trans (le_max_left _ _))
    · exact h.trans (le_max_right _ _)

end Cert.Softmax

end
-- ==== Proof.Precond.lean ====
/- The preconditions, read at an index: the routing table's words lie in 0..195, and the queries and keys are real numbers. -/
module

public import proofs.«01_k».proof.Defs
public import proofs.«01_k».proof.Proof.Table
public import proofs.«01_k».proof.Proof.Softmax
public import proofs.«01_k».proof.Proof.Gen.Attn.Frame
public import proofs.«01_k».proof.Proof.Gen.Pre_regions_in_range
public import proofs.«01_k».proof.Proof.Gen.Pre_regions_in_range_scores_finite
public import Idealize.ShloMosaic.Lib.ReduceAll
public import Idealize.ShloMosaic.Lib.Affine

@[expose] public section

noncomputable section

namespace Cert.Attention

open Idealize.ShloMosaic Idealize.ShloMosaic.TcCoe

theorem andi_one (a b : BitVec 1) : IntOp.andi a b = 1#1 ↔ a = 1#1 ∧ b = 1#1 := by revert a b; decide

theorem toNat_of_cmpi (w : BitVec 32) (h0 : IntOp.cmpi .sge w 0#32 = 1#1) (h1 : IntOp.cmpi .slt w 196#32 = 1#1) : w.toNat < 196 := by
  have ofBool_eq_one (p : Bool) : (BitVec.ofBool p = 1#1) ↔ p = true := by cases p <;> decide
  simp only [IntOp.cmpi, ofBool_eq_one, BitVec.sle, BitVec.slt, decide_eq_true_eq, BitVec.toInt, BitVec.toNat_ofNat] at h0 h1
  omega

theorem words_of_in_range {F : FTy → Type} [FloatOps F] (x0 : IVec Pre_regions_in_range.S196x4 32) (x1 x2 x3 : FVec F Pre_regions_in_range.S224x224x96 .bf16)
    (h : Pre_regions_in_range.fn (F := F) x0 x1 x2 x3 = fun _ => 1#1) (j : Pre_regions_in_range.S196x4.Idx) : (x0 j).toNat < 196 := by
  have e := congrFun h (fun a => a.elim0)
  dsimp only [Pre_regions_in_range.fn] at e
  have e := Host.reduce_andi_all _ _ _ _ _ e j
  have e := (andi_one _ _).1 e
  exact toNat_of_cmpi _ e.1 e.2

theorem words_of_scores_finite {F : FTy → Type} [FloatOps F] (x0 : IVec Pre_regions_in_range.S196x4 32) (x1 x2 x3 : FVec F Pre_regions_in_range.S224x224x96 .bf16)
    (h : Pre_regions_in_range_scores_finite.fn (F := F) x0 x1 x2 x3 = fun _ => 1#1) (j : Pre_regions_in_range.S196x4.Idx) : (x0 j).toNat < 196 := by
  have e := congrFun h (fun a => a.elim0)
  dsimp only [Pre_regions_in_range_scores_finite.fn, Pre_regions_in_range_scores_finite.fn_part1] at e
  have e := ((andi_one _ _).1 ((andi_one _ _).1 e).1).1
  have e := Host.reduce_andi_all _ _ _ _ _ e j
  have e := (andi_one _ _).1 e
  exact toNat_of_cmpi _ e.1 e.2

theorem isReal_of_abs (x : EReal) (h : Ideal.cmp .olt (FloatOps.absf (F := Ideal) (φ := .f32) x) (Ideal.ofBits .f32 0x7F800000#32) = 1#1) : Softmax.IsReal x := by
  have htop : Ideal.ofBits .f32 0x7F800000#32 = ⊤ := by simp [Ideal.ofBits, Ideal.ieee]
  rw [htop] at h
  have hlt : FloatOps.absf (F := Ideal) (φ := .f32) x < ⊤ := by
    by_contra hn
    simp [Ideal.cmp, hn] at h
  change max x (-x) < ⊤ at hlt
  induction x using EReal.rec with
  | bot => simp at hlt
  | top => simp at hlt
  | coe r => exact ⟨r, rfl⟩

theorem real_of_scores_finite (x0 : IVec Pre_regions_in_range.S196x4 32) (x1 x2 x3 : FVec Ideal Pre_regions_in_range.S224x224x96 .bf16)
    (h : Pre_regions_in_range_scores_finite.fn (F := Ideal) x0 x1 x2 x3 = fun _ => 1#1) (j : Pre_regions_in_range.S224x224x96.Idx) :
    Softmax.IsReal (x1 j) ∧ Softmax.IsReal (x2 j) := by
  have e := congrFun h (fun a => a.elim0)
  dsimp only [Pre_regions_in_range_scores_finite.fn, Pre_regions_in_range_scores_finite.fn_part1] at e
  have e := (andi_one _ _).1 e
  have e1 := Host.reduce_andi_all _ _ _ _ _ ((andi_one _ _).1 e.1).2 j
  have e2 := Host.reduce_andi_all _ _ _ _ _ e.2 j
  exact ⟨isReal_of_abs _ e1, isReal_of_abs _ e2⟩

theorem ok_of_Attn (m : (ℓ : Loc Attn.nD Attn.τ Attn.sig) → Buf (Elt Bits) ℓ) (h : Cert.Pre_Attn m) : Attn.Gen.Ok m :=
  ok_of_words (F := Bits) (Attn.Gen.tbl m) fun i j => words_of_in_range _ _ _ _ (h 0) _

theorem ok_of_AttnIdeal (m : (ℓ : Loc AttnIdeal.nD AttnIdeal.τ AttnIdeal.sig) → Buf (Elt Ideal) ℓ) (h : Cert.Pre_AttnIdeal m) : AttnIdeal.Gen.Ok m :=
  ok_of_words (AttnIdeal.Gen.tbl m) fun i j => words_of_in_range _ _ _ _ (h 0) _

theorem ok_of_scores_finite (m : (ℓ : Loc AttnIdeal.nD AttnIdeal.τ AttnIdeal.sig) → Buf (Elt Ideal) ℓ) (h : Cert.Pre_AttnIdeal_regions_in_range_scores_finite m) : AttnIdeal.Gen.Ok m :=
  ok_of_words (AttnIdeal.Gen.tbl m) fun i j => words_of_scores_finite _ _ _ _ (h 0) _

end Cert.Attention

end
-- ==== Proof.Head.lean ====
/- The attention of one window by one head, as the kernel's body computes it: the four routed windows' scores, their common maximum, the
   exponentials, the value sums with a column of ones beside the values (whose row of the product is the sum of the exponentials),
   and the quotient; and the body's block, its eight heads laid side by side. Every payload of the printed body is a part of it. -/
module

public import proofs.«01_k».proof.Proof.Gen.AttnIdeal.Frame
public import Idealize.ShloMosaic.Lib.Pipeline.Value

@[expose] public section

noncomputable section

namespace Cert.Attention

open Cert.AttnIdeal Cert.AttnIdeal.Gen
open Idealize.ShloMosaic Idealize.SL.Sem Idealize.ShloMosaic.Tactic

variable {F : FTy → Type} [FloatOps F]

/-- The scores of a window's keys (rows) against the window's queries (columns), for the head whose channels start at `o`. -/
def scores (o : Fin 2 → ℕ) (ho : S256x96.Slices o S256x12) (Q K : FVec F S256x96 .bf16) : FVec F S256x256 .bf16 :=
  truncf .bf16 (matmul dot_S256x12_S256x12_S256x256_1_1_0_0_n_n none (extractStridedSlice S256x12 o K ho)
    (extractStridedSlice S256x12 o Q ho) (constant S256x256 .f32 0x00000000#32)) bitsLt_bf16_f32

/-- Each query's greatest score in one window. -/
def greatest (s : FVec F S256x256 .bf16) : FVec F S1x256 .bf16 :=
  shapeCast S1x256 (multiReduction .maximumf [0] S256 s 0xFF80#16 reduces_S256x256_S256 (.inr rfl) rfl) shapeCasts_S256_S1x256

/-- Each query's greatest score in four windows. -/
def greatest4 (s0 s1 s2 s3 : FVec F S256x256 .bf16) : FVec F S1x256 .bf16 :=
  maximumf (maximumf (maximumf (greatest s0) (greatest s1)) (greatest s2)) (greatest s3)

/-- The exponentials of one window's scores less the maximum. -/
def weights (s : FVec F S256x256 .bf16) (g : FVec F S1x256 .bf16) : FVec F S256x256 .bf16 :=
  exp (subf s (broadcastTo S256x256 g broadcasts_S1x256_S256x256))

/-- One window's share of the sums: the head's twelve value channels, and a column of ones, against the weights. -/
def share (o : Fin 2 → ℕ) (ho : S256x96.Slices o S256x12) (V : FVec F S256x96 .bf16) (w : FVec F S256x256 .bf16) : FVec F S13x256 .f32 :=
  matmul dot_S256x13_S256x256_S13x256_0_0_1_1_n_n none
    (concatenate S256x13 1 [⟨S256x12, extractStridedSlice S256x12 o V ho⟩, ⟨S256x1, k0_pay11⟩] concatenates_S256x12_S256x1_S256x13_d1)
    w (constant S13x256 .f32 0x00000000#32)

/-- The sums over the four windows. -/
def sums (p0 p1 p2 p3 : FVec F S13x256 .f32) : FVec F S13x256 .f32 :=
  addf (addf (addf (addf (broadcast S13x256 (Scalar.ofBits .f32 0x00000000#32)) p0) p1) p2) p3

/-- The quotient of the value sums by the sum of the weights. -/
def quotient (a : FVec F S13x256 .f32) : FVec F S12x256 .f32 :=
  divf (extractStridedSlice S12x256 ![0, 0] a slices_S13x256_o0_0_S12x256)
    (broadcastTo S12x256 (extractStridedSlice S1x256 ![12, 0] a slices_S13x256_o12_0_S1x256) broadcasts_S1x256_S12x256)

/-- One head of the window's attention. -/
def head (o : Fin 2 → ℕ) (ho : S256x96.Slices o S256x12) (Q K0 K1 K2 K3 V0 V1 V2 V3 : FVec F S256x96 .bf16) : FVec F S12x256 .f32 :=
  quotient (sums
    (share o ho V0 (weights (scores o ho Q K0) (greatest4 (scores o ho Q K0) (scores o ho Q K1) (scores o ho Q K2) (scores o ho Q K3))))
    (share o ho V1 (weights (scores o ho Q K1) (greatest4 (scores o ho Q K0) (scores o ho Q K1) (scores o ho Q K2) (scores o ho Q K3))))
    (share o ho V2 (weights (scores o ho Q K2) (greatest4 (scores o ho Q K0) (scores o ho Q K1) (scores o ho Q K2) (scores o ho Q K3))))
    (share o ho V3 (weights (scores o ho Q K3) (greatest4 (scores o ho Q K0) (scores o ho Q K1) (scores o ho Q K2) (scores o ho Q K3)))))

/-- A window's pixels in a row. -/
def flat (x : Vec F S16x16x96 .bf16) : FVec F S256x96 .bf16 := shapeCast S256x96 x shapeCasts_S16x16x96_S256x96

/-- The body's block: eight heads, over their channels, laid back over the window's pixels. -/
def blockOf (Q K0 K1 K2 K3 V0 V1 V2 V3 : FVec F S256x96 .bf16) : FVec F S16x16x96 .f32 :=
  shapeCast S16x16x96 (transpose S256x96 [1, 0] (concatenate S96x256 0
    [⟨S12x256, head ![0, 0] slices_S256x96_o0_0_S256x12 Q K0 K1 K2 K3 V0 V1 V2 V3⟩,
     ⟨S12x256, head ![0, 12] slices_S256x96_o0_12_S256x12 Q K0 K1 K2 K3 V0 V1 V2 V3⟩,
     ⟨S12x256, head ![0, 24] slices_S256x96_o0_24_S256x12 Q K0 K1 K2 K3 V0 V1 V2 V3⟩,
     ⟨S12x256, head ![0, 36] slices_S256x96_o0_36_S256x12 Q K0 K1 K2 K3 V0 V1 V2 V3⟩,
     ⟨S12x256, head ![0, 48] slices_S256x96_o0_48_S256x12 Q K0 K1 K2 K3 V0 V1 V2 V3⟩,
     ⟨S12x256, head ![0, 60] slices_S256x96_o0_60_S256x12 Q K0 K1 K2 K3 V0 V1 V2 V3⟩,
     ⟨S12x256, head ![0, 72] slices_S256x96_o0_72_S256x12 Q K0 K1 K2 K3 V0 V1 V2 V3⟩,
     ⟨S12x256, head ![0, 84] slices_S256x96_o0_84_S256x12 Q K0 K1 K2 K3 V0 V1 V2 V3⟩]
    concatenates_S12x256_S12x256_S12x256_S12x256_S12x256_S12x256_S12x256_S12x256_S96x256_d0) transposes_S96x256_p1_0_S256x96) shapeCasts_S256x96_S16x16x96

set_option maxRecDepth 16384 in
/-- What the body leaves in its output block, of the blocks it loads. -/
theorem out_eq (c : Dev nD) (i : grid0.Coords) (arg2 : Memref sig .tc .vmem S16x16x96 .bf16) (harg2 : arg2.IsWhole) (arg3 : Memref sig .tc .vmem S16x16x96 .bf16) (harg3 : arg3.IsWhole) (arg4 : Memref sig .tc .vmem S16x16x96 .bf16) (harg4 : arg4.IsWhole) (arg5 : Memref sig .tc .vmem S16x16x96 .bf16) (harg5 : arg5.IsWhole) (arg6 : Memref sig .tc .vmem S16x16x96 .bf16) (harg6 : arg6.IsWhole) (arg7 : Memref sig .tc .vmem S16x16x96 .bf16) (harg7 : arg7.IsWhole) (arg8 : Memref sig .tc .vmem S16x16x96 .bf16) (harg8 : arg8.IsWhole) (arg9 : Memref sig .tc .vmem S16x16x96 .bf16) (harg9 : arg9.IsWhole) (arg10 : Memref sig .tc .vmem S16x16x96 .bf16) (harg10 : arg10.IsWhole) (arg11 : Memref sig .tc .vmem S16x16x96 .f32) (harg11 : arg11.IsWhole)
    (x0 x1 x2 x3 x4 x5 x6 x7 x8 : Vec F S16x16x96 .bf16) (xt0 : TbBuf0 (F := F) c tbM0_0) :
    out0_A_9 c i arg2 harg2 arg3 harg3 arg4 harg4 arg5 harg5 arg6 harg6 arg7 harg7 arg8 harg8 arg9 harg9 arg10 harg10 arg11 harg11 x0 x1 x2 x3 x4 x5 x6 x7 x8 xt0 = blockOf (flat x0) (flat x1) (flat x2) (flat x3) (flat x4) (flat x5) (flat x6) (flat x7) (flat x8) := by
  unfold out0_A_9
  rw [View.read_writes_eq_canon (h := cover0_A_9 c i arg2 harg2 arg3 harg3 arg4 harg4 arg5 harg5 arg6 harg6 arg7 harg7 arg8 harg8 arg9 harg9 arg10 harg10 arg11 harg11 x0 x1 x2 x3 x4 x5 x6 x7 x8 xt0)]
  unfold kernelRun0_A
  dsimp only
  sl_unfold_words
  refine (View.canon_unit_zero (S := S16x16x96) (by funext a; fin_cases a <;> rfl) _ _).trans ?_
  simp only [View.readAt_eq_ld, harg2.read_unread, harg3.read_unread, harg4.read_unread, harg5.read_unread, harg6.read_unread,
    harg7.read_unread, harg8.read_unread, harg9.read_unread, harg10.read_unread]
  simp only [View.ld_unit_zero (S := S16x16x96) (show (![0, 0, 0] : Fin 3 → ℕ) = fun _ => 0 by funext a; fin_cases a <;> rfl)]
  rfl
end Cert.Attention

end
-- ==== Proof.HeadValue.lean ====
/- The body's block at an index, over the extended reals. -/
module

public import proofs.«01_k».proof.Proof.Head
public import proofs.«01_k».proof.Proof.Softmax
public import Idealize.ShloMosaic.Lib.Pointwise

@[expose] public section

noncomputable section

namespace Cert.Attention

open Cert.AttnIdeal Cert.AttnIdeal.Gen
open Idealize.ShloMosaic Idealize.SL.Sem

theorem scores_apply (c : ℕ) (hc : c + 12 ≤ 96) (ho : S256x96.Slices ![0, c] S256x12) (Q K : FVec Ideal S256x96 .bf16) (m p : Fin 256) :
    scores ![0, c] ho Q K (ix2 m p) = ∑ d : Fin 12, K (ix2 m ⟨c + d, by omega⟩) * Q (ix2 p ⟨c + d, by omega⟩) := by
  pointwise [scores]

theorem greatest_apply (s : FVec Ideal S256x256 .bf16) (p : Fin 256) :
    greatest s (ix2 0 p) = Finset.univ.fold max ⊥ (fun m => s (ix2 m p)) := by
  pointwise [greatest]
  rw [show Ideal.ofBits FTy.bf16 65408#16 = ⊥ by simp [Ideal.ofBits, Ideal.ieee]]

theorem greatest4_apply (s0 s1 s2 s3 : FVec Ideal S256x256 .bf16) (p : Fin 256) :
    greatest4 s0 s1 s2 s3 (ix2 0 p) = max (max (max (greatest s0 (ix2 0 p)) (greatest s1 (ix2 0 p))) (greatest s2 (ix2 0 p)))  (greatest s3 (ix2 0 p)) := by
  pointwise [greatest4]

theorem weights_apply (s : FVec Ideal S256x256 .bf16) (g : FVec Ideal S1x256 .bf16) (m p : Fin 256) :
    weights s g (ix2 m p) = Ideal.exp (s (ix2 m p) - g (ix2 0 p)) := by
  pointwise [weights]

theorem share_apply (c : ℕ) (hc : c + 12 ≤ 96) (ho : S256x96.Slices ![0, c] S256x12) (V : FVec Ideal S256x96 .bf16) (w : FVec Ideal S256x256 .bf16)
   (d : Fin 13) (p : Fin 256) :
    share ![0, c] ho V w (ix2 d p) = ∑ m : Fin 256, (if h : d.val < 12 then V (ix2 m ⟨c + d, by omega⟩) else 1) * w (ix2 m p) := by
  pointwise [share, k0_pay11]

theorem sums_apply (p0 p1 p2 p3 : FVec Ideal S13x256 .f32) (j : S13x256.Idx) :
    sums p0 p1 p2 p3 j = p0 j + p1 j + p2 j + p3 j := by
  pointwise [sums]

theorem quotient_apply (a : FVec Ideal S13x256 .f32) (d : Fin 12) (p : Fin 256) :
    quotient a (ix2 d p) = Ideal.div (a (ix2 ⟨d, by omega⟩ p)) (a (ix2 12 p)) := by
  pointwise [quotient]

/-- The score of one key for one query. -/
def score (q k : Fin 12 → EReal) : EReal := ∑ d, k d * q d

/-- One query's attention by one head over four windows of 256 keys: the values weighted by the exponentials of the scores less their
    maximum, divided by the sum of the exponentials. -/
def attend (q : Fin 12 → EReal) (k v : Fin 4 → Fin 256 → Fin 12 → EReal) (d : Fin 12) : EReal :=
  Ideal.div
    (∑ i : Fin 4 × Fin 256, v i.1 i.2 d * Ideal.exp (score q (k i.1 i.2) - Finset.univ.sup fun i : Fin 4 × Fin 256 => score q (k i.1 i.2)))
    (∑ i : Fin 4 × Fin 256, Ideal.exp (score q (k i.1 i.2) - Finset.univ.sup fun i : Fin 4 × Fin 256 => score q (k i.1 i.2)))

theorem head_apply (c : ℕ) (hc : c + 12 ≤ 96) (ho : S256x96.Slices ![0, c] S256x12) (Q K0 K1 K2 K3 V0 V1 V2 V3 : FVec Ideal S256x96 .bf16)
    (d : Fin 12) (p : Fin 256) :
    head ![0, c] ho Q K0 K1 K2 K3 V0 V1 V2 V3 (ix2 d p)
      = attend (fun d => Q (ix2 p ⟨c + d, by omega⟩)) (fun j m d => ![K0, K1, K2, K3] j (ix2 m ⟨c + d, by omega⟩))
          (fun j m d => ![V0, V1, V2, V3] j (ix2 m ⟨c + d, by omega⟩)) d := by
  have hg : greatest4 (scores ![0, c] ho Q K0) (scores ![0, c] ho Q K1) (scores ![0, c] ho Q K2) (scores ![0, c] ho Q K3) (ix2 0 p)
      = Finset.univ.sup fun i : Fin 4 × Fin 256 => score (fun d => Q (ix2 p ⟨c + d, by omega⟩)) (fun d => ![K0, K1, K2, K3] i.1 (ix2 i.2 ⟨c + d, by omega⟩)) := by
    rw [greatest4_apply, greatest_apply, greatest_apply, greatest_apply, greatest_apply]
    simp only [scores_apply c hc]
    exact Softmax.max_windows fun j m => score (fun d => Q (ix2 p ⟨c + d, by omega⟩)) (fun d => ![K0, K1, K2, K3] j (ix2 m ⟨c + d, by omega⟩))
  unfold head
  rw [quotient_apply, sums_apply, sums_apply]
  simp only [share_apply c hc, weights_apply, hg, scores_apply c hc]
  unfold attend
  rw [Fintype.sum_prod_type, Fintype.sum_prod_type]
  simp only [Fin.sum_univ_four]
  refine congrArg₂ Ideal.div ?_ ?_
  · simp only [d.isLt, dif_pos]; rfl
  · simp only [show ¬ ((12 : Fin 13) : ℕ) < 12 by decide, dif_neg, one_mul, not_false_eq_true]; rfl

theorem flat_apply (x : Vec Ideal S16x16x96 .bf16) (m : Fin 256) (c : Fin 96) :
    flat x (ix2 m c) = x (ix3 ⟨m / 16, by omega⟩ ⟨m % 16, by omega⟩ c) := by
  pointwise [flat]

theorem blockOf_apply (x0 x1 x2 x3 x4 x5 x6 x7 x8 : Vec Ideal S16x16x96 .bf16) (a b : Fin 16) (h : Fin 8) (d : Fin 12) :
    blockOf (flat x0) (flat x1) (flat x2) (flat x3) (flat x4) (flat x5) (flat x6) (flat x7) (flat x8) (ix3 a b ⟨12 * h + d, by omega⟩)
      = attend (fun d => x0 (ix3 a b ⟨12 * h + d, by omega⟩))
          (fun j m d => ![x1, x2, x3, x4] j (ix3 ⟨m / 16, by omega⟩ ⟨m % 16, by omega⟩ ⟨12 * h + d, by omega⟩))
          (fun j m d => ![x5, x6, x7, x8] j (ix3 ⟨m / 16, by omega⟩ ⟨m % 16, by omega⟩ ⟨12 * h + d, by omega⟩)) d := by
  have key (c : ℕ) (hc : c + 12 ≤ 96) (ho : S256x96.Slices ![0, c] S256x12) (hch : c = 12 * h) (e : Fin 12) (he : e = d) :
      head ![0, c] ho (flat x0) (flat x1) (flat x2) (flat x3) (flat x4) (flat x5) (flat x6) (flat x7) (flat x8) (ix2 e ⟨a * 16 + b, by omega⟩)
        = attend (fun d => x0 (ix3 a b ⟨12 * h + d, by omega⟩))
          (fun j m d => ![x1, x2, x3, x4] j (ix3 ⟨m / 16, by omega⟩ ⟨m % 16, by omega⟩ ⟨12 * h + d, by omega⟩))
          (fun j m d => ![x5, x6, x7, x8] j (ix3 ⟨m / 16, by omega⟩ ⟨m % 16, by omega⟩ ⟨12 * h + d, by omega⟩)) d := by
    subst he hch
    rw [head_apply _ hc]
    have ha : (⟨(⟨a * 16 + b, by omega⟩ : Fin 256) / 16, by omega⟩ : Fin 16) = a := Fin.ext (by dsimp only; omega)
    have hb : (⟨(⟨a * 16 + b, by omega⟩ : Fin 256) % 16, by omega⟩ : Fin 16) = b := Fin.ext (by dsimp only; omega)
    congr 1
    · funext d; rw [flat_apply, ha, hb]
    · funext j m d; fin_cases j <;> exact flat_apply _ _ _
    · funext j m d; fin_cases j <;> exact flat_apply _ _ _
  pointwise [blockOf]
  split_ifs
  all_goals exact key _ (by omega) _ (by omega) _ (Fin.ext (by dsimp only; omega))

end Cert.Attention

end
-- ==== Proof.Array.lean ====
/- The kernel's result array at the end of its run, over the extended reals: every block of it is the body's block of the point that wrote
   it, whose input blocks are the query window and the four key and value windows that the table names. -/
module

public import proofs.«01_k».proof.Proof.HeadValue
public import proofs.«01_k».proof.Proof.Table

@[expose] public section

set_option maxRecDepth 16384

noncomputable section

namespace Cert.Attention

open Cert.AttnIdeal Cert.AttnIdeal.Gen
open Idealize.ShloMosaic Idealize.ShloMosaic.TcCoe Idealize.SL.Sem

/-- The pixel `m` of the window that a word names, at a channel. -/
def pixel (w : BitVec 32) (m : Fin 256) (c : Fin 96) : S224x224x96.Idx :=
  ix3 (Fin.ofNat 224 (w.toNat / 14 * 16 + m / 16)) (Fin.ofNat 224 (w.toNat % 14 * 16 + m % 16)) c

/-- The window, numbered row by row, that a pixel lies in. -/
def windowOf (y x : Fin 224) : Fin 196 := ⟨y / 16 * 14 + x / 16, by omega⟩

/-- The channel `d` of the head that channel `c` belongs to. -/
def channel (c : Fin 96) (d : Fin 12) : Fin 96 := ⟨12 * (c / 12) + d, by omega⟩

/-- The routed attention of every pixel and channel, of the table, the queries, the keys and the values. -/
def attention (tb : S196x4.Idx → BitVec 32) (q k v : S224x224x96.Idx → EReal) (i : S224x224x96.Idx) : EReal :=
  attend (fun d => q (ix3 (i 0) (i 1) (channel (i 2) d)))
    (fun j m d => k (pixel (tb (ix2 (windowOf (i 0) (i 1)) j)) m (channel (i 2) d)))
    (fun j m d => v (pixel (tb (ix2 (windowOf (i 0) (i 1)) j)) m (channel (i 2) d)))
    ⟨(i 2).val % 12, Nat.mod_lt _ (by decide)⟩

theorem coords_val : ∀ t : Fin grid0.N, (grid0.coords t 0).val = t.val := by decide +kernel

theorem transform_0 (i : grid0.Coords) : cc0_transform_0 i = ![(i 0).val / 14, (i 0).val % 14, 0] := by
  have h := rowOf_colOf_fin (i 0)
  show ![(rowOf (BitVec.ofNat 32 (i 0).val)).toNat, (colOf (BitVec.ofNat 32 (i 0).val)).toNat, 0] = _
  rw [h.1, h.2]

theorem transform_9 (i : grid0.Coords) : cc0_transform_9 i = ![(i 0).val / 14, (i 0).val % 14, 0] := transform_0 i

variable (m : (ℓ : Loc nD τ sig) → Buf (Elt Ideal) ℓ) (hO : Ok m)

theorem iblk_0 (c : Dev nD) (t : Fin (cfgM m hO).N) (a b : Fin 16) (ch : Fin 96) :
    (iblk m hO c 0 t : Vec Ideal S16x16x96 .bf16) (ix3 a b ch)
      = m (c.tc.loc main_arg1) (ix3 ⟨t.val / 14 * 16 + a, by have : t.val < 196 := t.isLt; omega⟩ ⟨t.val % 14 * 16 + b, by omega⟩ ch) := by
  show m (c.tc.loc main_arg1) ((((cfgM m hO).win 0).rect t).emb (ix3 a b ch)) = _
  refine congrArg _ (funext fun x => Fin.ext ?_)
  refine (Pipeline.Window.rect_emb_val_off ((cfgM m hO).win 0) t _ x).trans ?_
  show cc0_transform_0 (grid0.coords t) x * S16x16x96.size x + (ix3 a b ch x).val = _
  rw [transform_0, coords_val]
  fin_cases x
  · rfl
  · rfl
  · show 0 * 96 + ch.val = ch.val; omega

/-- A block that a word names, read at an index. -/
theorem pixel_eq (w : BitVec 32) (hw : w.toNat < 196) (a b : Fin 16) (ch : Fin 96) (k : Fin 3) :
    (![(rowOf w).toNat, (colOf w).toNat, 0] : Fin 3 → ℕ) k * S16x16x96.size k + (ix3 a b ch k).val
      = (pixel w ⟨a * 16 + b, by omega⟩ ch k).val := by
  have hr := rowOf_toNat w hw
  have hc := colOf_toNat w hw
  fin_cases k
  · show (rowOf w).toNat * 16 + a.val = (w.toNat / 14 * 16 + (a * 16 + b) / 16) % 224; omega
  · show (colOf w).toNat * 16 + b.val = (w.toNat % 14 * 16 + (a * 16 + b) % 16) % 224; omega
  · show 0 * 96 + ch.val = ch.val; omega

variable (hw : ∀ i j, (word (tbl m) i j).toNat < 196)
include hw

theorem iblk_1 (c : Dev nD) (t : Fin (cfgM m hO).N) (a b : Fin 16) (ch : Fin 96) :
    (iblk m hO c 1 t : Vec Ideal S16x16x96 .bf16) (ix3 a b ch)
      = m (c.tc.loc main_arg2) (pixel (word (tbl m) (grid0.coords t) 0) ⟨a * 16 + b, by omega⟩ ch) := by
  show m (c.tc.loc main_arg2) ((((cfgM m hO).win 1).rect t).emb (ix3 a b ch)) = _
  refine congrArg _ (funext fun x => Fin.ext ?_)
  refine (Pipeline.Window.rect_emb_val_off ((cfgM m hO).win 1) t _ x).trans ?_
  show cc0_transform_1 k0_off1_inb numel1_S1x1 (tbl m) (grid0.coords t) x * S16x16x96.size x + (ix3 a b ch x).val = _
  rw [transform_1]
  exact pixel_eq _ (hw _ _) a b ch x

theorem iblk_2 (c : Dev nD) (t : Fin (cfgM m hO).N) (a b : Fin 16) (ch : Fin 96) :
    (iblk m hO c 2 t : Vec Ideal S16x16x96 .bf16) (ix3 a b ch)
      = m (c.tc.loc main_arg2) (pixel (word (tbl m) (grid0.coords t) 1) ⟨a * 16 + b, by omega⟩ ch) := by
  show m (c.tc.loc main_arg2) ((((cfgM m hO).win 2).rect t).emb (ix3 a b ch)) = _
  refine congrArg _ (funext fun x => Fin.ext ?_)
  refine (Pipeline.Window.rect_emb_val_off ((cfgM m hO).win 2) t _ x).trans ?_
  show cc0_transform_2 k0_off2_inb numel1_S1x1 (tbl m) (grid0.coords t) x * S16x16x96.size x + (ix3 a b ch x).val = _
  rw [transform_2]
  exact pixel_eq _ (hw _ _) a b ch x

theorem iblk_3 (c : Dev nD) (t : Fin (cfgM m hO).N) (a b : Fin 16) (ch : Fin 96) :
    (iblk m hO c 3 t : Vec Ideal S16x16x96 .bf16) (ix3 a b ch)
      = m (c.tc.loc main_arg2) (pixel (word (tbl m) (grid0.coords t) 2) ⟨a * 16 + b, by omega⟩ ch) := by
  show m (c.tc.loc main_arg2) ((((cfgM m hO).win 3).rect t).emb (ix3 a b ch)) = _
  refine congrArg _ (funext fun x => Fin.ext ?_)
  refine (Pipeline.Window.rect_emb_val_off ((cfgM m hO).win 3) t _ x).trans ?_
  show cc0_transform_3 k0_off3_inb numel1_S1x1 (tbl m) (grid0.coords t) x * S16x16x96.size x + (ix3 a b ch x).val = _
  rw [transform_3]
  exact pixel_eq _ (hw _ _) a b ch x

theorem iblk_4 (c : Dev nD) (t : Fin (cfgM m hO).N) (a b : Fin 16) (ch : Fin 96) :
    (iblk m hO c 4 t : Vec Ideal S16x16x96 .bf16) (ix3 a b ch)
      = m (c.tc.loc main_arg2) (pixel (word (tbl m) (grid0.coords t) 3) ⟨a * 16 + b, by omega⟩ ch) := by
  show m (c.tc.loc main_arg2) ((((cfgM m hO).win 4).rect t).emb (ix3 a b ch)) = _
  refine congrArg _ (funext fun x => Fin.ext ?_)
  refine (Pipeline.Window.rect_emb_val_off ((cfgM m hO).win 4) t _ x).trans ?_
  show cc0_transform_4 k0_off4_inb numel1_S1x1 (tbl m) (grid0.coords t) x * S16x16x96.size x + (ix3 a b ch x).val = _
  rw [transform_4]
  exact pixel_eq _ (hw _ _) a b ch x

theorem iblk_5 (c : Dev nD) (t : Fin (cfgM m hO).N) (a b : Fin 16) (ch : Fin 96) :
    (iblk m hO c 5 t : Vec Ideal S16x16x96 .bf16) (ix3 a b ch)
      = m (c.tc.loc main_arg3) (pixel (word (tbl m) (grid0.coords t) 0) ⟨a * 16 + b, by omega⟩ ch) := by
  show m (c.tc.loc main_arg3) ((((cfgM m hO).win 5).rect t).emb (ix3 a b ch)) = _
  refine congrArg _ (funext fun x => Fin.ext ?_)
  refine (Pipeline.Window.rect_emb_val_off ((cfgM m hO).win 5) t _ x).trans ?_
  show cc0_transform_5 k0_off1_inb numel1_S1x1 (tbl m) (grid0.coords t) x * S16x16x96.size x + (ix3 a b ch x).val = _
  rw [transform_5]
  exact pixel_eq _ (hw _ _) a b ch x

theorem iblk_6 (c : Dev nD) (t : Fin (cfgM m hO).N) (a b : Fin 16) (ch : Fin 96) :
    (iblk m hO c 6 t : Vec Ideal S16x16x96 .bf16) (ix3 a b ch)
      = m (c.tc.loc main_arg3) (pixel (word (tbl m) (grid0.coords t) 1) ⟨a * 16 + b, by omega⟩ ch) := by
  show m (c.tc.loc main_arg3) ((((cfgM m hO).win 6).rect t).emb (ix3 a b ch)) = _
  refine congrArg _ (funext fun x => Fin.ext ?_)
  refine (Pipeline.Window.rect_emb_val_off ((cfgM m hO).win 6) t _ x).trans ?_
  show cc0_transform_6 k0_off2_inb numel1_S1x1 (tbl m) (grid0.coords t) x * S16x16x96.size x + (ix3 a b ch x).val = _
  rw [transform_6]
  exact pixel_eq _ (hw _ _) a b ch x

theorem iblk_7 (c : Dev nD) (t : Fin (cfgM m hO).N) (a b : Fin 16) (ch : Fin 96) :
    (iblk m hO c 7 t : Vec Ideal S16x16x96 .bf16) (ix3 a b ch)
      = m (c.tc.loc main_arg3) (pixel (word (tbl m) (grid0.coords t) 2) ⟨a * 16 + b, by omega⟩ ch) := by
  show m (c.tc.loc main_arg3) ((((cfgM m hO).win 7).rect t).emb (ix3 a b ch)) = _
  refine congrArg _ (funext fun x => Fin.ext ?_)
  refine (Pipeline.Window.rect_emb_val_off ((cfgM m hO).win 7) t _ x).trans ?_
  show cc0_transform_7 k0_off3_inb numel1_S1x1 (tbl m) (grid0.coords t) x * S16x16x96.size x + (ix3 a b ch x).val = _
  rw [transform_7]
  exact pixel_eq _ (hw _ _) a b ch x

theorem iblk_8 (c : Dev nD) (t : Fin (cfgM m hO).N) (a b : Fin 16) (ch : Fin 96) :
    (iblk m hO c 8 t : Vec Ideal S16x16x96 .bf16) (ix3 a b ch)
      = m (c.tc.loc main_arg3) (pixel (word (tbl m) (grid0.coords t) 3) ⟨a * 16 + b, by omega⟩ ch) := by
  show m (c.tc.loc main_arg3) ((((cfgM m hO).win 8).rect t).emb (ix3 a b ch)) = _
  refine congrArg _ (funext fun x => Fin.ext ?_)
  refine (Pipeline.Window.rect_emb_val_off ((cfgM m hO).win 8) t _ x).trans ?_
  show cc0_transform_8 k0_off4_inb numel1_S1x1 (tbl m) (grid0.coords t) x * S16x16x96.size x + (ix3 a b ch x).val = _
  rw [transform_8]
  exact pixel_eq _ (hw _ _) a b ch x

/-- The body's block at a point, of the launch arrays. -/
theorem outsAt0_apply (c : Dev nD) (t : Fin (cfgM m hO).N) (a b : Fin 16) (ch : Fin 96) :
    (outsAt0 m hO c t) (ix3 a b ch)
      = attention (tbl m 0) (m (c.tc.loc main_arg1)) (m (c.tc.loc main_arg2)) (m (c.tc.loc main_arg3))
          (ix3 ⟨t.val / 14 * 16 + a, by have : t.val < 196 := t.isLt; omega⟩ ⟨t.val % 14 * 16 + b, by omega⟩ ch) := by
  have ht : t.val < 196 := t.isLt
  refine (congrFun (out_eq c (grid0.coords t) _ (hs0_0 m hO t) _ (hs0_1 m hO t) _ (hs0_2 m hO t) _ (hs0_3 m hO t) _ (hs0_4 m hO t) _ (hs0_5 m hO t)
    _ (hs0_6 m hO t) _ (hs0_7 m hO t) _ (hs0_8 m hO t) _ (hs0_9 m hO t) (iblk m hO c 0 t) (iblk m hO c 1 t) (iblk m hO c 2 t) (iblk m hO c 3 t)
    (iblk m hO c 4 t) (iblk m hO c 5 t) (iblk m hO c 6 t) (iblk m hO c 7 t) (iblk m hO c 8 t) (tbl m 0)) (ix3 a b ch)).trans ?_
  obtain ⟨h, d, rfl⟩ : ∃ (h : Fin 8) (d : Fin 12), ch = ⟨12 * h + d, by omega⟩ :=
    ⟨⟨ch / 12, by omega⟩, ⟨ch % 12, by omega⟩, Fin.ext (by dsimp only; omega)⟩
  refine (blockOf_apply _ _ _ _ _ _ _ _ _ a b h d).trans ?_
  have hc (e : Fin 12) : (⟨12 * h + e, by omega⟩ : Fin 96) = channel ⟨12 * h + d, by omega⟩ e := Fin.ext (by
    show 12 * h.val + e.val = 12 * ((12 * h.val + d.val) / 12) + e.val; omega)
  have hd : d = ⟨(12 * h.val + d.val) % 12, Nat.mod_lt _ (by decide)⟩ := Fin.ext (by dsimp only; omega)
  have hwin : windowOf ⟨t.val / 14 * 16 + a, by omega⟩ ⟨t.val % 14 * 16 + b, by omega⟩ = grid0.coords t 0 := Fin.ext (by
    rw [coords_val]; show (t.val / 14 * 16 + a.val) / 16 * 14 + (t.val % 14 * 16 + b.val) / 16 = t.val; omega)
  have hm (k : Fin 256) : (⟨(⟨k / 16, by omega⟩ : Fin 16) * 16 + (⟨k % 16, by omega⟩ : Fin 16), by dsimp only; omega⟩ : Fin 256) = k :=
    Fin.ext (by dsimp only; omega)
  have key (j : Fin 4) (k : Fin 256) (e : Fin 12) :
      pixel (word (tbl m) (grid0.coords t) j) ⟨(⟨k / 16, by omega⟩ : Fin 16) * 16 + (⟨k % 16, by omega⟩ : Fin 16), by dsimp only; omega⟩ ⟨12 * h + e, by omega⟩
        = pixel (tbl m 0 (ix2 (windowOf ⟨t.val / 14 * 16 + a, by omega⟩ ⟨t.val % 14 * 16 + b, by omega⟩) j)) k (channel ⟨12 * h + d, by omega⟩ e) := by
    rw [hm k, hc e, hwin]
  unfold attention
  congr 1
  · funext e
    refine (iblk_0 m hO c t a b _).trans ?_
    rw [hc e]; rfl
  · funext j k e
    fin_cases j
    · exact (iblk_1 m hO hw c t _ _ _).trans (congrArg (m (c.tc.loc main_arg2)) (key 0 k e))
    · exact (iblk_2 m hO hw c t _ _ _).trans (congrArg (m (c.tc.loc main_arg2)) (key 1 k e))
    · exact (iblk_3 m hO hw c t _ _ _).trans (congrArg (m (c.tc.loc main_arg2)) (key 2 k e))
    · exact (iblk_4 m hO hw c t _ _ _).trans (congrArg (m (c.tc.loc main_arg2)) (key 3 k e))
  · funext j k e
    fin_cases j
    · exact (iblk_5 m hO hw c t _ _ _).trans (congrArg (m (c.tc.loc main_arg3)) (key 0 k e))
    · exact (iblk_6 m hO hw c t _ _ _).trans (congrArg (m (c.tc.loc main_arg3)) (key 1 k e))
    · exact (iblk_7 m hO hw c t _ _ _).trans (congrArg (m (c.tc.loc main_arg3)) (key 2 k e))
    · exact (iblk_8 m hO hw c t _ _ _).trans (congrArg (m (c.tc.loc main_arg3)) (key 3 k e))

/-- The result array of the launch arrays. -/
def result (c : Dev nD) : S224x224x96.Idx → EReal :=
  attention (tbl m 0) (m (c.tc.loc main_arg1)) (m (c.tc.loc main_arg2)) (m (c.tc.loc main_arg3))

omit hw in
theorem read_blk (G : S224x224x96.Idx → EReal) (t : Fin (cfgM m hO).N) (a b : Fin 16) (ch : Fin 96) :
    ((((cfgM m hO).win 9).blk t).view.read (Elt Ideal) G : Vec Ideal S16x16x96 .f32) (ix3 a b ch)
      = G (ix3 ⟨t.val / 14 * 16 + a, by have : t.val < 196 := t.isLt; omega⟩ ⟨t.val % 14 * 16 + b, by omega⟩ ch) := by
  show G ((((cfgM m hO).win 9).rect t).emb (ix3 a b ch)) = _
  refine congrArg _ (funext fun x => Fin.ext ?_)
  refine (Pipeline.Window.rect_emb_val_off ((cfgM m hO).win 9) t _ x).trans ?_
  show cc0_transform_9 (grid0.coords t) x * S16x16x96.size x + (ix3 a b ch x).val = _
  rw [transform_9, coords_val]
  fin_cases x
  · rfl
  · rfl
  · show 0 * 96 + ch.val = ch.val; omega

omit hw in
theorem flushed_outs (c : Dev nD) (t : Fin (cfgM m hO).N) : (dats m hO 0 c).flushed 9 t = outsAt0 m hO c t :=
  after0_9 m hO c t

theorem outs_read (c : Dev nD) (t : Fin (cfgM m hO).N) (y : S16x16x96.Idx) :
    outsAt0 m hO c t y = ((((cfgM m hO).win 9).blk t).view.read (Elt Ideal) (result m c) : Vec Ideal S16x16x96 .f32) y := by
  obtain ⟨a, b, ch, rfl⟩ : ∃ (a b : Fin 16) (ch : Fin 96), y = ix3 a b ch := ⟨y 0, y 1, y 2, by funext k; fin_cases k <;> rfl⟩
  exact (outsAt0_apply m hO hw c t a b ch).trans (read_blk m hO (result m c) t a b ch).symm

/-- What a point writes back is the result array's block. -/
theorem flushed_eq (c : Dev nD) (t : Fin (cfgM m hO).N) :
    (dats m hO 0 c).flushed 9 t = (((cfgM m hO).win 9).blk t).view.read (Elt Ideal) (result m c) := by
  refine (flushed_outs m hO c t).trans ?_
  exact funext (outs_read m hO hw c t)

omit hw in
theorem mem_blk (t : Fin (cfgM m hO).N) (i : S224x224x96.Idx) :
    i ∈ (((cfgM m hO).win 9).blk t).view.set
      ↔ ∀ a : Fin 3, cc0_transform_9 (grid0.coords t) a * S16x16x96.size a ≤ i a ∧ (i a).val < cc0_transform_9 (grid0.coords t) a * S16x16x96.size a + S16x16x96.size a := by
  refine (Iff.of_eq (congrArg (i ∈ ·) (View.set_slice_whole main_v0 (((cfgM m hO).win 9).rect t)))).trans ?_
  exact Rect.mem_set_unit

omit hw in
/-- Every pixel lies in some point's block. -/
theorem cover (i : S224x224x96.Idx) :
    ∃ t : Fin (cfgM m hO).N, ((cfgM m hO).win 9).flush t = true ∧ i ∈ (((cfgM m hO).win 9).blk t).view.set := by
  have h0 : (i 0).val < 224 := (i 0).isLt
  have h1 : (i 1).val < 224 := (i 1).isLt
  have h2 : (i 2).val < 96 := (i 2).isLt
  have hN : (i 0).val / 16 * 14 + (i 1).val / 16 < grid0.N := by rw [N_0]; omega
  refine ⟨⟨(i 0).val / 16 * 14 + (i 1).val / 16, hN⟩, flush0_9 _ _, (mem_blk m hO _ i).2 ?_⟩
  rw [transform_9, coords_val]
  intro a
  fin_cases a
  · show ((i 0).val / 16 * 14 + (i 1).val / 16) / 14 * 16 ≤ (i 0).val ∧ (i 0).val < ((i 0).val / 16 * 14 + (i 1).val / 16) / 14 * 16 + 16; omega
  · show ((i 0).val / 16 * 14 + (i 1).val / 16) % 14 * 16 ≤ (i 1).val ∧ (i 1).val < ((i 0).val / 16 * 14 + (i 1).val / 16) % 14 * 16 + 16; omega
  · show 0 * 96 ≤ (i 2).val ∧ (i 2).val < 0 * 96 + 96; omega

/-- The result array at the end of the run. -/
theorem arrAt_eq (c : Dev nD) : (dats m hO 0 c).arrAt 9 (cfgM m hO).N = result m c :=
  Pipeline.Dat.arrAt_eq_of_cover (dats m hO 0 c) 9 (result m c) (fun t _ => flushed_eq m hO hw c t) (cover m hO)

end Cert.Attention

end
-- ==== Proof.Reference.lean ====
/- The reference's result at an index, over the extended reals: the same attention as the kernel's, the quotient taken weight by weight. -/
module

public import proofs.«01_k».proof.Proof.Array
public import proofs.«01_k».proof.Proof.Gen.AttnReferenceIdeal.Read
public import Idealize.ShloMosaic.Lib.Pointwise

@[expose] public section

noncomputable section

namespace Cert.Attention.Reference

open Cert.AttnReferenceIdeal Cert.AttnReferenceIdeal.Gen Cert.AttnReferenceIdeal.Read
open Idealize.ShloMosaic

/-! ## The gather of windows by the table -/

/-- The dimension numbers of the gather of whole windows. -/
abbrev dims := gather_S8x196x256x12_S8x196x4x1_S8x196x4x256x12_34_1_0_0_1_3_1125612

theorem siIdx_eq (h : Fin 8) (r : Fin 196) (j : Fin 4) (p : Fin 256) (d : Fin 12) (c : Fin dims.startIndexMap.length) :
    dims.siIdx (ix5 h r j p d) c = ix4 h r j 0 := by
  funext a
  fin_cases a
  · rfl
  · rfl
  · rfl
  · exact Fin.ext (Nat.lt_one_iff.1 c.isLt)

/-- A word in range names the window the gather reads. -/
theorem gather_apply (x : FVec Ideal S8x196x256x12 .f32) (idx : IVec S8x196x4x1 32) (h : Fin 8) (r : Fin 196) (j : Fin 4) (p : Fin 256) (d : Fin 12)
    (hw : (idx (ix4 h r j 0)).toNat < 196) :
    Host.gather dims x idx (ix5 h r j p d) = x (ix4 h ⟨(idx (ix4 h r j 0)).toNat, hw⟩ p d) := by
  refine congrArg x (funext fun a => Fin.ext ?_)
  fin_cases a
  · show dims.start _ idx 0 + dims.batchCoord (ix5 h r j p d) 0 + dims.offCoord _ 0 = h.val
    rw [dims.offCoord_eq_zero _ _ (by decide), GatherDims.start, dif_neg (by decide)]
    exact (Nat.zero_add _).trans rfl
  · show dims.start (ix5 h r j p d) idx 1 + dims.batchCoord _ 1 + dims.offCoord _ 1 = (idx (ix4 h r j 0)).toNat
    rw [dims.offCoord_eq_zero _ _ (by decide), dims.batchCoord_eq_zero _ _ (by decide), GatherDims.start, dif_pos (by decide), siIdx_eq]
    show min (idx (ix4 h r j 0)).toInt.toNat 195 = _
    rw [BitVec.toInt_eq_toNat_of_lt (by omega)]
    simp; omega
  · show dims.start _ idx 2 + dims.batchCoord _ 2 + dims.offCoord (ix5 h r j p d) 2 = p.val
    rw [dims.batchCoord_eq_zero _ _ (by decide), GatherDims.start, dif_neg (by decide)]
    exact (Nat.zero_add _).trans rfl
  · show dims.start _ idx 3 + dims.batchCoord _ 3 + dims.offCoord (ix5 h r j p d) 3 = d.val
    rw [dims.batchCoord_eq_zero _ _ (by decide), GatherDims.start, dif_neg (by decide)]
    exact (Nat.zero_add _).trans rfl

/-- A word in range is not negative, so it is not wrapped. -/
theorem wrap_eq (w : BitVec 32) (hw : w.toNat < 196) :
    Scalar.select (IntOp.cmpi .slt w 0#32) (IntOp.addi w 196#32) w = w := by
  have h : IntOp.cmpi .slt w 0#32 = 0#1 := by
    have : w.slt 0#32 = false := by
      rw [Bool.eq_false_iff, ne_eq, BitVec.slt_iff_toInt_lt, BitVec.toInt_eq_toNat_of_lt (by omega)]
      simp
    simp [IntOp.cmpi, this]
  rw [h]; rfl

section

variable (x0 : IVec S196x4 32) (x1 x2 x3 : FVec Ideal S224x224x96 .bf16)

theorem start_k_apply (h : Fin 8) (r : Fin 196) (j : Fin 4) (hw : (x0 (ix2 r j)).toNat < 196) :
    val_main_v19 (F := Ideal) x0 (ix4 h r j 0) = x0 (ix2 r j) := by
  pointwise [val_main_v19, val_main_v18, val_main_v17, val_main_v16, val_main_v15, val_main_v14, val_main_v13, val_main_v12, val_main_c, val_main_c_0]
  exact wrap_eq _ hw

theorem start_v_apply (h : Fin 8) (r : Fin 196) (j : Fin 4) (hw : (x0 (ix2 r j)).toNat < 196) :
    val_main_v27 (F := Ideal) x0 (ix4 h r j 0) = x0 (ix2 r j) := by
  pointwise [val_main_v27, val_main_v26, val_main_v25, val_main_v24, val_main_v23, val_main_v22, val_main_v13, val_main_v12, val_main_c_1, val_main_c_2]
  exact wrap_eq _ hw

/-! ## The arrays cut into windows -/

theorem windows_q_apply (h : Fin 8) (r : Fin 196) (p : Fin 256) (d : Fin 12) :
    val_main_v3 (F := Ideal) x1 (ix4 h r p d)
      = x1 (ix3 ⟨r/14*16+p/16, by omega⟩ ⟨r%14*16+p%16, by omega⟩ ⟨h*12+d, by omega⟩) := by
  pointwise [val_main_v3, val_main_v2, val_main_v1, val_main_v0]

theorem windows_k_apply (h : Fin 8) (r : Fin 196) (p : Fin 256) (d : Fin 12) :
    val_main_v7 (F := Ideal) x2 (ix4 h r p d)
      = x2 (ix3 ⟨r/14*16+p/16, by omega⟩ ⟨r%14*16+p%16, by omega⟩ ⟨h*12+d, by omega⟩) := by
  pointwise [val_main_v7, val_main_v6, val_main_v5, val_main_v4]

theorem windows_v_apply (h : Fin 8) (r : Fin 196) (p : Fin 256) (d : Fin 12) :
    val_main_v11 (F := Ideal) x3 (ix4 h r p d)
      = x3 (ix3 ⟨r/14*16+p/16, by omega⟩ ⟨r%14*16+p%16, by omega⟩ ⟨h*12+d, by omega⟩) := by
  pointwise [val_main_v11, val_main_v10, val_main_v9, val_main_v8]

theorem gathered_k_apply (h : Fin 8) (r : Fin 196) (l : Fin 1024) (d : Fin 12) :
    val_main_v21 (F := Ideal) x0 x2 (ix4 h r l d) = val_main_v20 (F := Ideal) x0 x2 (ix5 h r ⟨l/256, by omega⟩ ⟨l%256, by omega⟩ d) := by
  pointwise [val_main_v21]

theorem gathered_v_apply (h : Fin 8) (r : Fin 196) (l : Fin 1024) (d : Fin 12) :
    val_main_v29 (F := Ideal) x0 x3 (ix4 h r l d) = val_main_v28 (F := Ideal) x0 x3 (ix5 h r ⟨l/256, by omega⟩ ⟨l%256, by omega⟩ d) := by
  pointwise [val_main_v29]

/-- The number of a key among the 1024 gathered: 256 times its window's place, plus its place in the window. -/
def place : Fin 4 × Fin 256 ≃ Fin 1024 := finProdFinEquiv (m := 4) (n := 256)

theorem place_val (j : Fin 4) (m : Fin 256) : (place (j, m)).val = m.val + 256 * j.val := rfl

theorem place_div (j : Fin 4) (m : Fin 256) : (⟨(place (j, m)).val / 256, by omega⟩ : Fin 4) = j :=
  Fin.ext (by show (place (j, m)).val / 256 = j.val; rw [place_val]; omega)

theorem place_mod (j : Fin 4) (m : Fin 256) : (⟨(place (j, m)).val % 256, by omega⟩ : Fin 256) = m :=
  Fin.ext (by show (place (j, m)).val % 256 = m.val; rw [place_val]; omega)

theorem pixel_eq (w : BitVec 32) (hw : w.toNat < 196) (m : Fin 256) (h : Fin 8) (d : Fin 12) (c c' : Fin 96) (hc : h.val = c.val / 12)
    (hc' : c' = channel c d) :
    (ix3 ⟨w.toNat/14*16+m/16, by omega⟩ ⟨w.toNat%14*16+m%16, by omega⟩ ⟨h*12+d, by omega⟩ : S224x224x96.Idx) = pixel w m c' := by
  subst hc'
  unfold pixel channel
  funext a
  fin_cases a
  · refine Fin.ext ?_
    show w.toNat/14*16+m/16 = (w.toNat/14*16+m/16) % 224
    omega
  · refine Fin.ext ?_
    show w.toNat%14*16+m%16 = (w.toNat%14*16+m%16) % 224
    omega
  · refine Fin.ext ?_
    show h.val * 12 + d = 12 * (c.val / 12) + d
    omega

theorem key_apply (h : Fin 8) (r : Fin 196) (j : Fin 4) (m : Fin 256) (d : Fin 12) (c : Fin 96) (hc : h.val = c.val / 12)
    (hw : (x0 (ix2 r j)).toNat < 196) :
    val_main_v21 (F := Ideal) x0 x2 (ix4 h r (place (j, m)) d) = x2 (pixel (x0 (ix2 r j)) m (channel c d)) := by
  have e := start_k_apply x0 h r j hw
  rw [gathered_k_apply, place_div, place_mod]
  refine (gather_apply (val_main_v7 (F := Ideal) x2) (val_main_v19 (F := Ideal) x0) h r j m d (by rw [e]; exact hw)).trans ?_
  rw [windows_k_apply]
  refine congrArg x2 (Eq.trans ?_ (pixel_eq (x0 (ix2 r j)) hw m h d c _ hc rfl))
  simp only [e]

theorem value_apply (h : Fin 8) (r : Fin 196) (j : Fin 4) (m : Fin 256) (d : Fin 12) (c : Fin 96) (hc : h.val = c.val / 12)
    (hw : (x0 (ix2 r j)).toNat < 196) :
    val_main_v29 (F := Ideal) x0 x3 (ix4 h r (place (j, m)) d) = x3 (pixel (x0 (ix2 r j)) m (channel c d)) := by
  have e := start_v_apply x0 h r j hw
  rw [gathered_v_apply, place_div, place_mod]
  refine (gather_apply (val_main_v11 (F := Ideal) x3) (val_main_v27 (F := Ideal) x0) h r j m d (by rw [e]; exact hw)).trans ?_
  rw [windows_v_apply]
  refine congrArg x3 (Eq.trans ?_ (pixel_eq (x0 (ix2 r j)) hw m h d c _ hc rfl))
  simp only [e]

/-! ## Scores, weights and the quotient -/

theorem scores_apply (h : Fin 8) (r : Fin 196) (p : Fin 256) (l : Fin 1024) :
    val_main_v30 (F := Ideal) x0 x1 x2 (ix4 h r p l)
      = ∑ d : Fin 12, val_main_v3 (F := Ideal) x1 (ix4 h r p d) * val_main_v21 (F := Ideal) x0 x2 (ix4 h r l d) := by
  pointwise [val_main_v30]

/-- The greatest entry of each line along the last axis. -/
theorem greatest_apply (s : FVec Ideal S8x196x256x1024 .f32) (h : Fin 8) (r : Fin 196) (p : Fin 256) :
    Host.reduce FloatOps.maximumf s (val_main_cst (F := Ideal)) reducesTo_S8x196x256x1024_S8x196x256_d3 h_S_ (ix3 h r p)
      = Finset.univ.sup fun l => s (ix4 h r p l) := by
  rw [Host.reduce_eq_fold_single FloatOps.maximumf s _ reducesTo_S8x196x256x1024_S8x196x256_d3 (by decide) h_S_]
  show Finset.fold max (Ideal.ofBits .f32 0xFF800000#32) _ _ = _
  rw [show Ideal.ofBits .f32 0xFF800000#32 = (⊥ : EReal) by simp [Ideal.ofBits, Ideal.ieee]]
  refine congrArg (fun f => Finset.fold max (⊥ : EReal) f (Finset.univ : Finset (Fin 1024))) (funext fun l => congrArg s ?_)
  funext a
  fin_cases a <;> rfl

theorem maximum_apply (h : Fin 8) (r : Fin 196) (p : Fin 256) :
    val_main_v33 (F := Ideal) x0 x1 x2 (ix3 h r p) = Finset.univ.sup fun l => val_main_v30 (F := Ideal) x0 x1 x2 (ix4 h r p l) := by
  rw [val_main_v33_apply, val_main_v32_apply, val_main_cst_3_apply, val_main_v31, greatest_apply]
  show max (Ideal.ofBits .f32 0xFF800000#32) _ = _
  rw [show Ideal.ofBits .f32 0xFF800000#32 = (⊥ : EReal) by simp [Ideal.ofBits, Ideal.ieee]]
  exact max_eq_right bot_le

theorem weights_apply (h : Fin 8) (r : Fin 196) (p : Fin 256) (l : Fin 1024) :
    val_main_v37 (F := Ideal) x0 x1 x2 (ix4 h r p l)
      = Ideal.exp (val_main_v30 (F := Ideal) x0 x1 x2 (ix4 h r p l) - val_main_v33 (F := Ideal) x0 x1 x2 (ix3 h r p)) := by
  pointwise [val_main_v37, val_main_v36, val_main_v35, val_main_v34]

theorem total_apply (h : Fin 8) (r : Fin 196) (p : Fin 256) :
    val_main_v38 (F := Ideal) x0 x1 x2 (ix3 h r p) = ∑ l : Fin 1024, val_main_v37 (F := Ideal) x0 x1 x2 (ix4 h r p l) := by
  pointwise [val_main_v38]
  rw [val_main_cst_4_apply]
  show Ideal.ofBits .f32 0x00000000#32 + _ = _
  rw [show Ideal.ofBits .f32 0x00000000#32 = (0 : EReal) by simp [Ideal.ofBits, Ideal.ieee], zero_add]

theorem normalised_apply (h : Fin 8) (r : Fin 196) (p : Fin 256) (l : Fin 1024) :
    val_main_v41 (F := Ideal) x0 x1 x2 (ix4 h r p l)
      = Ideal.div (val_main_v37 (F := Ideal) x0 x1 x2 (ix4 h r p l)) (val_main_v38 (F := Ideal) x0 x1 x2 (ix3 h r p)) := by
  pointwise [val_main_v41, val_main_v40, val_main_v39]

theorem weighted_apply (h : Fin 8) (r : Fin 196) (p : Fin 256) (d : Fin 12) :
    val_main_v42 (F := Ideal) x0 x1 x2 x3 (ix4 h r p d)
      = ∑ l : Fin 1024, val_main_v41 (F := Ideal) x0 x1 x2 (ix4 h r p l) * val_main_v29 (F := Ideal) x0 x3 (ix4 h r l d) := by
  pointwise [val_main_v42]

/-- The windows laid back into the image. -/
theorem image_apply (y x : Fin 224) (c : Fin 96) :
    val_main_v45 (F := Ideal) x0 x1 x2 x3 (ix3 y x c)
      = val_main_v42 (F := Ideal) x0 x1 x2 x3 (ix4 ⟨c/12, by omega⟩ ⟨y/16*14+x/16, by omega⟩ ⟨y%16*16+x%16, by omega⟩ ⟨c%12, by omega⟩) := by
  pointwise [val_main_v45, val_main_v44, val_main_v43]

/-! ## The reference is the attention -/

/-- One query's line of 1024 scores, values and weights, in terms of `attend`. -/
theorem line_eq (q : Fin 12 → EReal) (k v : Fin 4 → Fin 256 → Fin 12 → EReal) (d : Fin 12) (s V : Fin 1024 → EReal)
    (hs : ∀ j m, s (place (j, m)) = score q (k j m)) (hV : ∀ j m, V (place (j, m)) = v j m d) (hr : ∀ j m, Softmax.IsReal (score q (k j m))) :
    ∑ l, Ideal.div (Ideal.exp (s l - Finset.univ.sup s)) (∑ l, Ideal.exp (s l - Finset.univ.sup s)) * V l = attend q k v d := by
  have hsup : Finset.univ.sup s = Finset.univ.sup fun i : Fin 4 × Fin 256 => score q (k i.1 i.2) := by
    rw [Finset.sup_univ_eq_iSup, Finset.sup_univ_eq_iSup, ← place.iSup_comp]
    exact iSup_congr fun i => hs i.1 i.2
  unfold attend
  rw [Softmax.quotient_eq (fun i : Fin 4 × Fin 256 => score q (k i.1 i.2)) (fun i => v i.1 i.2 d) (fun i => hr i.1 i.2), hsup,
    ← place.sum_comp, ← place.sum_comp]
  have hs' (i : Fin 4 × Fin 256) : s (place i) = score q (k i.1 i.2) := hs i.1 i.2
  have hV' (i : Fin 4 × Fin 256) : V (place i) = v i.1 i.2 d := hV i.1 i.2
  simp only [hs', hV']

/-- The reference's result, where the table is in range and the queries and keys are real. -/
theorem result_eq (hw : ∀ j, (x0 j).toNat < 196) (h1 : ∀ j, Softmax.IsReal (x1 j)) (h2 : ∀ j, Softmax.IsReal (x2 j)) :
    val_main_v45 (F := Ideal) x0 x1 x2 x3 = attention x0 x1 x2 x3 := by
  funext i
  obtain ⟨y, x, c, rfl⟩ : ∃ (y x : Fin 224) (c : Fin 96), i = ix3 y x c := ⟨i 0, i 1, i 2, by funext k; fin_cases k <;> rfl⟩
  rw [image_apply, weighted_apply]
  simp only [normalised_apply, total_apply, weights_apply, maximum_apply]
  refine (line_eq (fun d => x1 (ix3 y x (channel c d))) (fun j m d => x2 (pixel (x0 (ix2 (windowOf y x) j)) m (channel c d)))
    (fun j m d => x3 (pixel (x0 (ix2 (windowOf y x) j)) m (channel c d))) ⟨c % 12, by omega⟩ _ _ (fun j m => ?_) (fun j m => ?_) (fun j m => ?_)).trans rfl
  · rw [scores_apply]
    refine Finset.sum_congr rfl fun d _ => ?_
    rw [mul_comm, key_apply x0 x2 _ _ j m d c rfl (hw _), windows_q_apply]
    refine congrArg (fun i => x2 (pixel (x0 (ix2 (windowOf y x) j)) m (channel c d)) * x1 i) ?_
    funext a
    fin_cases a
    · refine Fin.ext ?_
      show (y.val / 16 * 14 + x.val / 16) / 14 * 16 + (y.val % 16 * 16 + x.val % 16) / 16 = y.val
      omega
    · refine Fin.ext ?_
      show (y.val / 16 * 14 + x.val / 16) % 14 * 16 + (y.val % 16 * 16 + x.val % 16) % 16 = x.val
      omega
    · refine Fin.ext ?_
      show c.val / 12 * 12 + d = 12 * (c.val / 12) + d
      omega
  · exact value_apply x0 x3 _ _ j m _ c rfl (hw _)
  · exact Softmax.IsReal.sum _ fun d => (h2 _).mul (h1 _)

end

end Cert.Attention.Reference

end
-- ==== Proof.AttnCall.lean ====
/- The attention's call inside the whole kernel: its body's run, the
   pipeline's data at any admissible table and any contents of the arrays it is entered with, and the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.Exec
public import Idealize.ShloMosaic.Lib.Pipeline.Kit

@[expose] public section

set_option maxRecDepth 16384

noncomputable section

namespace Cert.Whole.AttnCall

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body stores in its output block, and that it runs to there with its other buffers as they were. -/
def run (c : Dev nD) (i : grid2.Coords) (m0 : Memref sig .tc .vmem S16x16x96 .bf16) (h0 : m0.IsWhole) (m1 : Memref sig .tc .vmem S16x16x96 .bf16) (h1 : m1.IsWhole) (m2 : Memref sig .tc .vmem S16x16x96 .bf16) (h2 : m2.IsWhole) (m3 : Memref sig .tc .vmem S16x16x96 .bf16) (h3 : m3.IsWhole) (m4 : Memref sig .tc .vmem S16x16x96 .bf16) (h4 : m4.IsWhole) (m5 : Memref sig .tc .vmem S16x16x96 .bf16) (h5 : m5.IsWhole) (m6 : Memref sig .tc .vmem S16x16x96 .bf16) (h6 : m6.IsWhole) (m7 : Memref sig .tc .vmem S16x16x96 .bf16) (h7 : m7.IsWhole) (m8 : Memref sig .tc .vmem S16x16x96 .bf16) (h8 : m8.IsWhole) (m9 : Memref sig .tc .vmem S16x16x96 .f32) (h9 : m9.IsWhole)
    (x0 : Vec F S16x16x96 .bf16) (x1 : Vec F S16x16x96 .bf16) (x2 : Vec F S16x16x96 .bf16) (x3 : Vec F S16x16x96 .bf16) (x4 : Vec F S16x16x96 .bf16) (x5 : Vec F S16x16x96 .bf16) (x6 : Vec F S16x16x96 .bf16) (x7 : Vec F S16x16x96 .bf16) (x8 : Vec F S16x16x96 .bf16) :
    { L : List (View.Piece (Elt F) S16x16x96 .f32) //
      ∀ (E : Set ℕ) (K : PUnit → sProp 𝕄),
        iprop(owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7 ∗ owns (c : Thread nD τ) m8 fullShare x8 ∗ (∃ d, owns (c : Thread nD τ) m9 fullShare d)
            ∗ (iprop(owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7 ∗ owns (c : Thread nD τ) m8 fullShare x8 ∗ (∃ f, m9.view.loc (c : Thread nD τ) ↦[m9.view.set]{fullShare} m9.view.writes (Elt F) f L)) -∗ K ⟨⟩))
          ⊢ wp frame (wpE (defs₀ (F := F)) Variants.none c none) E (cc2__attn_kernel i (Memref.whole main_v6) (Memref.isWhole_whole _) m0 h0 m1 h1 m2 h2 m3 h3 m4 h4 m5 h5 m6 h6 m7 h7 m8 h8 m9 h9) K } := by
  refine ⟨?_, fun E K => ?run⟩
  case run =>
    simp only [cc2__attn_kernel_eq_skeleton]; unfold cc2__attn_kernel_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    iexists _; iexact H9

/-- One staging buffer of the output window. -/
abbrev stageOut : View sig .tc .vmem S16x16x96 .f32 := (Memref.whole cc2_stg9_0 : Memref sig .tc .vmem S16x16x96 .f32).view

theorem cover (c : Dev nD) (i : grid2.Coords) (m0 : Memref sig .tc .vmem S16x16x96 .bf16) (h0 : m0.IsWhole) (m1 : Memref sig .tc .vmem S16x16x96 .bf16) (h1 : m1.IsWhole) (m2 : Memref sig .tc .vmem S16x16x96 .bf16) (h2 : m2.IsWhole) (m3 : Memref sig .tc .vmem S16x16x96 .bf16) (h3 : m3.IsWhole) (m4 : Memref sig .tc .vmem S16x16x96 .bf16) (h4 : m4.IsWhole) (m5 : Memref sig .tc .vmem S16x16x96 .bf16) (h5 : m5.IsWhole) (m6 : Memref sig .tc .vmem S16x16x96 .bf16) (h6 : m6.IsWhole) (m7 : Memref sig .tc .vmem S16x16x96 .bf16) (h7 : m7.IsWhole) (m8 : Memref sig .tc .vmem S16x16x96 .bf16) (h8 : m8.IsWhole) (m9 : Memref sig .tc .vmem S16x16x96 .f32) (h9 : m9.IsWhole)
    (x0 : Vec F S16x16x96 .bf16) (x1 : Vec F S16x16x96 .bf16) (x2 : Vec F S16x16x96 .bf16) (x3 : Vec F S16x16x96 .bf16) (x4 : Vec F S16x16x96 .bf16) (x5 : Vec F S16x16x96 .bf16) (x6 : Vec F S16x16x96 .bf16) (x7 : Vec F S16x16x96 .bf16) (x8 : Vec F S16x16x96 .bf16) (y : S16x16x96.Idx) :
    ∃ pc ∈ (run c i m0 h0 m1 h1 m2 h2 m3 h3 m4 h4 m5 h5 m6 h6 m7 h7 m8 h8 m9 h9 x0 x1 x2 x3 x4 x5 x6 x7 x8).1, y ∈ pc.1.set :=
  View.cover_of_tiledL (run c i m0 h0 m1 h1 m2 h2 m3 h3 m4 h4 m5 h5 m6 h6 m7 h7 m8 h8 m9 h9 x0 x1 x2 x3 x4 x5 x6 x7 x8).1 S16x16x96.size (by sl_kernel_rfl) y

/-- What the body leaves in its output block. -/
def left (c : Dev nD) (i : grid2.Coords) (m0 : Memref sig .tc .vmem S16x16x96 .bf16) (h0 : m0.IsWhole) (m1 : Memref sig .tc .vmem S16x16x96 .bf16) (h1 : m1.IsWhole) (m2 : Memref sig .tc .vmem S16x16x96 .bf16) (h2 : m2.IsWhole) (m3 : Memref sig .tc .vmem S16x16x96 .bf16) (h3 : m3.IsWhole) (m4 : Memref sig .tc .vmem S16x16x96 .bf16) (h4 : m4.IsWhole) (m5 : Memref sig .tc .vmem S16x16x96 .bf16) (h5 : m5.IsWhole) (m6 : Memref sig .tc .vmem S16x16x96 .bf16) (h6 : m6.IsWhole) (m7 : Memref sig .tc .vmem S16x16x96 .bf16) (h7 : m7.IsWhole) (m8 : Memref sig .tc .vmem S16x16x96 .bf16) (h8 : m8.IsWhole) (m9 : Memref sig .tc .vmem S16x16x96 .f32) (h9 : m9.IsWhole)
    (x0 : Vec F S16x16x96 .bf16) (x1 : Vec F S16x16x96 .bf16) (x2 : Vec F S16x16x96 .bf16) (x3 : Vec F S16x16x96 .bf16) (x4 : Vec F S16x16x96 .bf16) (x5 : Vec F S16x16x96 .bf16) (x6 : Vec F S16x16x96 .bf16) (x7 : Vec F S16x16x96 .bf16) (x8 : Vec F S16x16x96 .bf16) : Vec F S16x16x96 .f32 :=
  stageOut.read (Elt F) (stageOut.writes (Elt F) stageOut.junk (run c i m0 h0 m1 h1 m2 h2 m3 h3 m4 h4 m5 h5 m6 h6 m7 h7 m8 h8 m9 h9 x0 x1 x2 x3 x4 x5 x6 x7 x8).1)

variable (A : (pcfg2 (F := F)).Adm) (V : (c : Dev nD) → (b : Ref sig .tc) → Buf (Elt F) ((c : Thread nD τ).loc b))

/-- A window's block at a grid point. -/
def block (c : Dev nD) (w : Fin (cfg2 A).W) (t : Fin (cfg2 A).N) : (((cfg2 A).win w).xblock ((cfg2 A).grid.coords t)).Idx → Elt F ((cfg2 A).win w).elt :=
  (((cfg2 A).win w).blk t).view.read (Elt F) (V c (Pipeline.arrRef spec2 w))

abbrev m0 (t : Fin (cfg2 A).N) : Memref sig .tc .vmem S16x16x96 .bf16 := spec2_0.stage ((cfg2 A).slots t 0)
abbrev h0 (t : Fin (cfg2 A).N) : (m0 A t).IsWhole := hstage2_0 (((cfg2 A).slots t 0).cast nbuf2_0)
abbrev m1 (t : Fin (cfg2 A).N) : Memref sig .tc .vmem S16x16x96 .bf16 := spec2_1.stage ((cfg2 A).slots t 1)
abbrev h1 (t : Fin (cfg2 A).N) : (m1 A t).IsWhole := hstage2_1 (((cfg2 A).slots t 1).cast nbuf2_1)
abbrev m2 (t : Fin (cfg2 A).N) : Memref sig .tc .vmem S16x16x96 .bf16 := spec2_2.stage ((cfg2 A).slots t 2)
abbrev h2 (t : Fin (cfg2 A).N) : (m2 A t).IsWhole := hstage2_2 (((cfg2 A).slots t 2).cast nbuf2_2)
abbrev m3 (t : Fin (cfg2 A).N) : Memref sig .tc .vmem S16x16x96 .bf16 := spec2_3.stage ((cfg2 A).slots t 3)
abbrev h3 (t : Fin (cfg2 A).N) : (m3 A t).IsWhole := hstage2_3 (((cfg2 A).slots t 3).cast nbuf2_3)
abbrev m4 (t : Fin (cfg2 A).N) : Memref sig .tc .vmem S16x16x96 .bf16 := spec2_4.stage ((cfg2 A).slots t 4)
abbrev h4 (t : Fin (cfg2 A).N) : (m4 A t).IsWhole := hstage2_4 (((cfg2 A).slots t 4).cast nbuf2_4)
abbrev m5 (t : Fin (cfg2 A).N) : Memref sig .tc .vmem S16x16x96 .bf16 := spec2_5.stage ((cfg2 A).slots t 5)
abbrev h5 (t : Fin (cfg2 A).N) : (m5 A t).IsWhole := hstage2_5 (((cfg2 A).slots t 5).cast nbuf2_5)
abbrev m6 (t : Fin (cfg2 A).N) : Memref sig .tc .vmem S16x16x96 .bf16 := spec2_6.stage ((cfg2 A).slots t 6)
abbrev h6 (t : Fin (cfg2 A).N) : (m6 A t).IsWhole := hstage2_6 (((cfg2 A).slots t 6).cast nbuf2_6)
abbrev m7 (t : Fin (cfg2 A).N) : Memref sig .tc .vmem S16x16x96 .bf16 := spec2_7.stage ((cfg2 A).slots t 7)
abbrev h7 (t : Fin (cfg2 A).N) : (m7 A t).IsWhole := hstage2_7 (((cfg2 A).slots t 7).cast nbuf2_7)
abbrev m8 (t : Fin (cfg2 A).N) : Memref sig .tc .vmem S16x16x96 .bf16 := spec2_8.stage ((cfg2 A).slots t 8)
abbrev h8 (t : Fin (cfg2 A).N) : (m8 A t).IsWhole := hstage2_8 (((cfg2 A).slots t 8).cast nbuf2_8)
abbrev m9 (t : Fin (cfg2 A).N) : Memref sig .tc .vmem S16x16x96 .f32 := spec2_9.stage ((cfg2 A).slots t 9)
abbrev h9 (t : Fin (cfg2 A).N) : (m9 A t).IsWhole := hstage2_9 (((cfg2 A).slots t 9).cast nbuf2_9)

/-- What the output block holds after the body at a grid point. -/
def leftAt (c : Dev nD) (t : Fin (cfg2 A).N) : Vec F S16x16x96 .f32 :=
  left c (grid2.coords t) (m0 A t) (h0 A t) (m1 A t) (h1 A t) (m2 A t) (h2 A t) (m3 A t) (h3 A t) (m4 A t) (h4 A t) (m5 A t) (h5 A t) (m6 A t) (h6 A t) (m7 A t) (h7 A t) (m8 A t) (h8 A t) (m9 A t) (h9 A t) (block A V c 0 t) (block A V c 1 t) (block A V c 2 t) (block A V c 3 t) (block A V c 4 t) (block A V c 5 t) (block A V c 6 t) (block A V c 7 t) (block A V c 8 t)

/-- The pipeline's data. -/
def dat (c : Dev nD) : Dat τ (Elt F) Unit ℕ (UR sig nD τ) ℕ (cfg2 A) c where
  A w := V c (Pipeline.arrRef spec2 w)
  after w t := match w with
    | ⟨0, _⟩ => block A V c 0 t
    | ⟨1, _⟩ => block A V c 1 t
    | ⟨2, _⟩ => block A V c 2 t
    | ⟨3, _⟩ => block A V c 3 t
    | ⟨4, _⟩ => block A V c 4 t
    | ⟨5, _⟩ => block A V c 5 t
    | ⟨6, _⟩ => block A V c 6 t
    | ⟨7, _⟩ => block A V c 7 t
    | ⟨8, _⟩ => block A V c 8 t
    | ⟨9, _⟩ => leftAt A V c t
  Φ _ := iprop(iprop(Pipeline.scopedRest (Ix := Unit) (Name := ℕ) (U := UR sig nD τ) (Lvl := ℕ) (Val := Elt F) spec2 c ∗ ∃ r, prngReg c r)
    ∗ Pipeline.prefHeld pre2 c (fun _ => fullShare) A.1)
  q w := Pipeline.shareOf spec2 w
  owed _ := 0

theorem A_eq (c : Dev nD) (w : Fin (cfg2 A).W) : (dat A V c).A w = V c (Pipeline.arrRef spec2 w) := by
  dsimp only [dat]

theorem after0 (c : Dev nD) (t : Fin (cfg2 A).N) : (dat A V c).after 0 t = block A V c 0 t := by
  dsimp only [dat]; try rfl
theorem after1 (c : Dev nD) (t : Fin (cfg2 A).N) : (dat A V c).after 1 t = block A V c 1 t := by
  dsimp only [dat]; try rfl
theorem after2 (c : Dev nD) (t : Fin (cfg2 A).N) : (dat A V c).after 2 t = block A V c 2 t := by
  dsimp only [dat]; try rfl
theorem after3 (c : Dev nD) (t : Fin (cfg2 A).N) : (dat A V c).after 3 t = block A V c 3 t := by
  dsimp only [dat]; try rfl
theorem after4 (c : Dev nD) (t : Fin (cfg2 A).N) : (dat A V c).after 4 t = block A V c 4 t := by
  dsimp only [dat]; try rfl
theorem after5 (c : Dev nD) (t : Fin (cfg2 A).N) : (dat A V c).after 5 t = block A V c 5 t := by
  dsimp only [dat]; try rfl
theorem after6 (c : Dev nD) (t : Fin (cfg2 A).N) : (dat A V c).after 6 t = block A V c 6 t := by
  dsimp only [dat]; try rfl
theorem after7 (c : Dev nD) (t : Fin (cfg2 A).N) : (dat A V c).after 7 t = block A V c 7 t := by
  dsimp only [dat]; try rfl
theorem after8 (c : Dev nD) (t : Fin (cfg2 A).N) : (dat A V c).after 8 t = block A V c 8 t := by
  dsimp only [dat]; try rfl
theorem after9 (c : Dev nD) (t : Fin (cfg2 A).N) : (dat A V c).after 9 t = leftAt A V c t := by
  dsimp only [dat]; try rfl

theorem before0 (c : Dev nD) (t : Fin (cfg2 A).N) (d) : (dat A V c).before 0 t d = block A V c 0 t :=
  ((dat A V c).before_in_eq_fetched 0 rfl (fun _ => rfl) (fun _ _ _ => rfl)
    (fun t => by rw [after0]; unfold Dat.blockOf block; rw [A_eq]; try rfl) t d).trans (by unfold Dat.fetched Dat.blockOf block; rw [A_eq]; try rfl)
theorem before1 (c : Dev nD) (t : Fin (cfg2 A).N) (d) : (dat A V c).before 1 t d = block A V c 1 t :=
  ((dat A V c).before_in_eq_fetched 1 rfl (fun _ => rfl) (fun _ _ _ => rfl)
    (fun t => by rw [after1]; unfold Dat.blockOf block; rw [A_eq]; try rfl) t d).trans (by unfold Dat.fetched Dat.blockOf block; rw [A_eq]; try rfl)
theorem before2 (c : Dev nD) (t : Fin (cfg2 A).N) (d) : (dat A V c).before 2 t d = block A V c 2 t :=
  ((dat A V c).before_in_eq_fetched 2 rfl (fun _ => rfl) (fun _ _ _ => rfl)
    (fun t => by rw [after2]; unfold Dat.blockOf block; rw [A_eq]; try rfl) t d).trans (by unfold Dat.fetched Dat.blockOf block; rw [A_eq]; try rfl)
theorem before3 (c : Dev nD) (t : Fin (cfg2 A).N) (d) : (dat A V c).before 3 t d = block A V c 3 t :=
  ((dat A V c).before_in_eq_fetched 3 rfl (fun _ => rfl) (fun _ _ _ => rfl)
    (fun t => by rw [after3]; unfold Dat.blockOf block; rw [A_eq]; try rfl) t d).trans (by unfold Dat.fetched Dat.blockOf block; rw [A_eq]; try rfl)
theorem before4 (c : Dev nD) (t : Fin (cfg2 A).N) (d) : (dat A V c).before 4 t d = block A V c 4 t :=
  ((dat A V c).before_in_eq_fetched 4 rfl (fun _ => rfl) (fun _ _ _ => rfl)
    (fun t => by rw [after4]; unfold Dat.blockOf block; rw [A_eq]; try rfl) t d).trans (by unfold Dat.fetched Dat.blockOf block; rw [A_eq]; try rfl)
theorem before5 (c : Dev nD) (t : Fin (cfg2 A).N) (d) : (dat A V c).before 5 t d = block A V c 5 t :=
  ((dat A V c).before_in_eq_fetched 5 rfl (fun _ => rfl) (fun _ _ _ => rfl)
    (fun t => by rw [after5]; unfold Dat.blockOf block; rw [A_eq]; try rfl) t d).trans (by unfold Dat.fetched Dat.blockOf block; rw [A_eq]; try rfl)
theorem before6 (c : Dev nD) (t : Fin (cfg2 A).N) (d) : (dat A V c).before 6 t d = block A V c 6 t :=
  ((dat A V c).before_in_eq_fetched 6 rfl (fun _ => rfl) (fun _ _ _ => rfl)
    (fun t => by rw [after6]; unfold Dat.blockOf block; rw [A_eq]; try rfl) t d).trans (by unfold Dat.fetched Dat.blockOf block; rw [A_eq]; try rfl)
theorem before7 (c : Dev nD) (t : Fin (cfg2 A).N) (d) : (dat A V c).before 7 t d = block A V c 7 t :=
  ((dat A V c).before_in_eq_fetched 7 rfl (fun _ => rfl) (fun _ _ _ => rfl)
    (fun t => by rw [after7]; unfold Dat.blockOf block; rw [A_eq]; try rfl) t d).trans (by unfold Dat.fetched Dat.blockOf block; rw [A_eq]; try rfl)
theorem before8 (c : Dev nD) (t : Fin (cfg2 A).N) (d) : (dat A V c).before 8 t d = block A V c 8 t :=
  ((dat A V c).before_in_eq_fetched 8 rfl (fun _ => rfl) (fun _ _ _ => rfl)
    (fun t => by rw [after8]; unfold Dat.blockOf block; rw [A_eq]; try rfl) t d).trans (by unfold Dat.fetched Dat.blockOf block; rw [A_eq]; try rfl)

/-- The body on what the pipeline calls it with. -/
abbrev bodyAt (t : Fin (cfg2 A).N) : Prog (TpuEff nD τ sig (Elt F) Λ₀ .tc) PUnit :=
  cc2__attn_kernel (grid2.coords t) (Memref.whole main_v6) (Memref.isWhole_whole _) (m0 A t) (h0 A t) (m1 A t) (h1 A t) (m2 A t) (h2 A t) (m3 A t) (h3 A t) (m4 A t) (h4 A t) (m5 A t) (h5 A t) (m6 A t) (h6 A t) (m7 A t) (h7 A t) (m8 A t) (h8 A t) (m9 A t) (h9 A t)

/-- What the body is entered with, and left with, at a grid point. -/
def entered (c : Dev nD) (t : Fin (cfg2 A).N) : sProp 𝕄 :=
  iprop((dat A V c).Φ t.castSucc ∗ (dat A V c).owesAt () t.castSucc
    ∗ (∃ d, owns (c : Thread nD τ) (m0 A t) fullShare ((dat A V c).before 0 t d))
    ∗ (∃ d, owns (c : Thread nD τ) (m1 A t) fullShare ((dat A V c).before 1 t d))
    ∗ (∃ d, owns (c : Thread nD τ) (m2 A t) fullShare ((dat A V c).before 2 t d))
    ∗ (∃ d, owns (c : Thread nD τ) (m3 A t) fullShare ((dat A V c).before 3 t d))
    ∗ (∃ d, owns (c : Thread nD τ) (m4 A t) fullShare ((dat A V c).before 4 t d))
    ∗ (∃ d, owns (c : Thread nD τ) (m5 A t) fullShare ((dat A V c).before 5 t d))
    ∗ (∃ d, owns (c : Thread nD τ) (m6 A t) fullShare ((dat A V c).before 6 t d))
    ∗ (∃ d, owns (c : Thread nD τ) (m7 A t) fullShare ((dat A V c).before 7 t d))
    ∗ (∃ d, owns (c : Thread nD τ) (m8 A t) fullShare ((dat A V c).before 8 t d))
    ∗ (∃ d, owns (c : Thread nD τ) (m9 A t) fullShare ((dat A V c).before 9 t d)))

def leaves (c : Dev nD) (t : Fin (cfg2 A).N) : sProp 𝕄 :=
  iprop((dat A V c).Φ t.succ ∗ (dat A V c).owesAt () t.succ
    ∗ owns (c : Thread nD τ) (m0 A t) fullShare ((dat A V c).after 0 t)
    ∗ owns (c : Thread nD τ) (m1 A t) fullShare ((dat A V c).after 1 t)
    ∗ owns (c : Thread nD τ) (m2 A t) fullShare ((dat A V c).after 2 t)
    ∗ owns (c : Thread nD τ) (m3 A t) fullShare ((dat A V c).after 3 t)
    ∗ owns (c : Thread nD τ) (m4 A t) fullShare ((dat A V c).after 4 t)
    ∗ owns (c : Thread nD τ) (m5 A t) fullShare ((dat A V c).after 5 t)
    ∗ owns (c : Thread nD τ) (m6 A t) fullShare ((dat A V c).after 6 t)
    ∗ owns (c : Thread nD τ) (m7 A t) fullShare ((dat A V c).after 7 t)
    ∗ owns (c : Thread nD τ) (m8 A t) fullShare ((dat A V c).after 8 t)
    ∗ owns (c : Thread nD τ) (m9 A t) fullShare ((dat A V c).after 9 t))

theorem body_sound (c : Dev nD) (t : Fin (cfg2 A).N) :
    entered A V c t ⊢ wp frame (wpE (defs₀ (F := F)) Variants.none c none) Set.univ (bodyAt A t) (fun _ => leaves A V c t) := by
  unfold entered leaves bodyAt
  simp only [before0, before1, before2, before3, before4, before5, before6, before7, before8]
  rw [show (dat A V c).Φ t.succ = (dat A V c).Φ t.castSucc from rfl,
    show (dat A V c).owesAt () t.succ = (dat A V c).owesAt () t.castSucc from rfl,
    after0, after1, after2, after3, after4, after5, after6, after7, after8, after9]
  unfold leftAt left
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run c (grid2.coords t) _ _ _ _ _ _ _ _ _ _ _ _ _ _ _ _ _ _ _ _ (block A V c 0 t) (block A V c 1 t) (block A V c 2 t) (block A V c 3 t) (block A V c 4 t) (block A V c 5 t) (block A V c 6 t) (block A V c 7 t) (block A V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover c _ _ _ _ _ _ _ _ _ _ _ _ _ _ _ _ _ _ _ _ _ _ _ _ _ _ _ _ _ _)

theorem row (t : Fin (cfg2 A).N) : defs₀ (F := F) .tc (cfg2 A).body ((cfg2 A).bodyArgs t ((cfg2 A).slots t)) = bodyAt A t := by
  unfold defs₀; rw [Defs.onTc_tc]

theorem body_obligation (c : Dev nD) : BodyObligation (dat A V c) (defs₀ (F := F)) Variants.none () Set.univ := fun t => by
  rw [bigSep_W2, bigSep_W2, row]
  exact triple_restated (body_sound A V c t) rfl .rfl fun _ => .rfl

end Cert.Whole.AttnCall

end
-- ==== Proof.Levels.lean ====
/- The cells' levels and what a core keeps between the calls: its random-number register, owing nothing. -/
module

public import proofs.«01_k».proof.Proof.Gen.Own.KernelIdeal.RegionsD
public import Idealize.ShloMosaic.Lib.Pipeline.RegionsLoop

@[expose] public section

noncomputable section

namespace Cert.Whole

open Cert.KernelIdeal Cert.KernelIdeal.Gen Cert.KernelIdeal.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev L : GSem nD τ sig → Finset Unit := fun g => if g.1.2 = .tc then {()} else ∅
abbrev lv : GSem nD τ sig → Unit → ℕ := fun _ _ => 0

theorem cut (a : (p : Fin 4) → (pcfgs (F := F) p).Adm) (p : Fin 4) : Pipeline.LevelCut (pcfgs (F := F)) a () L lv p (fun _ => 0) (fun _ => 0) where
  hι c w s := by simp [L]
  hιb c w s := le_rfl
  hD c g i h := absurd h (lt_irrefl 0)

/-- Between the calls the core keeps its random-number register and owes nothing. -/
def E : Fin 5 → Dev nD → sProp 𝕄 := fun _ c => iprop((∃ r, prngReg c r) ∗ ∃ W, owes (c : Thread nD τ) (0 : CellTallies nD τ sig Unit) W)

theorem E_in (k : Fin 5) (c : Dev nD) : (E (F := F) k c) ⊢ iprop((∃ r, prngReg c r) ∗ (∃ W, owes (c : Thread nD τ) ((fun _ => 0 : Dev nD → CellTallies nD τ sig Unit) c) W) ∗ (BI.emp : sProp 𝕄)) := by
  unfold E
  iintro ⟨Hp, HO⟩
  isplitl [Hp]; · iexact Hp
  isplitl [HO]; · iexact HO
  iempintro
theorem E_out (k : Fin 5) (c : Dev nD) : iprop((∃ r, prngReg c r) ∗ (∃ W, owes (c : Thread nD τ) ((fun _ => 0 : Dev nD → CellTallies nD τ sig Unit) c) W) ∗ (BI.emp : sProp 𝕄)) ⊢ (E (F := F) k c) := by
  unfold E
  iintro ⟨Hp, HO, -⟩
  isplitl [Hp]; · iexact Hp
  iexact HO

end Cert.Whole

end
-- ==== Proof.AttnSeg.lean ====
/- The attention's call as a segment of the whole kernel's run: entered from the buffers held before it, left at those after it. -/
module

public import proofs.«01_k».proof.Proof.Gen.Own.KernelIdeal.RegionsD
public import proofs.«01_k».proof.Proof.AttnCall
public import Idealize.ShloMosaic.Lib.Pipeline.RegionArraysT
public import Idealize.ShloMosaic.Lib.Pipeline.RegionsLoop
public import proofs.«01_k».proof.Proof.Levels

@[expose] public section

noncomputable section

namespace Cert.Whole.AttnCall

open Cert.KernelIdeal Cert.KernelIdeal.Gen Cert.KernelIdeal.Own
open Cert.Whole
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

section
variable (m : (ℓ : Loc nD τ sig) → Buf (Elt F) ℓ) (outs : Outs (F := F)) (a : (p : Fin 4) → (pcfgs (F := F) p).Adm)
variable (pdats : (p : Fin 4) → (c : Dev nD) → Dat τ (Elt F) Unit ℕ (UR sig nD τ) ℕ (Pipeline.pin (pcfgs (F := F)) a p) c)

/-- The call's arrays as it is entered. -/
abbrev entry (c : Dev nD) (b : Ref sig .tc) : Buf (Elt F) ((c : Thread nD τ).loc b) := V5 m outs c (Proc.devRef .tc b)

variable (hd : ∀ c, pdats 2 c = dat (a 2) (entry m outs) c)
variable (ht : ∀ (c : Dev nD) (k : Fin 1), entry m outs c (pre2.ref k) = (a 2).1 k)
variable (ho : ∀ c : Dev nD, outs 6 main_v7 c = (dat (a 2) (entry m outs) c).arrAt 9 (cfg2 (a 2)).N)

set_option backward.isDefEq.respectTransparency.types false in
include hd in
/-- The call as a segment of the run. -/
def seg : RegionSeg (pcfgs (F := F)) a pdats () defs₀ Variants.none L lv 2 :=
  Pipeline.RegionSeg.ofArraysT (pcfgs (F := F)) a pdats () defs₀ Variants.none L lv 2 (fun _ => 0)
    (fun c => iprop(∃ r, prngReg c r)) (fun c => iprop(∃ r, prngReg c r)) launch₀2
    (fun c => by rw [hd c]; exact (body_obligation (a 2) (entry m outs) c).loose) (fun c _ => by rw [hd c]; rfl) (fun c => by rw [hd c]; rfl)
    (fun c => by rw [hd c]; exact .rfl) (fun c => by rw [hd c]; exact .rfl) (fun _ => 0) (cut a 2)
    (fun c => Pipeline.unscopedRestP pre2 spec2 c (entry m outs c))

set_option backward.isDefEq.respectTransparency.types false in
include ht in
theorem pre (c : Dev nD) :
    iprop(StableHlo.held (c : Thread nD τ) (Pipeline.ucRefs τ sig) (V5 m outs c) ∗ E (F := F) 2 c) ⊢ (seg m outs a pdats hd).pre c := by
  show _ ⊢ iprop((pdats 2 c).arrays ((pdats 2 c).arrAt · 0) ∗ Pipeline.prefHeld pre2 c (fun _ => fullShare) (a 2).1
    ∗ (∃ r, prngReg c r) ∗ Pipeline.unscopedRestP pre2 spec2 c (entry m outs c)
    ∗ ∃ W, owes (c : Thread nD τ) (0 : CellTallies nD τ sig Unit) W)
  have hs : (unscopedBufs c (entry m outs c) : sProp 𝕄)
      ⊢ iprop((pdats 2 c).arrays ((pdats 2 c).arrAt · 0) ∗ Pipeline.unscopedRest spec2 c (entry m outs c)) :=
    Pipeline.arrays_of_unscopedBufs_shared (pcfgs (F := F)) a pdats (p := 2) winFacts₀2 sharedIn2 arr_whole2 c (fun _ _ => by rw [hd c]; rfl)
      (entry m outs c) (fun _ => by rw [hd c]; rfl)
  have hr := Pipeline.unscopedRest_split (Ix := Unit) (Name := ℕ) (U := UR sig nD τ) (Lvl := ℕ) preFacts2 c (entry m outs c)
  rw [show (fun k => entry m outs c (pre2.ref k)) = (a 2).1 from funext (ht c)] at hr
  rw [← Pipeline.unscopedBufs_held (Ix := Unit) (Name := ℕ) (U := UR sig nD τ) (Lvl := ℕ) c (V5 m outs c)]
  unfold E
  iintro ⟨Hu, Hp, HO⟩
  ihave Ha := hs $$ [Hu]; · iexact Hu
  icases Ha with ⟨Ha, Hr⟩
  ihave Hq := (Entails.of_eq hr) $$ [Hr]; · iexact Hr
  icases Hq with ⟨Ht, Hr⟩
  isplitl [Ha]; · iexact Ha
  isplitl [Ht]; · iexact Ht
  isplitl [Hp]; · iexact Hp
  isplitl [Hr]; · iexact Hr
  iexact HO

theorem out_in : ∀ w : Fin 10, w ≠ 9 → (spec2 w).isOut = false := by decide
theorem ne_out : ∀ w : Fin 10, w ≠ 9 → Pipeline.arrRef spec2 w ≠ main_v7 := by decide

include ho in
theorem arr_at (c : Dev nD) (w : Fin 10) :
    (dat (a 2) (entry m outs) c).arrAt w (cfg2 (a 2)).N = V6 m outs c (Proc.devRef .tc (Pipeline.arrRef spec2 w)) := by
  by_cases hw : w = 9
  · subst hw
    rw [← ho c]
    exact (Function.update_self (Proc.devRef .tc main_v7) (outs 6 main_v7 c) (V5 m outs c)).symm
  · refine ((dat (a 2) (entry m outs) c).arrAt_in w (out_in w hw) _).trans ?_
    exact (Function.update_of_ne (StableHlo.devRef_ne_of_ne (ne_out w hw)) (outs 6 main_v7 c) (V5 m outs c)).symm

theorem rest_at (c : Dev nD) (b : Ref sig .tc) (hb : b ∉ Finset.univ.image (Pipeline.arrRef spec2)) :
    V6 m outs c (Proc.devRef .tc b) = V5 m outs c (Proc.devRef .tc b) :=
  Function.update_of_ne (StableHlo.devRef_ne_of_ne (fun h => hb (Finset.mem_image.mpr ⟨9, Finset.mem_univ _, h.symm⟩))) (outs 6 main_v7 c) (V5 m outs c)

set_option backward.isDefEq.respectTransparency.types false in
include ht ho in
theorem post (c : Dev nD) :
    (seg m outs a pdats hd).post c ⊢ iprop(StableHlo.held (c : Thread nD τ) (Pipeline.ucRefs τ sig) (V6 m outs c) ∗ E (F := F) 3 c) := by
  show iprop((pdats 2 c).arrays ((pdats 2 c).arrAt · (cfg2 (a 2)).N) ∗ Pipeline.prefHeld pre2 c (fun _ => fullShare) (a 2).1
    ∗ (∃ r, prngReg c r) ∗ Pipeline.unscopedRestP pre2 spec2 c (entry m outs c)
    ∗ ∃ W, owes (c : Thread nD τ) (0 : CellTallies nD τ sig Unit) W) ⊢ _
  have hs : iprop((pdats 2 c).arrays ((pdats 2 c).arrAt · (cfg2 (a 2)).N) ∗ Pipeline.unscopedRest spec2 c (entry m outs c))
      ⊢ (unscopedBufs c (fun b => V6 m outs c (Proc.devRef .tc b)) : sProp 𝕄) :=
    Pipeline.unscopedBufs_of_arrays_shared (p := 2) (pcfgs (F := F)) a winFacts₀2 sharedIn2 arr_whole2 c pdats (fun _ _ => by rw [hd c]; rfl)
      (entry m outs c) (fun b => V6 m outs c (Proc.devRef .tc b))
      ((pdats 2 c).arrAt · (cfg2 (a 2)).N) (fun w => by rw [hd c]; exact arr_at m outs a ho c w)
      (rest_at m outs c)
  have hr := Pipeline.unscopedRest_split (Ix := Unit) (Name := ℕ) (U := UR sig nD τ) (Lvl := ℕ) preFacts2 c (entry m outs c)
  rw [show (fun k => entry m outs c (pre2.ref k)) = (a 2).1 from funext (ht c)] at hr
  rw [← Pipeline.unscopedBufs_held (Ix := Unit) (Name := ℕ) (U := UR sig nD τ) (Lvl := ℕ) c (V6 m outs c)]
  unfold E
  iintro ⟨Ha, Ht, Hp, Hr, HO⟩
  isplitl [Ha Ht Hr]
  · iapply hs
    isplitl [Ha]; · iexact Ha
    iapply (Entails.of_eq hr.symm)
    isplitl [Ht]; · iexact Ht
    iexact Hr
  isplitl [Hp]; · iexact Hp
  iexact HO

end

end Cert.Whole.AttnCall

end
-- ==== Proof.FinalCall.lean ====
/- The last call of the whole kernel: the depthwise convolution and the output projection: its body's run, the
   pipeline's data at any admissible table and any contents of the arrays it is entered with, and the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.Exec
public import Idealize.ShloMosaic.Lib.Pipeline.Kit

@[expose] public section

set_option maxRecDepth 16384

noncomputable section

namespace Cert.Whole.FinalCall

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table's buffer. -/
abbrev table : Memref sig .tc .smem S1 .i32 := Memref.whole main_v8

/-- The contents of a memref's buffer. -/
abbrev Words (c : Dev nD) {S : Shape} {e : EltTy} (M : Memref sig .tc .smem S e) : Type := Buf (Elt F) (M.view.loc (c : Thread nD τ))

/-- A memref's buffer held whole. -/
abbrev heldAt (c : Dev nD) {S : Shape} {e : EltTy} (M : Memref sig .tc .smem S e) (f : Words (F := F) c M) : sProp 𝕄 :=
  M.view.loc (c : Thread nD τ) ↦{fullShare} f

set_option maxHeartbeats 1000000 in
/-- What the body stores in its output block, and that it runs to there with its other buffers as they were. -/
def run (c : Dev nD) (i : grid3.Coords) (m0 : Memref sig .tc .vmem S16x224x96 .f32) (h0 : m0.IsWhole) (m1 : Memref sig .tc .vmem S16x224x96 .bf16) (h1 : m1.IsWhole) (m2 : Memref sig .tc .vmem S16x224x96 .bf16) (h2 : m2.IsWhole) (m3 : Memref sig .tc .vmem S16x224x96 .bf16) (h3 : m3.IsWhole) (m4 : Memref sig .tc .vmem S9x96 .f32) (h4 : m4.IsWhole) (m5 : Memref sig .tc .vmem S96 .f32) (h5 : m5.IsWhole) (m6 : Memref sig .tc .vmem S96x96 .f32) (h6 : m6.IsWhole) (m7 : Memref sig .tc .vmem S96 .f32) (h7 : m7.IsWhole) (m8 : Memref sig .tc .vmem S96x16x224 .f32) (h8 : m8.IsWhole)
    (x0 : Vec F S16x224x96 .f32) (x1 : Vec F S16x224x96 .bf16) (x2 : Vec F S16x224x96 .bf16) (x3 : Vec F S16x224x96 .bf16) (x4 : Vec F S9x96 .f32) (x5 : Vec F S96 .f32) (x6 : Vec F S96x96 .f32) (x7 : Vec F S96 .f32) (xt : Words (F := F) c table) :
    { L : List (View.Piece (Elt F) S96x16x224 .f32) //
      ∀ (E : Set ℕ) (K : PUnit → sProp 𝕄),
        iprop(owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7 ∗ (∃ d, owns (c : Thread nD τ) m8 fullShare d) ∗ heldAt c table xt
            ∗ (iprop(owns (c : Thread nD τ) m0 fullShare x0 ∗ owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7 ∗ (∃ f, m8.view.loc (c : Thread nD τ) ↦[m8.view.set]{fullShare} m8.view.writes (Elt F) f L) ∗ heldAt c table xt) -∗ K ⟨⟩))
          ⊢ wp frame (wpE (defs₀ (F := F)) Variants.none c none) E (cc3__final_kernel i table (Memref.isWhole_whole _) m0 h0 m1 h1 m2 h2 m3 h3 m4 h4 m5 h5 m6 h6 m7 h7 m8 h8) K } := by
  refine ⟨?_, fun E K => ?run⟩
  case run =>
    simp only [cc3__final_kernel_eq_skeleton]; unfold cc3__final_kernel_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    iexact HT

/-- One staging buffer of the output window. -/
abbrev stageOut : View sig .tc .vmem S96x16x224 .f32 := (Memref.whole cc3_stg8_0 : Memref sig .tc .vmem S96x16x224 .f32).view

theorem cover (c : Dev nD) (i : grid3.Coords) (m0 : Memref sig .tc .vmem S16x224x96 .f32) (h0 : m0.IsWhole) (m1 : Memref sig .tc .vmem S16x224x96 .bf16) (h1 : m1.IsWhole) (m2 : Memref sig .tc .vmem S16x224x96 .bf16) (h2 : m2.IsWhole) (m3 : Memref sig .tc .vmem S16x224x96 .bf16) (h3 : m3.IsWhole) (m4 : Memref sig .tc .vmem S9x96 .f32) (h4 : m4.IsWhole) (m5 : Memref sig .tc .vmem S96 .f32) (h5 : m5.IsWhole) (m6 : Memref sig .tc .vmem S96x96 .f32) (h6 : m6.IsWhole) (m7 : Memref sig .tc .vmem S96 .f32) (h7 : m7.IsWhole) (m8 : Memref sig .tc .vmem S96x16x224 .f32) (h8 : m8.IsWhole)
    (x0 : Vec F S16x224x96 .f32) (x1 : Vec F S16x224x96 .bf16) (x2 : Vec F S16x224x96 .bf16) (x3 : Vec F S16x224x96 .bf16) (x4 : Vec F S9x96 .f32) (x5 : Vec F S96 .f32) (x6 : Vec F S96x96 .f32) (x7 : Vec F S96 .f32) (xt : Words (F := F) c table) (y : S96x16x224.Idx) :
    ∃ pc ∈ (run c i m0 h0 m1 h1 m2 h2 m3 h3 m4 h4 m5 h5 m6 h6 m7 h7 m8 h8 x0 x1 x2 x3 x4 x5 x6 x7 xt).1, y ∈ pc.1.set :=
  View.cover_of_tiledL (run c i m0 h0 m1 h1 m2 h2 m3 h3 m4 h4 m5 h5 m6 h6 m7 h7 m8 h8 x0 x1 x2 x3 x4 x5 x6 x7 xt).1 S96x16x224.size (by sl_kernel_rfl) y

/-- What the body leaves in its output block. -/
def left (c : Dev nD) (i : grid3.Coords) (m0 : Memref sig .tc .vmem S16x224x96 .f32) (h0 : m0.IsWhole) (m1 : Memref sig .tc .vmem S16x224x96 .bf16) (h1 : m1.IsWhole) (m2 : Memref sig .tc .vmem S16x224x96 .bf16) (h2 : m2.IsWhole) (m3 : Memref sig .tc .vmem S16x224x96 .bf16) (h3 : m3.IsWhole) (m4 : Memref sig .tc .vmem S9x96 .f32) (h4 : m4.IsWhole) (m5 : Memref sig .tc .vmem S96 .f32) (h5 : m5.IsWhole) (m6 : Memref sig .tc .vmem S96x96 .f32) (h6 : m6.IsWhole) (m7 : Memref sig .tc .vmem S96 .f32) (h7 : m7.IsWhole) (m8 : Memref sig .tc .vmem S96x16x224 .f32) (h8 : m8.IsWhole)
    (x0 : Vec F S16x224x96 .f32) (x1 : Vec F S16x224x96 .bf16) (x2 : Vec F S16x224x96 .bf16) (x3 : Vec F S16x224x96 .bf16) (x4 : Vec F S9x96 .f32) (x5 : Vec F S96 .f32) (x6 : Vec F S96x96 .f32) (x7 : Vec F S96 .f32) (xt : Words (F := F) c table) : Vec F S96x16x224 .f32 :=
  stageOut.read (Elt F) (stageOut.writes (Elt F) stageOut.junk (run c i m0 h0 m1 h1 m2 h2 m3 h3 m4 h4 m5 h5 m6 h6 m7 h7 m8 h8 x0 x1 x2 x3 x4 x5 x6 x7 xt).1)

variable (A : (pcfg3 (F := F)).Adm) (V : (c : Dev nD) → (b : Ref sig .tc) → Buf (Elt F) ((c : Thread nD τ).loc b))

/-- A window's block at a grid point. -/
def block (c : Dev nD) (w : Fin (cfg3 A).W) (t : Fin (cfg3 A).N) : (((cfg3 A).win w).xblock ((cfg3 A).grid.coords t)).Idx → Elt F ((cfg3 A).win w).elt :=
  (((cfg3 A).win w).blk t).view.read (Elt F) (V c (Pipeline.arrRef spec3 w))

abbrev m0 (t : Fin (cfg3 A).N) : Memref sig .tc .vmem S16x224x96 .f32 := spec3_0.stage ((cfg3 A).slots t 0)
abbrev h0 (t : Fin (cfg3 A).N) : (m0 A t).IsWhole := hstage3_0 (((cfg3 A).slots t 0).cast nbuf3_0)
abbrev m1 (t : Fin (cfg3 A).N) : Memref sig .tc .vmem S16x224x96 .bf16 := spec3_1.stage ((cfg3 A).slots t 1)
abbrev h1 (t : Fin (cfg3 A).N) : (m1 A t).IsWhole := hstage3_1 (((cfg3 A).slots t 1).cast nbuf3_1)
abbrev m2 (t : Fin (cfg3 A).N) : Memref sig .tc .vmem S16x224x96 .bf16 := spec3_2.stage ((cfg3 A).slots t 2)
abbrev h2 (t : Fin (cfg3 A).N) : (m2 A t).IsWhole := hstage3_2 (((cfg3 A).slots t 2).cast nbuf3_2)
abbrev m3 (t : Fin (cfg3 A).N) : Memref sig .tc .vmem S16x224x96 .bf16 := spec3_3.stage ((cfg3 A).slots t 3)
abbrev h3 (t : Fin (cfg3 A).N) : (m3 A t).IsWhole := hstage3_3 (((cfg3 A).slots t 3).cast nbuf3_3)
abbrev m4 (t : Fin (cfg3 A).N) : Memref sig .tc .vmem S9x96 .f32 := spec3_4.stage ((cfg3 A).slots t 4)
abbrev h4 (t : Fin (cfg3 A).N) : (m4 A t).IsWhole := hstage3_4 (((cfg3 A).slots t 4).cast nbuf3_4)
abbrev m5 (t : Fin (cfg3 A).N) : Memref sig .tc .vmem S96 .f32 := spec3_5.stage ((cfg3 A).slots t 5)
abbrev h5 (t : Fin (cfg3 A).N) : (m5 A t).IsWhole := hstage3_5 (((cfg3 A).slots t 5).cast nbuf3_5)
abbrev m6 (t : Fin (cfg3 A).N) : Memref sig .tc .vmem S96x96 .f32 := spec3_6.stage ((cfg3 A).slots t 6)
abbrev h6 (t : Fin (cfg3 A).N) : (m6 A t).IsWhole := hstage3_6 (((cfg3 A).slots t 6).cast nbuf3_6)
abbrev m7 (t : Fin (cfg3 A).N) : Memref sig .tc .vmem S96 .f32 := spec3_7.stage ((cfg3 A).slots t 7)
abbrev h7 (t : Fin (cfg3 A).N) : (m7 A t).IsWhole := hstage3_7 (((cfg3 A).slots t 7).cast nbuf3_7)
abbrev m8 (t : Fin (cfg3 A).N) : Memref sig .tc .vmem S96x16x224 .f32 := spec3_8.stage ((cfg3 A).slots t 8)
abbrev h8 (t : Fin (cfg3 A).N) : (m8 A t).IsWhole := hstage3_8 (((cfg3 A).slots t 8).cast nbuf3_8)

/-- What the output block holds after the body at a grid point. -/
def leftAt (c : Dev nD) (t : Fin (cfg3 A).N) : Vec F S96x16x224 .f32 :=
  left c (grid3.coords t) (m0 A t) (h0 A t) (m1 A t) (h1 A t) (m2 A t) (h2 A t) (m3 A t) (h3 A t) (m4 A t) (h4 A t) (m5 A t) (h5 A t) (m6 A t) (h6 A t) (m7 A t) (h7 A t) (m8 A t) (h8 A t) (block A V c 0 t) (block A V c 1 t) (block A V c 2 t) (block A V c 3 t) (block A V c 4 t) (block A V c 5 t) (block A V c 6 t) (block A V c 7 t) (A.1 0)

/-- The pipeline's data. -/
def dat (c : Dev nD) : Dat τ (Elt F) Unit ℕ (UR sig nD τ) ℕ (cfg3 A) c where
  A w := V c (Pipeline.arrRef spec3 w)
  after w t := match w with
    | ⟨0, _⟩ => block A V c 0 t
    | ⟨1, _⟩ => block A V c 1 t
    | ⟨2, _⟩ => block A V c 2 t
    | ⟨3, _⟩ => block A V c 3 t
    | ⟨4, _⟩ => block A V c 4 t
    | ⟨5, _⟩ => block A V c 5 t
    | ⟨6, _⟩ => block A V c 6 t
    | ⟨7, _⟩ => block A V c 7 t
    | ⟨8, _⟩ => leftAt A V c t
  Φ _ := iprop(iprop(Pipeline.scopedRest (Ix := Unit) (Name := ℕ) (U := UR sig nD τ) (Lvl := ℕ) (Val := Elt F) spec3 c ∗ ∃ r, prngReg c r)
    ∗ Pipeline.prefHeld pre3 c (fun _ => fullShare) A.1)
  q w := Pipeline.shareOf spec3 w
  owed _ := 0

theorem A_eq (c : Dev nD) (w : Fin (cfg3 A).W) : (dat A V c).A w = V c (Pipeline.arrRef spec3 w) := by
  dsimp only [dat]

theorem after0 (c : Dev nD) (t : Fin (cfg3 A).N) : (dat A V c).after 0 t = block A V c 0 t := by
  dsimp only [dat]; try rfl
theorem after1 (c : Dev nD) (t : Fin (cfg3 A).N) : (dat A V c).after 1 t = block A V c 1 t := by
  dsimp only [dat]; try rfl
theorem after2 (c : Dev nD) (t : Fin (cfg3 A).N) : (dat A V c).after 2 t = block A V c 2 t := by
  dsimp only [dat]; try rfl
theorem after3 (c : Dev nD) (t : Fin (cfg3 A).N) : (dat A V c).after 3 t = block A V c 3 t := by
  dsimp only [dat]; try rfl
theorem after4 (c : Dev nD) (t : Fin (cfg3 A).N) : (dat A V c).after 4 t = block A V c 4 t := by
  dsimp only [dat]; try rfl
theorem after5 (c : Dev nD) (t : Fin (cfg3 A).N) : (dat A V c).after 5 t = block A V c 5 t := by
  dsimp only [dat]; try rfl
theorem after6 (c : Dev nD) (t : Fin (cfg3 A).N) : (dat A V c).after 6 t = block A V c 6 t := by
  dsimp only [dat]; try rfl
theorem after7 (c : Dev nD) (t : Fin (cfg3 A).N) : (dat A V c).after 7 t = block A V c 7 t := by
  dsimp only [dat]; try rfl
theorem after8 (c : Dev nD) (t : Fin (cfg3 A).N) : (dat A V c).after 8 t = leftAt A V c t := by
  dsimp only [dat]; try rfl

theorem before0 (c : Dev nD) (t : Fin (cfg3 A).N) (d) : (dat A V c).before 0 t d = block A V c 0 t :=
  ((dat A V c).before_in_eq_fetched 0 rfl (fun _ => rfl) (fun _ _ _ => rfl)
    (fun t => by rw [after0]; unfold Dat.blockOf block; rw [A_eq]; try rfl) t d).trans (by unfold Dat.fetched Dat.blockOf block; rw [A_eq]; try rfl)
theorem before1 (c : Dev nD) (t : Fin (cfg3 A).N) (d) : (dat A V c).before 1 t d = block A V c 1 t :=
  ((dat A V c).before_in_eq_fetched 1 rfl (fun _ => rfl) (fun _ _ _ => rfl)
    (fun t => by rw [after1]; unfold Dat.blockOf block; rw [A_eq]; try rfl) t d).trans (by unfold Dat.fetched Dat.blockOf block; rw [A_eq]; try rfl)
theorem before2 (c : Dev nD) (t : Fin (cfg3 A).N) (d) : (dat A V c).before 2 t d = block A V c 2 t :=
  ((dat A V c).before_in_eq_fetched 2 rfl (fun _ => rfl) (fun _ _ _ => rfl)
    (fun t => by rw [after2]; unfold Dat.blockOf block; rw [A_eq]; try rfl) t d).trans (by unfold Dat.fetched Dat.blockOf block; rw [A_eq]; try rfl)
theorem before3 (c : Dev nD) (t : Fin (cfg3 A).N) (d) : (dat A V c).before 3 t d = block A V c 3 t :=
  ((dat A V c).before_in_eq_fetched 3 rfl (fun _ => rfl) (fun _ _ _ => rfl)
    (fun t => by rw [after3]; unfold Dat.blockOf block; rw [A_eq]; try rfl) t d).trans (by unfold Dat.fetched Dat.blockOf block; rw [A_eq]; try rfl)
theorem before4 (c : Dev nD) (t : Fin (cfg3 A).N) (d) : (dat A V c).before 4 t d = block A V c 4 t :=
  ((dat A V c).before_in_eq_fetched 4 rfl (fun _ => rfl) (fun _ _ _ => rfl)
    (fun t => by rw [after4]; unfold Dat.blockOf block; rw [A_eq]; try rfl) t d).trans (by unfold Dat.fetched Dat.blockOf block; rw [A_eq]; try rfl)
theorem before5 (c : Dev nD) (t : Fin (cfg3 A).N) (d) : (dat A V c).before 5 t d = block A V c 5 t :=
  ((dat A V c).before_in_eq_fetched 5 rfl (fun _ => rfl) (fun _ _ _ => rfl)
    (fun t => by rw [after5]; unfold Dat.blockOf block; rw [A_eq]; try rfl) t d).trans (by unfold Dat.fetched Dat.blockOf block; rw [A_eq]; try rfl)
theorem before6 (c : Dev nD) (t : Fin (cfg3 A).N) (d) : (dat A V c).before 6 t d = block A V c 6 t :=
  ((dat A V c).before_in_eq_fetched 6 rfl (fun _ => rfl) (fun _ _ _ => rfl)
    (fun t => by rw [after6]; unfold Dat.blockOf block; rw [A_eq]; try rfl) t d).trans (by unfold Dat.fetched Dat.blockOf block; rw [A_eq]; try rfl)
theorem before7 (c : Dev nD) (t : Fin (cfg3 A).N) (d) : (dat A V c).before 7 t d = block A V c 7 t :=
  ((dat A V c).before_in_eq_fetched 7 rfl (fun _ => rfl) (fun _ _ _ => rfl)
    (fun t => by rw [after7]; unfold Dat.blockOf block; rw [A_eq]; try rfl) t d).trans (by unfold Dat.fetched Dat.blockOf block; rw [A_eq]; try rfl)

/-- The body on what the pipeline calls it with. -/
abbrev bodyAt (t : Fin (cfg3 A).N) : Prog (TpuEff nD τ sig (Elt F) Λ₀ .tc) PUnit :=
  cc3__final_kernel (grid3.coords t) table (Memref.isWhole_whole _) (m0 A t) (h0 A t) (m1 A t) (h1 A t) (m2 A t) (h2 A t) (m3 A t) (h3 A t) (m4 A t) (h4 A t) (m5 A t) (h5 A t) (m6 A t) (h6 A t) (m7 A t) (h7 A t) (m8 A t) (h8 A t)

/-- What the body is entered with, and left with, at a grid point. -/
def entered (c : Dev nD) (t : Fin (cfg3 A).N) : sProp 𝕄 :=
  iprop((dat A V c).Φ t.castSucc ∗ (dat A V c).owesAt () t.castSucc
    ∗ (∃ d, owns (c : Thread nD τ) (m0 A t) fullShare ((dat A V c).before 0 t d))
    ∗ (∃ d, owns (c : Thread nD τ) (m1 A t) fullShare ((dat A V c).before 1 t d))
    ∗ (∃ d, owns (c : Thread nD τ) (m2 A t) fullShare ((dat A V c).before 2 t d))
    ∗ (∃ d, owns (c : Thread nD τ) (m3 A t) fullShare ((dat A V c).before 3 t d))
    ∗ (∃ d, owns (c : Thread nD τ) (m4 A t) fullShare ((dat A V c).before 4 t d))
    ∗ (∃ d, owns (c : Thread nD τ) (m5 A t) fullShare ((dat A V c).before 5 t d))
    ∗ (∃ d, owns (c : Thread nD τ) (m6 A t) fullShare ((dat A V c).before 6 t d))
    ∗ (∃ d, owns (c : Thread nD τ) (m7 A t) fullShare ((dat A V c).before 7 t d))
    ∗ (∃ d, owns (c : Thread nD τ) (m8 A t) fullShare ((dat A V c).before 8 t d)))

def leaves (c : Dev nD) (t : Fin (cfg3 A).N) : sProp 𝕄 :=
  iprop((dat A V c).Φ t.succ ∗ (dat A V c).owesAt () t.succ
    ∗ owns (c : Thread nD τ) (m0 A t) fullShare ((dat A V c).after 0 t)
    ∗ owns (c : Thread nD τ) (m1 A t) fullShare ((dat A V c).after 1 t)
    ∗ owns (c : Thread nD τ) (m2 A t) fullShare ((dat A V c).after 2 t)
    ∗ owns (c : Thread nD τ) (m3 A t) fullShare ((dat A V c).after 3 t)
    ∗ owns (c : Thread nD τ) (m4 A t) fullShare ((dat A V c).after 4 t)
    ∗ owns (c : Thread nD τ) (m5 A t) fullShare ((dat A V c).after 5 t)
    ∗ owns (c : Thread nD τ) (m6 A t) fullShare ((dat A V c).after 6 t)
    ∗ owns (c : Thread nD τ) (m7 A t) fullShare ((dat A V c).after 7 t)
    ∗ owns (c : Thread nD τ) (m8 A t) fullShare ((dat A V c).after 8 t))

theorem prefHeld_eq (c : Dev nD) : (Pipeline.prefHeld pre3 c (fun _ => fullShare) A.1 : sProp 𝕄) = heldAt c table (A.1 0) := by
  unfold Pipeline.prefHeld
  rw [show (Finset.univ : Finset (Fin 1)) = {0} from by decide, bigSep_singleton]
  rfl

theorem body_sound (c : Dev nD) (t : Fin (cfg3 A).N) :
    entered A V c t ⊢ wp frame (wpE (defs₀ (F := F)) Variants.none c none) Set.univ (bodyAt A t) (fun _ => leaves A V c t) := by
  unfold entered leaves bodyAt
  simp only [before0, before1, before2, before3, before4, before5, before6, before7]
  rw [show (dat A V c).Φ t.succ = (dat A V c).Φ t.castSucc from rfl,
    show (dat A V c).owesAt () t.succ = (dat A V c).owesAt () t.castSucc from rfl,
    after0, after1, after2, after3, after4, after5, after6, after7, after8]
  rw [show (dat A V c).Φ t.castSucc = iprop(iprop(Pipeline.scopedRest (Ix := Unit) (Name := ℕ) (U := UR sig nD τ) (Lvl := ℕ) (Val := Elt F) spec3 c ∗ ∃ r, prngReg c r)
    ∗ Pipeline.prefHeld pre3 c (fun _ => fullShare) A.1) from rfl, prefHeld_eq A c]
  unfold leftAt left
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run c (grid3.coords t) _ _ _ _ _ _ _ _ _ _ _ _ _ _ _ _ _ _ (block A V c 0 t) (block A V c 1 t) (block A V c 2 t) (block A V c 3 t) (block A V c 4 t) (block A V c 5 t) (block A V c 6 t) (block A V c 7 t) (A.1 0)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HT]; · iexact HT
  iintro ⟨H0, H1, H2, H3, H4, H5, H6, H7, ⟨%e, H8⟩, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover c _ _ _ _ _ _ _ _ _ _ _ _ _ _ _ _ _ _ _ _ _ _ _ _ _ _ _ _)

theorem row (t : Fin (cfg3 A).N) : defs₀ (F := F) .tc (cfg3 A).body ((cfg3 A).bodyArgs t ((cfg3 A).slots t)) = bodyAt A t := by
  unfold defs₀; rw [Defs.onTc_tc]

theorem body_obligation (c : Dev nD) : BodyObligation (dat A V c) (defs₀ (F := F)) Variants.none () Set.univ := fun t => by
  rw [bigSep_W3, bigSep_W3, row]
  exact triple_restated (body_sound A V c t) rfl .rfl fun _ => .rfl

end Cert.Whole.FinalCall

end
-- ==== Proof.FinalSeg.lean ====
/- The last call as a segment of the whole kernel's run: entered from the buffers held before it, left at those after it. -/
module

public import proofs.«01_k».proof.Proof.Gen.Own.KernelIdeal.RegionsD
public import proofs.«01_k».proof.Proof.FinalCall
public import Idealize.ShloMosaic.Lib.Pipeline.RegionArraysT
public import Idealize.ShloMosaic.Lib.Pipeline.RegionsLoop
public import proofs.«01_k».proof.Proof.Levels

@[expose] public section

noncomputable section

namespace Cert.Whole.FinalCall

open Cert.KernelIdeal Cert.KernelIdeal.Gen Cert.KernelIdeal.Own
open Cert.Whole
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

section
variable (m : (ℓ : Loc nD τ sig) → Buf (Elt F) ℓ) (outs : Outs (F := F)) (a : (p : Fin 4) → (pcfgs (F := F) p).Adm)
variable (pdats : (p : Fin 4) → (c : Dev nD) → Dat τ (Elt F) Unit ℕ (UR sig nD τ) ℕ (Pipeline.pin (pcfgs (F := F)) a p) c)

/-- The call's arrays as it is entered. -/
abbrev entry (c : Dev nD) (b : Ref sig .tc) : Buf (Elt F) ((c : Thread nD τ).loc b) := V7 m outs c (Proc.devRef .tc b)

variable (hd : ∀ c, pdats 3 c = dat (a 3) (entry m outs) c)
variable (ht : ∀ (c : Dev nD) (k : Fin 1), entry m outs c (pre3.ref k) = (a 3).1 k)
variable (ho : ∀ c : Dev nD, outs 8 main_v9 c = (dat (a 3) (entry m outs) c).arrAt 8 (cfg3 (a 3)).N)

set_option backward.isDefEq.respectTransparency.types false in
include hd in
/-- The call as a segment of the run. -/
def seg : RegionSeg (pcfgs (F := F)) a pdats () defs₀ Variants.none L lv 3 :=
  Pipeline.RegionSeg.ofArraysT (pcfgs (F := F)) a pdats () defs₀ Variants.none L lv 3 (fun _ => 0)
    (fun c => iprop(∃ r, prngReg c r)) (fun c => iprop(∃ r, prngReg c r)) launch₀3
    (fun c => by rw [hd c]; exact (body_obligation (a 3) (entry m outs) c).loose) (fun c _ => by rw [hd c]; rfl) (fun c => by rw [hd c]; rfl)
    (fun c => by rw [hd c]; exact .rfl) (fun c => by rw [hd c]; exact .rfl) (fun _ => 0) (cut a 3)
    (fun c => Pipeline.unscopedRestP pre3 spec3 c (entry m outs c))

set_option backward.isDefEq.respectTransparency.types false in
include ht in
theorem pre (c : Dev nD) :
    iprop(StableHlo.held (c : Thread nD τ) (Pipeline.ucRefs τ sig) (V7 m outs c) ∗ E (F := F) 3 c) ⊢ (seg m outs a pdats hd).pre c := by
  show _ ⊢ iprop((pdats 3 c).arrays ((pdats 3 c).arrAt · 0) ∗ Pipeline.prefHeld pre3 c (fun _ => fullShare) (a 3).1
    ∗ (∃ r, prngReg c r) ∗ Pipeline.unscopedRestP pre3 spec3 c (entry m outs c)
    ∗ ∃ W, owes (c : Thread nD τ) (0 : CellTallies nD τ sig Unit) W)
  have hs : (unscopedBufs c (entry m outs c) : sProp 𝕄)
      ⊢ iprop((pdats 3 c).arrays ((pdats 3 c).arrAt · 0) ∗ Pipeline.unscopedRest spec3 c (entry m outs c)) :=
    Pipeline.arrays_of_unscopedBufs_shared (pcfgs (F := F)) a pdats (p := 3) winFacts₀3 sharedIn3 arr_whole3 c (fun _ _ => by rw [hd c]; rfl)
      (entry m outs c) (fun _ => by rw [hd c]; rfl)
  have hr := Pipeline.unscopedRest_split (Ix := Unit) (Name := ℕ) (U := UR sig nD τ) (Lvl := ℕ) preFacts3 c (entry m outs c)
  rw [show (fun k => entry m outs c (pre3.ref k)) = (a 3).1 from funext (ht c)] at hr
  rw [← Pipeline.unscopedBufs_held (Ix := Unit) (Name := ℕ) (U := UR sig nD τ) (Lvl := ℕ) c (V7 m outs c)]
  unfold E
  iintro ⟨Hu, Hp, HO⟩
  ihave Ha := hs $$ [Hu]; · iexact Hu
  icases Ha with ⟨Ha, Hr⟩
  ihave Hq := (Entails.of_eq hr) $$ [Hr]; · iexact Hr
  icases Hq with ⟨Ht, Hr⟩
  isplitl [Ha]; · iexact Ha
  isplitl [Ht]; · iexact Ht
  isplitl [Hp]; · iexact Hp
  isplitl [Hr]; · iexact Hr
  iexact HO

theorem out_in : ∀ w : Fin 9, w ≠ 8 → (spec3 w).isOut = false := by decide
theorem ne_out : ∀ w : Fin 9, w ≠ 8 → Pipeline.arrRef spec3 w ≠ main_v9 := by decide

include ho in
theorem arr_at (c : Dev nD) (w : Fin 9) :
    (dat (a 3) (entry m outs) c).arrAt w (cfg3 (a 3)).N = V8 m outs c (Proc.devRef .tc (Pipeline.arrRef spec3 w)) := by
  by_cases hw : w = 8
  · subst hw
    rw [← ho c]
    exact (Function.update_self (Proc.devRef .tc main_v9) (outs 8 main_v9 c) (V7 m outs c)).symm
  · refine ((dat (a 3) (entry m outs) c).arrAt_in w (out_in w hw) _).trans ?_
    exact (Function.update_of_ne (StableHlo.devRef_ne_of_ne (ne_out w hw)) (outs 8 main_v9 c) (V7 m outs c)).symm

theorem rest_at (c : Dev nD) (b : Ref sig .tc) (hb : b ∉ Finset.univ.image (Pipeline.arrRef spec3)) :
    V8 m outs c (Proc.devRef .tc b) = V7 m outs c (Proc.devRef .tc b) :=
  Function.update_of_ne (StableHlo.devRef_ne_of_ne (fun h => hb (Finset.mem_image.mpr ⟨8, Finset.mem_univ _, h.symm⟩))) (outs 8 main_v9 c) (V7 m outs c)

set_option backward.isDefEq.respectTransparency.types false in
include ht ho in
theorem post (c : Dev nD) :
    (seg m outs a pdats hd).post c ⊢ iprop(StableHlo.held (c : Thread nD τ) (Pipeline.ucRefs τ sig) (V8 m outs c) ∗ E (F := F) 4 c) := by
  show iprop((pdats 3 c).arrays ((pdats 3 c).arrAt · (cfg3 (a 3)).N) ∗ Pipeline.prefHeld pre3 c (fun _ => fullShare) (a 3).1
    ∗ (∃ r, prngReg c r) ∗ Pipeline.unscopedRestP pre3 spec3 c (entry m outs c)
    ∗ ∃ W, owes (c : Thread nD τ) (0 : CellTallies nD τ sig Unit) W) ⊢ _
  have hs : iprop((pdats 3 c).arrays ((pdats 3 c).arrAt · (cfg3 (a 3)).N) ∗ Pipeline.unscopedRest spec3 c (entry m outs c))
      ⊢ (unscopedBufs c (fun b => V8 m outs c (Proc.devRef .tc b)) : sProp 𝕄) :=
    Pipeline.unscopedBufs_of_arrays_shared (p := 3) (pcfgs (F := F)) a winFacts₀3 sharedIn3 arr_whole3 c pdats (fun _ _ => by rw [hd c]; rfl)
      (entry m outs c) (fun b => V8 m outs c (Proc.devRef .tc b))
      ((pdats 3 c).arrAt · (cfg3 (a 3)).N) (fun w => by rw [hd c]; exact arr_at m outs a ho c w)
      (rest_at m outs c)
  have hr := Pipeline.unscopedRest_split (Ix := Unit) (Name := ℕ) (U := UR sig nD τ) (Lvl := ℕ) preFacts3 c (entry m outs c)
  rw [show (fun k => entry m outs c (pre3.ref k)) = (a 3).1 from funext (ht c)] at hr
  rw [← Pipeline.unscopedBufs_held (Ix := Unit) (Name := ℕ) (U := UR sig nD τ) (Lvl := ℕ) c (V8 m outs c)]
  unfold E
  iintro ⟨Ha, Ht, Hp, Hr, HO⟩
  isplitl [Ha Ht Hr]
  · iapply hs
    isplitl [Ha]; · iexact Ha
    iapply (Entails.of_eq hr.symm)
    isplitl [Ht]; · iexact Ht
    iexact Hr
  isplitl [Hp]; · iexact Hp
  iexact HO

end

end Cert.Whole.FinalCall

end
-- ==== Proof.Run.lean ====
/- The whole kernel's run: given what its calls leave, every run ends with each buffer that lives through it at the contents the calls and
   the host's operations between them give. -/
module

public import proofs.«01_k».proof.Proof.Gen.Own.KernelIdeal.RegionsD
public import proofs.«01_k».proof.Proof.AttnSeg
public import Idealize.ShloMosaic.Lib.Pipeline.RegionArraysT
public import Idealize.ShloMosaic.Lib.Pipeline.RegionsLoop
public import proofs.«01_k».proof.Proof.FinalSeg

@[expose] public section

noncomputable section

namespace Cert.Whole

open Cert.KernelIdeal Cert.KernelIdeal.Gen Cert.KernelIdeal.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- What the calls leave (`outs`) and the tables they find (`A`, `B`), each from what is held as the call is entered. -/
structure Left (m : (ℓ : Loc nD τ sig) → Buf (Elt F) ℓ) (outs : Outs (F := F)) (A : (pcfg2 (F := F)).Adm) (B : (pcfg3 (F := F)).Adm) : Prop where
  o0 : ∀ c : Dev nD, outs 2 main_v2_0 c = (K0.dat (F := F) (U := UR sig nD τ) (Lvl := ℕ) (Ix := Unit) Variants.none (Ve0 m) (fun _ => 0) c).arrAt 5 cfg0.N
  o1 : ∀ c : Dev nD, outs 2 main_v2_1 c = (K0.dat (F := F) (U := UR sig nD τ) (Lvl := ℕ) (Ix := Unit) Variants.none (Ve0 m) (fun _ => 0) c).arrAt 6 cfg0.N
  o2 : ∀ c : Dev nD, outs 2 main_v2_2 c = (K0.dat (F := F) (U := UR sig nD τ) (Lvl := ℕ) (Ix := Unit) Variants.none (Ve0 m) (fun _ => 0) c).arrAt 7 cfg0.N
  o3 : ∀ c : Dev nD, outs 2 main_v2_3 c = (K0.dat (F := F) (U := UR sig nD τ) (Lvl := ℕ) (Ix := Unit) Variants.none (Ve0 m) (fun _ => 0) c).arrAt 8 cfg0.N
  o4 : ∀ c : Dev nD, outs 2 main_v2_4 c = (K0.dat (F := F) (U := UR sig nD τ) (Lvl := ℕ) (Ix := Unit) Variants.none (Ve0 m) (fun _ => 0) c).arrAt 9 cfg0.N
  o5 : ∀ c : Dev nD, outs 4 main_v5 c = (K1.dat (F := F) (U := UR sig nD τ) (Lvl := ℕ) (Ix := Unit) Variants.none (Ve1 m outs) (fun _ => 0) c).arrAt 2 cfg1.N
  o7 : ∀ c : Dev nD, outs 6 main_v7 c = (AttnCall.dat A (AttnCall.entry m outs) c).arrAt 9 (cfg2 A).N
  o9 : ∀ c : Dev nD, outs 8 main_v9 c = (FinalCall.dat B (FinalCall.entry m outs) c).arrAt 8 (cfg3 B).N
  tA : ∀ (c : Dev nD) (k : Fin 1), AttnCall.entry m outs c (pre2.ref k) = A.1 k
  tB : ∀ (c : Dev nD) (k : Fin 1), FinalCall.entry m outs c (pre3.ref k) = B.1 k

section
variable (m : (ℓ : Loc nD τ sig) → Buf (Elt F) ℓ) (outs : Outs (F := F)) (A : (pcfg2 (F := F)).Adm) (B : (pcfg3 (F := F)).Adm)

def adm : (p : Fin 4) → (pcfgs (F := F) p).Adm
  | ⟨0, _⟩ => ⟨fun k => k.elim0, trivial⟩
  | ⟨1, _⟩ => ⟨fun k => k.elim0, trivial⟩
  | ⟨2, _⟩ => A
  | ⟨3, _⟩ => B
  | ⟨_ + 4, h⟩ => absurd h (Nat.not_lt.2 (Nat.le_add_left _ _))

def given : (p : Fin 4) → (c : Dev nD) → Dat τ (Elt F) Unit ℕ (UR sig nD τ) ℕ (Pipeline.pin (pcfgs (F := F)) (adm A B) p) c
  | ⟨0, _⟩ => fun c => K0.dat (F := F) (U := UR sig nD τ) (Lvl := ℕ) (Ix := Unit) Variants.none (Ve0 m) (fun _ => 0) c
  | ⟨1, _⟩ => fun c => K1.dat (F := F) (U := UR sig nD τ) (Lvl := ℕ) (Ix := Unit) Variants.none (Ve1 m outs) (fun _ => 0) c
  | ⟨2, _⟩ => fun c => AttnCall.dat A (AttnCall.entry m outs) c
  | ⟨3, _⟩ => fun c => FinalCall.dat B (FinalCall.entry m outs) c
  | ⟨_ + 4, h⟩ => absurd h (Nat.not_lt.2 (Nat.le_add_left _ _))

/-- Every call's data. -/
abbrev dats := pdatsD (U := UR sig nD τ) (Lvl := ℕ) m outs Variants.none (adm A B) (given m outs A B) (fun _ => 0) (fun _ => 0)

abbrev Rest : Dev nD → sProp 𝕄 := fun _ => BI.emp

end

set_option backward.isDefEq.respectTransparency.types false in
/-- Every run of the whole kernel ends, with every semaphore at zero and every buffer that lives through the run at the contents named. -/
theorem run (m : (ℓ : Loc nD τ sig) → Buf (Elt F) ℓ) (outs : Outs (F := F)) (A : (pcfg2 (F := F)).Adm) (B : (pcfg3 (F := F)).Adm) (h : Left m outs A B)
    (ρ : Dev nD → PrngReg) :
    θ_run defs (onTc (τ := τ) (main (F := F))) ⟨m, fun _ => 0, ρ⟩ (fun r => (∀ c : Dev nD, ∀ b ∈ Pipeline.ucRefs τ sig,
      r.2.mem ((c.tc : Thread nD τ).1, b) = V9 m outs c b) ∧ r.2.sem = fun _ => 0) := by
  let R0 := R0D (U := UR sig nD τ) (Lvl := ℕ) m outs Variants.none L lv () (adm A B) (given m outs A B) (fun _ => 0) (fun _ => 0) (fun _ => 0) (cut _ 0) Rest h.o0 h.o1 h.o2 h.o3 h.o4
  let R1 := R1D (U := UR sig nD τ) (Lvl := ℕ) m outs Variants.none L lv () (adm A B) (given m outs A B) (fun _ => 0) (fun _ => 0) (fun _ => 0) (cut _ 1) Rest h.o5
  let R2 := AttnCall.seg m outs (adm A B) (dats m outs A B) (fun _ => rfl)
  let R3 := FinalCall.seg m outs (adm A B) (dats m outs A B) (fun _ => rfl)
  refine Pipeline.θ_run_regions_kit_dev_sems (pcfgs (F := F)) (adm A B) (dats m outs A B) () (cellOf_inj (adm A B)) emb₁ defs₀ Variants.none L lv m ρ main
    (segs m outs Variants.none L lv E () (adm A B) (dats m outs A B) R0 R1 R2 R3)
    (fun c Q => by
      rewrite [main_chain c, Seg.run_eq_chain,
        show (segs m outs Variants.none L lv E () (adm A B) (dats m outs A B) R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [segs, Seg.pipes_host, Seg.pipes_region, Seg.pipes_nil]; decide) (fun _ => 0)
    (fun g hg => by simp [L, hg]) (fun _ => BI.emp)
    (initOf (Pipeline.cells (Pipeline.pin (pcfgs (F := F)) (adm A B)) (cellOf_inj (adm A B))) (Pipeline.launchToks (Pipeline.pin (pcfgs (F := F)) (adm A B)) (cellOf_inj (adm A B))))
    (hu₀ := ?hu)
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl,
      hpre0D m outs Variants.none L lv () (adm A B) (given m outs A B) (fun _ => 0) (fun _ => 0) (fun _ => 0) (cut _ 0) E Rest (E_in 0) h.o0 h.o1 h.o2 h.o3 h.o4 c,
      hpost0D m outs Variants.none L lv () (adm A B) (given m outs A B) (fun _ => 0) (fun _ => 0) (fun _ => 0) (cut _ 0) E Rest (E_out 1) h.o0 h.o1 h.o2 h.o3 h.o4 c,
      hpre1D m outs Variants.none L lv () (adm A B) (given m outs A B) (fun _ => 0) (fun _ => 0) (fun _ => 0) (cut _ 1) E Rest (E_in 1) h.o5 c,
      hpost1D m outs Variants.none L lv () (adm A B) (given m outs A B) (fun _ => 0) (fun _ => 0) (fun _ => 0) (cut _ 1) E Rest (E_out 2) h.o5 c,
      AttnCall.pre m outs (adm A B) (dats m outs A B) (fun _ => rfl) h.tA c, AttnCall.post m outs (adm A B) (dats m outs A B) (fun _ => rfl) h.tA h.o7 c,
      FinalCall.pre m outs (adm A B) (dats m outs A B) (fun _ => rfl) h.tB c, FinalCall.post m outs (adm A B) (dats m outs A B) (fun _ => rfl) h.tB h.o9 c,
      sep_mono .rfl (by unfold E; iintro ⟨-, HO⟩; iexact HO)⟩)
    (hinit := ?hinit)
    (QY := fun c s => ∀ b ∈ Pipeline.ucRefs τ sig, s.mem ((c.tc : Thread nD τ).1, b) = V9 m outs c b)
    (hfin := fun c s' => ?hfin) (hQ := fun _ h hz => ⟨h, funext fun g => hz g (.inr (regions_no_unscoped g.2))⟩)
  case hu =>
    iintro Hu
    imodintro
    isplitl [Hu]
    · iapply (show (ownU _ : sProp 𝕄) ⊢ BI.own (emb₁ (initOf (Pipeline.cells (Pipeline.pin (pcfgs (F := F)) (adm A B)) (cellOf_inj (adm A B))) (Pipeline.launchToks (Pipeline.pin (pcfgs (F := F)) (adm A B)) (cellOf_inj (adm A B))))) from .rfl)
      iexact Hu
    · iapply (show (BI.emp : sProp 𝕄) ⊢ bigSep Finset.univ (fun _ : Dev nD => (BI.emp : sProp 𝕄)) from by rw [BI.bigSep_emp_const])
      iempintro
  case hinit =>
    refine Pipeline.initEach L lv fun c => ?_
    rw [show (unscopedBufs c (fun b => m ((c.tc : Thread nD τ).loc b)) : sProp 𝕄) = StableHlo.held (c.tc : Thread nD τ) (Pipeline.ucRefs τ sig) (V0 m c)
      from Pipeline.unscopedBufs_held (Ix := Unit) (Name := ℕ) (U := UR sig nD τ) (Lvl := ℕ) c (V0 m c)]
    unfold E
    iintro ⟨⟨Hh, -, HO, -, Hp, -⟩, -⟩
    imodintro
    isplitl [Hh]; · iexact Hh
    isplitl [Hp]; · iexists _; iexact Hp
    iexists _; iexact HO
  case hfin =>
    unfold StableHlo.held
    iintro ⟨Hh, HSI⟩
    ihave Hr := (pointsTo_read_all (Pipeline.ucRefs τ sig) (fun b => ((c.tc : Thread nD τ).1, b)) (V9 m outs c) s') $$ [Hh HSI]
    · isplitl [Hh] <;> iassumption
    imodintro
    iexact Hr

end Cert.Whole

end
-- ==== Proof.Rows.lean ====
/- Which rows of the values the last call's windows name: at grid point `t` the block of rows before the `t`-th, the `t`-th and the one after,
   kept within the fourteen; and that a routing table of words below 196 names blocks inside the maps. -/
module

public import proofs.«01_k».proof.Proof.Gen.KernelIdeal
public import proofs.«01_k».proof.Proof.Table

@[expose] public section

noncomputable section

namespace Cert.Whole

open Cert.KernelIdeal Cert.KernelIdeal.Gen
open Idealize.ShloMosaic

variable {F : FTy → Type} [FloatOps F]

theorem rows_fin : ∀ n : Fin 14,
    (Scalar.minsi 13#32 (Scalar.maxsi 0#32 (Scalar.addi (Scalar.addi 0#32 (BitVec.ofNat 32 n.val)) 4294967295#32))).toNat = n.val - 1
    ∧ (Scalar.minsi 13#32 (Scalar.maxsi 0#32 (Scalar.addi (Scalar.addi 0#32 (BitVec.ofNat 32 n.val)) 0#32))).toNat = n.val
    ∧ (Scalar.minsi 13#32 (Scalar.maxsi 0#32 (Scalar.addi (Scalar.addi 0#32 (BitVec.ofNat 32 n.val)) 1#32))).toNat = min 13 (n.val + 1) := by
  decide +kernel

theorem at_zero (pf : pre3.Contents (Elt F)) (hz : ∀ j : S1.Idx, pf 0 j = 0#32) (h1 : S1.numel = 1) (h) :
    pf.at 0 (Rect.unit (s := S1) ![0] S1.size h) h1 = 0#32 := hz _

theorem rows_1 (pf : pre3.Contents (Elt F)) (hz : ∀ j : S1.Idx, pf 0 j = 0#32) (i : grid3.Coords) :
    cc3_transform_1 inb_S1_S1_0 numel1_S1 pf i = ![(i 0).val - 1, 0, 0] := by
  unfold cc3_transform_1
  rw [at_zero pf hz]
  dsimp only
  rw [(rows_fin ⟨(i 0).val, (i 0).isLt⟩).1]
  rfl
theorem rows_2 (pf : pre3.Contents (Elt F)) (hz : ∀ j : S1.Idx, pf 0 j = 0#32) (i : grid3.Coords) :
    cc3_transform_2 inb_S1_S1_0 numel1_S1 pf i = ![(i 0).val, 0, 0] := by
  unfold cc3_transform_2
  rw [at_zero pf hz]
  dsimp only
  rw [(rows_fin ⟨(i 0).val, (i 0).isLt⟩).2.1]
  rfl
theorem rows_3 (pf : pre3.Contents (Elt F)) (hz : ∀ j : S1.Idx, pf 0 j = 0#32) (i : grid3.Coords) :
    cc3_transform_3 inb_S1_S1_0 numel1_S1 pf i = ![min 13 ((i 0).val + 1), 0, 0] := by
  unfold cc3_transform_3
  rw [at_zero pf hz]
  dsimp only
  rw [(rows_fin ⟨(i 0).val, (i 0).isLt⟩).2.2]
  rfl

theorem rows_block (t : Fin 3 → ℕ) (n : ℕ) (hn : n < 14) (ht : t = ![n, 0, 0]) :
    ∃ h : (∀ a, (t a + 1) * S16x224x96.size a ≤ S224x224x96.size a),
      EltTy.bits .bf16 = 32 ∨ (Rect.block (s := S224x224x96) S16x224x96.size t h).WholeWords (EltTy.packing .bf16) := by
  subst ht
  refine ⟨fun a => ?_, .inr (Affine.block_words_dvd (of_decide_eq_true rfl) (by decide))⟩
  fin_cases a
  · show (n + 1) * 16 ≤ 224; omega
  · show (0 + 1) * 224 ≤ 224; omega
  · show (0 + 1) * 96 ≤ 96; omega

theorem ok3_of_zero (pf : pre3.Contents (Elt F)) (hz : ∀ j : S1.Idx, pf 0 j = 0#32) : ok3 pf :=
  ⟨fun i => rows_block _ _ (by have : (i 0).val < 14 := (i 0).isLt; omega) (rows_1 pf hz i),
   fun i => rows_block _ _ (i 0).isLt (rows_2 pf hz i),
   fun i => rows_block _ _ (by omega) (rows_3 pf hz i)⟩

/-! ## The routing table's blocks -/

/-- The table's word at a grid point and one of its four places. -/
abbrev word2 (pf : pre2.Contents (Elt F)) (i : grid2.Coords) (j : Fin 4) : BitVec 32 := pf 0 (ix2 (i 0) j)

theorem word2_at (pf : pre2.Contents (Elt F)) (i : grid2.Coords) (j : Fin 4)
    (h : ∀ a, (![(Scalar.indexCast (BitVec.ofNat 32 (i 0).val)).toNat, j.val] : Fin 2 → ℕ) a + S1x1.size a ≤ S196x4.size a) (h1 : S1x1.numel = 1) :
    pf.at 0 (Rect.unit (s := S196x4) ![(Scalar.indexCast (BitVec.ofNat 32 (i 0).val)).toNat, j.val] S1x1.size h) h1 = word2 pf i j := by
  have hi : (i 0).val < 196 := (i 0).isLt
  refine congrArg (pf 0) (funext fun a => Fin.ext ?_)
  fin_cases a
  · show (BitVec.ofNat 32 (i 0).val).toNat + 1 * 0 = (i 0).val
    rw [BitVec.toNat_ofNat]; omega
  · show j.val + 1 * 0 = j.val
    omega

open Cert.Attention (rowOf colOf block_ok)

theorem block_1 (pf : pre2.Contents (Elt F)) (i : grid2.Coords) :
    cc2_transform_1 k2_off1_inb numel1_S1x1 pf i = ![(rowOf (word2 pf i 0)).toNat, (colOf (word2 pf i 0)).toNat, 0] := by
  rw [← word2_at pf i 0 (k2_off1_inb i) numel1_S1x1]; rfl
theorem block_2 (pf : pre2.Contents (Elt F)) (i : grid2.Coords) :
    cc2_transform_2 k2_off2_inb numel1_S1x1 pf i = ![(rowOf (word2 pf i 1)).toNat, (colOf (word2 pf i 1)).toNat, 0] := by
  rw [← word2_at pf i 1 (k2_off2_inb i) numel1_S1x1]; rfl
theorem block_3 (pf : pre2.Contents (Elt F)) (i : grid2.Coords) :
    cc2_transform_3 k2_off3_inb numel1_S1x1 pf i = ![(rowOf (word2 pf i 2)).toNat, (colOf (word2 pf i 2)).toNat, 0] := by
  rw [← word2_at pf i 2 (k2_off3_inb i) numel1_S1x1]; rfl
theorem block_4 (pf : pre2.Contents (Elt F)) (i : grid2.Coords) :
    cc2_transform_4 k2_off4_inb numel1_S1x1 pf i = ![(rowOf (word2 pf i 3)).toNat, (colOf (word2 pf i 3)).toNat, 0] := by
  rw [← word2_at pf i 3 (k2_off4_inb i) numel1_S1x1]; rfl

theorem ok2_of_words (pf : pre2.Contents (Elt F)) (h : ∀ j, (pf 0 j : BitVec 32).toNat < 196) : ok2 pf :=
  ⟨fun i => block_ok _ _ (h _) (block_1 pf i), fun i => block_ok _ _ (h _) (block_2 pf i),
   fun i => block_ok _ _ (h _) (block_3 pf i), fun i => block_ok _ _ (h _) (block_4 pf i),
   fun i => block_ok _ _ (h _) (block_1 pf i), fun i => block_ok _ _ (h _) (block_2 pf i),
   fun i => block_ok _ _ (h _) (block_3 pf i), fun i => block_ok _ _ (h _) (block_4 pf i)⟩

end Cert.Whole

end
-- ==== Proof.Outs.lean ====
/- What the calls leave exists: named one call after another, each from what the calls before it left, once the routing's table is known to
   name regions whatever it is computed from. -/
module

public import proofs.«01_k».proof.Proof.Run
public import proofs.«01_k».proof.Proof.Rows

@[expose] public section

noncomputable section

namespace Cert.Whole

open Cert.KernelIdeal Cert.KernelIdeal.Gen Cert.KernelIdeal.Own
open Idealize.ShloMosaic Idealize.ShloMosaic.TcCoe

variable {F : FTy → Type} [FloatOps F]

/-- `o` with the `n`-th stage's result in `r` replaced by `v`. -/
def setOut (o : Outs (F := F)) (n : ℕ) (r : Ref sig .tc) (v : (c : Dev nD) → Buf (Elt F) ((c : Thread nD τ).loc r)) : Outs (F := F) :=
  fun n' r' c => if h : n' = n ∧ r' = r then h.2 ▸ v c else o n' r' c

theorem setOut_self (o : Outs (F := F)) (n : ℕ) (r : Ref sig .tc) (v : (c : Dev nD) → Buf (Elt F) ((c : Thread nD τ).loc r)) (c : Dev nD) :
    setOut o n r v n r c = v c := by
  unfold setOut
  rw [dif_pos ⟨rfl, rfl⟩]

theorem setOut_ne (o : Outs (F := F)) (n : ℕ) (r : Ref sig .tc) (v : (c : Dev nD) → Buf (Elt F) ((c : Thread nD τ).loc r)) (n' : ℕ) (r' : Ref sig .tc)
    (c : Dev nD) (h : n' ≠ n ∨ r' ≠ r) : setOut o n r v n' r' c = o n' r' c := by
  unfold setOut
  rw [dif_neg (fun h' => h.elim (fun k => k h'.1) (fun k => k h'.2))]

theorem slice_zero {α : Type} (f : S196x4.Idx → α) (j : S196x4.Idx) :
    Host.dynamicSlice S196x4 f (fun _ => (0#32 : BitVec 32).toInt) sliceFits_S196x4_S196x4 j = f j := by
  unfold Host.dynamicSlice
  refine congrArg f (funext fun a => Fin.ext ?_)
  fin_cases a
  · show (min (max (0#32 : BitVec 32).toInt 0) ((196 - 196 : ℕ) : ℤ)).toNat + (j 0).val = (j 0).val
    simp
  · show (min (max (0#32 : BitVec 32).toInt 0) ((4 - 4 : ℕ) : ℤ)).toNat + (j 1).val = (j 1).val
    simp

theorem zero_c (V : Valuation τ sig (Elt F)) :
    ((StableHlo.nullary main_c_0 (constantI S_ 32 0#32) (by decide)).result ((StableHlo.nullary main_c (constantI S_ 32 0#32) (by decide)).result V) (Proc.devRef .tc main_c) : IVec S_ 32)
      = constantI S_ 32 0#32 :=
  (StableHlo.nullary_result_ne main_c_0 _ _ _ (by decide)).trans (StableHlo.nullary_result main_c _ _ V)

theorem zero_c_0 (V : Valuation τ sig (Elt F)) :
    ((StableHlo.nullary main_c_0 (constantI S_ 32 0#32) (by decide)).result V (Proc.devRef .tc main_c_0) : IVec S_ 32) = constantI S_ 32 0#32 :=
  StableHlo.nullary_result main_c_0 _ _ V

/-- The attention's table is the routing's, -/
theorem table_after (V : Valuation τ sig (Elt F)) : StableHlo.after hostOps2 V (Proc.devRef .tc main_v6) = V (Proc.devRef .tc main_v5) := by
  after_results
  refine (congrArg (fun z => Host.dynamicSlice S196x4 (V (Proc.devRef .tc main_v5)) z sliceFits_S196x4_S196x4) (funext fun k => ?_)).trans
    (funext fun j => slice_zero (V (Proc.devRef .tc main_v5)) j)
  match k with
  | ⟨0, _⟩ =>
    exact congrArg (fun z : IVec S_ 32 => (z (Shape.Idx.first h_S_)).toInt) (zero_c V)
  | ⟨1, _⟩ =>
    exact congrArg (fun z : IVec S_ 32 => (z (Shape.Idx.first h_S_)).toInt) (zero_c_0 _)

/-- and the last call's offset is zero. -/
theorem offset_after (V : Valuation τ sig (Elt F)) (j : S1.Idx) : StableHlo.after hostOps3 V (Proc.devRef .tc main_v8) j = (0#32 : BitVec 32) := by
  after_results
  rfl
/-- The region means, a row each, -/
theorem means_after_q (V : Valuation τ sig (Elt F)) :
    StableHlo.after hostOps1 V (Proc.devRef .tc main_v3) = shapeCast S196x96 (V (Proc.devRef .tc main_v2_3)) shapeCasts_S14x14x96_S196x96 := by
  after_results
  rfl
theorem means_after_k (V : Valuation τ sig (Elt F)) :
    StableHlo.after hostOps1 V (Proc.devRef .tc main_v4) = shapeCast S196x96 (V (Proc.devRef .tc main_v2_4)) shapeCasts_S14x14x96_S196x96 := by
  after_results
  rfl
/-- the position weights, a row for each offset, -/
theorem weights_after (V : Valuation τ sig (Elt F)) :
    StableHlo.after hostOps0 V (Proc.devRef .tc main_v1)
      = transpose S9x96 [1, 0] (shapeCast S96x9 (V (Proc.devRef .tc main_arg7)) shapeCasts_S96x1x3x3_S96x9) transposes_S96x9_S9x96_1_0 := by
  after_results
  rfl
/-- and the result, with its leading axis. -/
theorem result_after (V : Valuation τ sig (Elt F)) :
    StableHlo.after hostOps4 V (Proc.devRef .tc main_v10) = shapeCast S1x96x224x224 (V (Proc.devRef .tc main_v9)) shapeCasts_S96x224x224_S1x96x224x224 := by
  after_results
  rfl

section
variable (m : (ℓ : Loc nD τ sig) → Buf (Elt F) ℓ) (o o' : Outs (F := F)) (c : Dev nD)

theorem V3_congr (h : ∀ r, o 2 r c = o' 2 r c) : V3 m o c = V3 m o' c := by
  unfold V3 V2
  rw [h, h, h, h, h]
theorem V5_congr (h : ∀ r, o 2 r c = o' 2 r c) (h' : ∀ r, o 4 r c = o' 4 r c) : V5 m o c = V5 m o' c := by
  unfold V5 V4
  rw [V3_congr m o o' c h, h']
theorem V7_congr (h : ∀ r, o 2 r c = o' 2 r c) (h' : ∀ r, o 4 r c = o' 4 r c) (h'' : ∀ r, o 6 r c = o' 6 r c) : V7 m o c = V7 m o' c := by
  unfold V7 V6
  rw [V5_congr m o o' c h h', h'']

/-- The attention's table as its call finds it: the routing's. -/
theorem table_eq : V5 m o c (Proc.devRef .tc main_v6) = o 4 main_v5 c := by
  exact (table_after (V4 m o c)).trans (V4_at_main_v5 m o c)

theorem offset_eq (j : S1.Idx) : V7 m o c (Proc.devRef .tc main_v8) j = (0#32 : BitVec 32) := by
  exact offset_after (V6 m o c) j
end

/-- What the calls leave, where every routing table computed by the routing's call names regions. -/
theorem left_exists (m : (ℓ : Loc nD τ sig) → Buf (Elt F) ℓ)
    (hr : ∀ (V : (c : Dev nD) → (b : Ref sig .tc) → Buf (Elt F) ((c : Thread nD τ).loc b)) (c : Dev nD) (j : S196x4.Idx),
      ((K1.dat (F := F) (U := UR sig nD τ) (Lvl := ℕ) (Ix := Unit) Variants.none V (fun _ => 0) c).arrAt 2 cfg1.N j : BitVec 32).toNat < 196) :
    ∃ (outs : Outs (F := F)) (A : (pcfg2 (F := F)).Adm) (B : (pcfg3 (F := F)).Adm), Left m outs A B := by
  let prep (c : Dev nD) := K0.dat (F := F) (U := UR sig nD τ) (Lvl := ℕ) (Ix := Unit) Variants.none (Ve0 m) (fun _ => 0) c
  obtain ⟨O, p0, p1, p2, p3, p4⟩ : ∃ O : Outs (F := F), (∀ c, O 2 main_v2_0 c = (prep c).arrAt 5 cfg0.N) ∧ (∀ c, O 2 main_v2_1 c = (prep c).arrAt 6 cfg0.N)
      ∧ (∀ c, O 2 main_v2_2 c = (prep c).arrAt 7 cfg0.N) ∧ (∀ c, O 2 main_v2_3 c = (prep c).arrAt 8 cfg0.N) ∧ (∀ c, O 2 main_v2_4 c = (prep c).arrAt 9 cfg0.N) := by
    refine ⟨setOut (setOut (setOut (setOut (setOut (fun _ r c => V0 m c (Proc.devRef .tc r)) 2 main_v2_0 fun c => (prep c).arrAt 5 cfg0.N)
      2 main_v2_1 fun c => (prep c).arrAt 6 cfg0.N) 2 main_v2_2 fun c => (prep c).arrAt 7 cfg0.N) 2 main_v2_3 fun c => (prep c).arrAt 8 cfg0.N)
      2 main_v2_4 fun c => (prep c).arrAt 9 cfg0.N, fun c => ?_, fun c => ?_, fun c => ?_, fun c => ?_, fun c => ?_⟩
    · rw [setOut_ne _ _ _ _ _ _ _ (.inr (by decide)), setOut_ne _ _ _ _ _ _ _ (.inr (by decide)), setOut_ne _ _ _ _ _ _ _ (.inr (by decide)), setOut_ne _ _ _ _ _ _ _ (.inr (by decide)), setOut_self]
    · rw [setOut_ne _ _ _ _ _ _ _ (.inr (by decide)), setOut_ne _ _ _ _ _ _ _ (.inr (by decide)), setOut_ne _ _ _ _ _ _ _ (.inr (by decide)), setOut_self]
    · rw [setOut_ne _ _ _ _ _ _ _ (.inr (by decide)), setOut_ne _ _ _ _ _ _ _ (.inr (by decide)), setOut_self]
    · rw [setOut_ne _ _ _ _ _ _ _ (.inr (by decide)), setOut_self]
    · rw [setOut_self]
  obtain ⟨O', q, q5⟩ : ∃ O' : Outs (F := F), (∀ n r c, n ≠ 4 → O' n r c = O n r c)
      ∧ (∀ c, O' 4 main_v5 c = (K1.dat (F := F) (U := UR sig nD τ) (Lvl := ℕ) (Ix := Unit) Variants.none (Ve1 m O) (fun _ => 0) c).arrAt 2 cfg1.N) :=
    ⟨setOut O 4 main_v5 fun c => (K1.dat (F := F) (U := UR sig nD τ) (Lvl := ℕ) (Ix := Unit) Variants.none (Ve1 m O) (fun _ => 0) c).arrAt 2 cfg1.N,
      fun n r c h => setOut_ne _ _ _ _ _ _ _ (.inl h), fun c => setOut_self _ _ _ _ _⟩
  have hA : ok2 (F := F) (fun k => AttnCall.entry m O' (0 : Dev nD) (pre2.ref k)) := ok2_of_words _ fun j => by
    have e : (AttnCall.entry m O' (0 : Dev nD) (pre2.ref 0)) = O' 4 main_v5 (0 : Dev nD) := table_eq m O' 0
    rw [e, q5]
    exact hr _ _ _
  obtain ⟨A, hA1⟩ : ∃ A : (pcfg2 (F := F)).Adm, A.1 = fun k => AttnCall.entry m O' (0 : Dev nD) (pre2.ref k) := ⟨⟨_, hA⟩, rfl⟩
  obtain ⟨O'', s, s7⟩ : ∃ O'' : Outs (F := F), (∀ n r c, n ≠ 6 → O'' n r c = O' n r c)
      ∧ (∀ c, O'' 6 main_v7 c = (AttnCall.dat A (AttnCall.entry m O') c).arrAt 9 (cfg2 A).N) :=
    ⟨setOut O' 6 main_v7 fun c => (AttnCall.dat A (AttnCall.entry m O') c).arrAt 9 (cfg2 A).N,
      fun n r c h => setOut_ne _ _ _ _ _ _ _ (.inl h), fun c => setOut_self _ _ _ _ _⟩
  have hB : ok3 (F := F) (fun k => FinalCall.entry m O'' (0 : Dev nD) (pre3.ref k)) := ok3_of_zero _ fun j => offset_eq m O'' 0 j
  obtain ⟨B, hB1⟩ : ∃ B : (pcfg3 (F := F)).Adm, B.1 = fun k => FinalCall.entry m O'' (0 : Dev nD) (pre3.ref k) := ⟨⟨_, hB⟩, rfl⟩
  obtain ⟨o, u, u9⟩ : ∃ o : Outs (F := F), (∀ n r c, n ≠ 8 → o n r c = O'' n r c)
      ∧ (∀ c, o 8 main_v9 c = (FinalCall.dat B (FinalCall.entry m O'') c).arrAt 8 (cfg3 B).N) :=
    ⟨setOut O'' 8 main_v9 fun c => (FinalCall.dat B (FinalCall.entry m O'') c).arrAt 8 (cfg3 B).N,
      fun n r c h => setOut_ne _ _ _ _ _ _ _ (.inl h), fun c => setOut_self _ _ _ _ _⟩
  have e2 : ∀ r c, o 2 r c = O 2 r c := fun r c => by rw [u _ _ _ (by decide), s _ _ _ (by decide), q _ _ _ (by decide)]
  have e2' : ∀ r c, o 2 r c = O' 2 r c := fun r c => by rw [u _ _ _ (by decide), s _ _ _ (by decide)]
  have e4 : ∀ r c, o 4 r c = O' 4 r c := fun r c => by rw [u _ _ _ (by decide), s _ _ _ (by decide)]
  have e6 : ∀ r c, o 6 r c = O'' 6 r c := fun r c => by rw [u _ _ _ (by decide)]
  have f3 : Ve1 m o = Ve1 m O := funext fun c => funext fun b => congrFun (V3_congr m o O c (e2 · c)) _
  have f5 : AttnCall.entry m o = AttnCall.entry m O' := funext fun c => funext fun b => congrFun (V5_congr m o O' c (e2' · c) (e4 · c)) _
  have f7 : FinalCall.entry m o = FinalCall.entry m O'' := funext fun c => funext fun b =>
    congrFun (V7_congr m o O'' c (fun r => u _ _ _ (by decide)) (fun r => u _ _ _ (by decide)) (e6 · c)) _
  refine ⟨o, A, B, fun c => (e2 _ c).trans (p0 c), fun c => (e2 _ c).trans (p1 c), fun c => (e2 _ c).trans (p2 c), fun c => (e2 _ c).trans (p3 c),
    fun c => (e2 _ c).trans (p4 c), fun c => ?_, fun c => ?_, fun c => ?_, fun c k => ?_, fun c k => ?_⟩
  · rw [f3, e4, q5]
  · rw [f5, e6, s7]
  · rw [f7, u9]
  · obtain rfl : c = 0 := Subsingleton.elim _ _
    rw [f5, hA1]
  · obtain rfl : c = 0 := Subsingleton.elim _ _
    rw [f7, hB1]

end Cert.Whole

end
-- ==== Proof.Route.lean ====
/- The routing: a row of scores picks its largest, at the first place it stands, four times, each pick's score struck out before the next.
   Every pick is a region, whatever the scores are. -/
module

public import proofs.«01_k».proof.Proof.Gen.KernelIdeal.Skeleton
public import Idealize.ShloMosaic.Lib.Pointwise
public import Idealize.ShloMosaic.Lib.SortNet.Extract

@[expose] public section

noncomputable section

namespace Cert.Whole

open Cert.KernelIdeal Cert.KernelIdeal.Gen
open Idealize.ShloMosaic

/-! ## One pick from a row -/

/-- The row's largest score. -/
def top (s : Fin 196 → EReal) : EReal := Finset.univ.fold max ⊥ s

/-- The first place the largest score stands at, as a word. -/
def pick (s : Fin 196 → EReal) : BitVec 32 :=
  Finset.univ.fold IntOp.minsi 2147483647#32 fun k : Fin 196 => if top s ≤ s k then BitVec.ofNat 32 k.val else 196#32

/-- The row with the score at the word `w` struck out. -/
def strike (s : Fin 196 → EReal) (w : BitVec 32) : Fin 196 → EReal := fun j => if BitVec.ofNat 32 j.val = w then ⊥ else s j

theorem le_top (s : Fin 196 → EReal) (j : Fin 196) : s j ≤ top s :=
  (Finset.le_fold_max _).mpr (.inr ⟨j, Finset.mem_univ _, le_rfl⟩)

theorem exists_top (s : Fin 196 → EReal) : ∃ k, top s ≤ s k := by
  rcases (Finset.le_fold_max _).mp (le_refl (top s)) with h | ⟨k, -, h⟩
  · exact ⟨0, h.trans bot_le⟩
  · exact ⟨k, h⟩

theorem toInt_small (k : ℕ) (h : k < 2 ^ 31) : (BitVec.ofNat 32 k).toInt = (k : ℤ) := by
  rw [BitVec.toInt_eq_toNat_cond, BitVec.toNat_ofNat]
  omega

/-- A pick is a region: of the largest score, none as large before it. -/
theorem pick_spec (s : Fin 196 → EReal) : ∃ k : Fin 196, pick s = BitVec.ofNat 32 k.val ∧ (∀ j, s j ≤ s k) ∧ ∀ j, j < k → s j < s k := by
  classical
  obtain ⟨k, hk, hmin⟩ : ∃ k, top s ≤ s k ∧ ∀ j, j < k → ¬ top s ≤ s j := by
    have hne : (Finset.univ.filter fun k => top s ≤ s k).Nonempty := (exists_top s).elim fun k h => ⟨k, Finset.mem_filter.mpr ⟨Finset.mem_univ _, h⟩⟩
    refine ⟨Finset.min' _ hne, (Finset.mem_filter.mp (Finset.min'_mem _ hne)).2, fun j hj h => ?_⟩
    exact absurd (Finset.min'_le _ j (Finset.mem_filter.mpr ⟨Finset.mem_univ _, h⟩)) (not_le.mpr hj)
  refine ⟨k, ?_, fun j => (le_top s j).trans hk, fun j hj => (not_le.mp (hmin j hj)).trans_le hk⟩
  refine BitVec.eq_of_toInt_eq ?_
  rw [toInt_small k.val (by have := k.isLt; omega)]
  have hm : (pick s).toInt = Finset.univ.fold min (2147483647#32 : BitVec 32).toInt
      (fun k : Fin 196 => (if top s ≤ s k then BitVec.ofNat 32 k.val else 196#32 : BitVec 32).toInt) :=
    (Finset.fold_hom (op := IntOp.minsi) (op' := min) (m := BitVec.toInt) (fun a b => SortNet.toInt_minsi a b)).symm
  rw [hm]
  refine le_antisymm ((Finset.fold_min_le _).mpr (.inr ⟨k, Finset.mem_univ _, ?_⟩)) ((Finset.le_fold_min _).mpr ⟨?_, fun j _ => ?_⟩)
  · rw [if_pos hk, toInt_small k.val (by have := k.isLt; omega)]
  · have := k.isLt
    show (k.val : ℤ) ≤ 2147483647
    omega
  · have hk' := k.isLt
    by_cases h : top s ≤ s j
    · rw [if_pos h, toInt_small j.val (by have := j.isLt; omega)]
      have : k ≤ j := not_lt.mp fun hj => hmin j hj h
      exact_mod_cast this
    · rw [if_neg h]
      show (k.val : ℤ) ≤ 196
      omega

theorem pick_lt (s : Fin 196 → EReal) : (pick s).toNat < 196 := by
  obtain ⟨k, hk, -⟩ := pick_spec s
  rw [hk, BitVec.toNat_ofNat]
  have := k.isLt
  omega

/-! ## The kernel's picks -/

/-- The picks of every row of a matrix of scores. -/
def pickM (x : FVec Ideal S196x196 .f32) : IVec S196x1 32 :=
  shapeCast S196x1 (multiReductionI .minsi [1] S196
    (select (cmpf .oge x (broadcastTo S196x196 (shapeCast S196x1 (multiReduction .maximumf [1] S196 x 0xFF800000#32 reduces_S196x196_S196 (.inl rfl) rfl) shapeCasts_S196_S196x1) broadcasts_S196x1_S196x196))
      (iota .tc S196x196 32 [1] iota_S196x196_d1_w32) (broadcast S196x196 196#32)) 2147483647#32 reduces_S196x196_S196 rfl) shapeCasts_S196_S196x1

/-- The matrix with every row's pick struck out. -/
def strikeM (x : FVec Ideal S196x196 .f32) (w : IVec S196x1 32) : FVec Ideal S196x196 .f32 :=
  select (cmpi .eq (iota .tc S196x196 32 [1] iota_S196x196_d1_w32) (broadcastTo S196x196 w broadcasts_S196x1_S196x196))
    (broadcast S196x196 (Scalar.ofBits .f32 0xFF800000#32 : Ideal .f32)) x

theorem negInf : (Ideal.ofBits .f32 0xFF800000#32 : EReal) = ⊥ := by simp [Ideal.ofBits, Ideal.ieee]

theorem topM (x : FVec Ideal S196x196 .f32) (i : Fin 196) :
    multiReduction .maximumf [1] S196 x 0xFF800000#32 reduces_S196x196_S196 (.inl rfl) rfl (ix1 i) = top fun k => x (ix2 i k) := by
  pointwise []
  show Finset.fold max (Ideal.ofBits .f32 0xFF800000#32) _ _ = _
  rw [negInf]
  rfl

theorem pickM_apply (x : FVec Ideal S196x196 .f32) (i : Fin 196) : pickM x (ix2 i 0) = pick fun k => x (ix2 i k) := by
  unfold pickM
  pointwise []
  show Finset.fold IntOp.minsi _ (fun k : Fin 196 => if Finset.fold max (Ideal.ofBits .f32 0xFF800000#32) _ _ ≤ _ then _ else _) _ = _
  rw [negInf]
  rfl

theorem strikeM_apply (x : FVec Ideal S196x196 .f32) (w : IVec S196x1 32) (i j : Fin 196) :
    strikeM x w (ix2 i j) = strike (fun k => x (ix2 i k)) (w (ix2 i 0)) j := by
  unfold strikeM
  pointwise []
  show Scalar.select _ (Ideal.ofBits .f32 0xFF800000#32) _ = _
  rw [negInf]
  unfold strike IntOp.cmpi Scalar.select
  by_cases h : BitVec.ofNat 32 j.val = w (ix2 i 0)
  · simp [h]
  · rw [if_neg h, show (BitVec.ofNat 32 j.val == w (ix2 i 0)) = false from beq_eq_false_iff_ne.mpr h]
    rfl

/-! ## The four picks of a row -/

/-- A row's scores with the picks before the `n`-th struck out. -/
def rest (s : Fin 196 → EReal) : ℕ → Fin 196 → EReal
  | 0 => s
  | n + 1 => strike (rest s n) (pick (rest s n))

/-- The scores: every region's query means against every region's key means. -/
def score (x y : FVec Ideal S196x96 .f32) (i j : Fin 196) : EReal := ∑ k : Fin 96, x (ix2 i k) * y (ix2 j k)

/-- The routing table of these means. -/
def route (x y : FVec Ideal S196x96 .f32) : IVec S196x4 32 := fun j => pick (rest (score x y (j 0)) (j 1).val)

theorem pay2 (x y : FVec Ideal S196x96 .f32) (i j : Fin 196) : k1_pay2 (F := Ideal) x y (ix2 i j) = score x y i j := by
  unfold k1_pay2
  pointwise []
  rfl

theorem pay3 (x y : FVec Ideal S196x96 .f32) (i : Fin 196) : k1_pay3 (F := Ideal) x y (ix2 i 0) = pick (rest (score x y i) 0) :=
  (pickM_apply (k1_pay2 (F := Ideal) x y) i).trans (congrArg pick (funext fun k => pay2 x y i k))
theorem pay4 (x y : FVec Ideal S196x96 .f32) (i j : Fin 196) : k1_pay4 (F := Ideal) x y (ix2 i j) = rest (score x y i) 1 j :=
  (strikeM_apply (k1_pay2 (F := Ideal) x y) (k1_pay3 (F := Ideal) x y) i j).trans
    (by rw [pay3, show (fun k => k1_pay2 (F := Ideal) x y (ix2 i k)) = score x y i from funext fun k => pay2 x y i k]; rfl)
theorem pay5 (x y : FVec Ideal S196x96 .f32) (i : Fin 196) : k1_pay5 (F := Ideal) x y (ix2 i 0) = pick (rest (score x y i) 1) :=
  (pickM_apply (k1_pay4 (F := Ideal) x y) i).trans (congrArg pick (funext fun k => pay4 x y i k))
theorem pay6 (x y : FVec Ideal S196x96 .f32) (i j : Fin 196) : k1_pay6 (F := Ideal) x y (ix2 i j) = rest (score x y i) 2 j :=
  (strikeM_apply (k1_pay4 (F := Ideal) x y) (k1_pay5 (F := Ideal) x y) i j).trans
    (by rw [pay5, show (fun k => k1_pay4 (F := Ideal) x y (ix2 i k)) = rest (score x y i) 1 from funext fun k => pay4 x y i k]; rfl)
theorem pay7 (x y : FVec Ideal S196x96 .f32) (i : Fin 196) : k1_pay7 (F := Ideal) x y (ix2 i 0) = pick (rest (score x y i) 2) :=
  (pickM_apply (k1_pay6 (F := Ideal) x y) i).trans (congrArg pick (funext fun k => pay6 x y i k))
theorem pay8 (x y : FVec Ideal S196x96 .f32) (i j : Fin 196) : k1_pay8 (F := Ideal) x y (ix2 i j) = rest (score x y i) 3 j :=
  (strikeM_apply (k1_pay6 (F := Ideal) x y) (k1_pay7 (F := Ideal) x y) i j).trans
    (by rw [pay7, show (fun k => k1_pay6 (F := Ideal) x y (ix2 i k)) = rest (score x y i) 2 from funext fun k => pay6 x y i k]; rfl)
theorem last (x y : FVec Ideal S196x96 .f32) (i : Fin 196) : pickM (k1_pay8 (F := Ideal) x y) (ix2 i 0) = pick (rest (score x y i) 3) :=
  (pickM_apply (k1_pay8 (F := Ideal) x y) i).trans (congrArg pick (funext fun k => pay8 x y i k))

/-- Four columns side by side. -/
theorem columns (a b c d : IVec S196x1 32) (i : Fin 196) (n : Fin 4) :
    concatenate S196x4 1 [⟨S196x1, a⟩, ⟨S196x1, b⟩, ⟨S196x1, c⟩, ⟨S196x1, d⟩] concatenates_S196x1_S196x1_S196x1_S196x1_S196x4_d1 (ix2 i n)
      = (![a, b, c, d] n) (ix2 i 0) := by
  fin_cases n <;> pointwise [] <;> rfl

theorem picks (x y : FVec Ideal S196x96 .f32) (a b c d : IVec S196x1 32) (i : Fin 196)
    (h0 : a (ix2 i 0) = pick (rest (score x y i) 0)) (h1 : b (ix2 i 0) = pick (rest (score x y i) 1))
    (h2 : c (ix2 i 0) = pick (rest (score x y i) 2)) (h3 : d (ix2 i 0) = pick (rest (score x y i) 3)) (n : Fin 4) :
    (![a, b, c, d] n) (ix2 i 0) = pick (rest (score x y i) n.val) := by
  fin_cases n
  · exact h0
  · exact h1
  · exact h2
  · exact h3

theorem pay1 (x y : FVec Ideal S196x96 .f32) :
    k1_pay1 (F := Ideal) (iota .tc S196x196 32 [1] iota_S196x196_d1_w32) (k1_pay3 (F := Ideal) x y) (k1_pay5 (F := Ideal) x y) (k1_pay7 (F := Ideal) x y) (k1_pay8 (F := Ideal) x y) = route x y := by
  funext j
  obtain ⟨i, n, rfl⟩ : ∃ (i : Fin 196) (n : Fin 4), j = ix2 i n := ⟨j 0, j 1, eq_ix2 j⟩
  exact (columns (k1_pay3 (F := Ideal) x y) (k1_pay5 (F := Ideal) x y) (k1_pay7 (F := Ideal) x y) (pickM (k1_pay8 (F := Ideal) x y)) i n).trans (picks x y _ _ _ _ i (pay3 x y i) (pay5 x y i) (pay7 x y i) (last x y i) n)

theorem route_lt (x y : FVec Ideal S196x96 .f32) (j : S196x4.Idx) : (route x y j).toNat < 196 := pick_lt _

end Cert.Whole

end
-- ==== Proof.Spec.lean ====
/- The kernel's result in closed form, over the extended reals: the projections of the frames, the regions' means, the depthwise sum and the
   output projection. The routing is Route.lean's, the attention Array.lean's. -/
module

public import proofs.«01_k».proof.Proof.Array
public import proofs.«01_k».proof.Proof.Route
public import proofs.«01_k».proof.Proof.Gen.ReferenceIdeal

@[expose] public section

noncomputable section

namespace Cert.Whole

open Cert.ReferenceIdeal Cert.ReferenceIdeal.Gen
open Idealize.ShloMosaic

/-- The history frame: the three earlier frames, weighted. -/
def history (X : S4x96x224x224.Idx → EReal) (k : Fin 96) (y x : Fin 224) : EReal :=
  X (ix4 0 k y x) * Ideal.ofBits .f32 0x3E0A9555#32 + X (ix4 1 k y x) * Ideal.ofBits .f32 0x3D4BED86#32 + X (ix4 2 k y x) * Ideal.ofBits .f32 0x3C960AAE#32

/-- The queries, of the last frame. -/
def query (X : S4x96x224x224.Idx → EReal) (W : S96x96.Idx → EReal) (B : S96.Idx → EReal) (i : S224x224x96.Idx) : EReal :=
  (∑ k : Fin 96, X (ix4 3 k (i 0) (i 1)) * W (ix2 (i 2) k)) + B (ix1 (i 2))

/-- The queries as the attention takes them. -/
def scaled (q : S224x224x96.Idx → EReal) (i : S224x224x96.Idx) : EReal := q i * Ideal.ofBits .f32 0x3DD105EC#32

/-- A channel of the history's projection. -/
def projected (X : S4x96x224x224.Idx → EReal) (W : S192x96.Idx → EReal) (B : S192.Idx → EReal) (y x : Fin 224) (o : Fin 192) : EReal :=
  (∑ k : Fin 96, history X k y x * W (ix2 o k)) + B (ix1 o)

def keys (X : S4x96x224x224.Idx → EReal) (W : S192x96.Idx → EReal) (B : S192.Idx → EReal) (i : S224x224x96.Idx) : EReal :=
  projected X W B (i 0) (i 1) ⟨(i 2).val, by have : (i 2).val < 96 := (i 2).isLt; omega⟩

def values (X : S4x96x224x224.Idx → EReal) (W : S192x96.Idx → EReal) (B : S192.Idx → EReal) (i : S224x224x96.Idx) : EReal :=
  projected X W B (i 0) (i 1) ⟨96 + (i 2).val, by have : (i 2).val < 96 := (i 2).isLt; omega⟩

/-- The mean of a channel over region `14 * a + b`. -/
def mean (t : S224x224x96.Idx → EReal) (a b : Fin 14) (c : Fin 96) : EReal :=
  Ideal.div (∑ p : Fin 16 × Fin 16, t (ix3 ⟨a.val * 16 + p.1.val, by omega⟩ ⟨b.val * 16 + p.2.val, by omega⟩ c)) (Ideal.ofBits .f32 0x43800000#32)

/-- The means of every region. -/
def means (t : S224x224x96.Idx → EReal) (i : S196x96.Idx) : EReal :=
  mean t ⟨(i 0).val / 14, by have : (i 0).val < 196 := (i 0).isLt; omega⟩ ⟨(i 0).val % 14, by omega⟩ (i 1)

/-- The values with a border of zeros. -/
def border (v : S224x224x96.Idx → EReal) (y x : Fin 226) (c : Fin 96) : EReal :=
  if h : (1 ≤ y.val ∧ y.val ≤ 224) ∧ 1 ≤ x.val ∧ x.val ≤ 224 then v (ix3 ⟨y.val - 1, by omega⟩ ⟨x.val - 1, by omega⟩ c) else 0

/-- One of the depthwise sum's nine products. -/
def tap (v : S224x224x96.Idx → EReal) (w : S96x1x3x3.Idx → EReal) (y x : Fin 224) (c : Fin 96) (dy dx : Fin 3) : EReal :=
  border v ⟨y.val + dy.val, by omega⟩ ⟨x.val + dx.val, by omega⟩ c * w (ix4 c 0 dy dx)

/-- The depthwise sum. -/
def depthwise (v : S224x224x96.Idx → EReal) (w : S96x1x3x3.Idx → EReal) (b : S96.Idx → EReal) (y x : Fin 224) (c : Fin 96) : EReal :=
  tap v w y x c 0 0 + tap v w y x c 0 1 + tap v w y x c 0 2 + tap v w y x c 1 0 + tap v w y x c 1 1 + tap v w y x c 1 2
    + tap v w y x c 2 0 + tap v w y x c 2 1 + tap v w y x c 2 2 + b (ix1 c)

/-- The output projection of the attention and the depthwise sum. -/
def final (t : S224x224x96.Idx → EReal) (v : S224x224x96.Idx → EReal) (w : S96x1x3x3.Idx → EReal) (b : S96.Idx → EReal) (W : S96x96.Idx → EReal) (B : S96.Idx → EReal)
    (o : Fin 96) (y x : Fin 224) : EReal :=
  (∑ c : Fin 96, W (ix2 o c) * (t (ix3 y x c) + depthwise v w b y x c)) + B (ix1 o)

/-- The result. -/
def result (X : S4x96x224x224.Idx → EReal) (qw : S96x96.Idx → EReal) (qb : S96.Idx → EReal) (kw : S192x96.Idx → EReal) (kb : S192.Idx → EReal)
    (ow : S96x96.Idx → EReal) (ob : S96.Idx → EReal) (lw : S96x1x3x3.Idx → EReal) (lb : S96.Idx → EReal) (i : S1x96x224x224.Idx) : EReal :=
  final (Cert.Attention.attention (route (means (query X qw qb)) (means (keys X kw kb))) (scaled (query X qw qb)) (keys X kw kb) (values X kw kb))
    (values X kw kb) lw lb ow ob (i 1) (i 2) (i 3)

end Cert.Whole

end
-- ==== Proof.PrepArray.lean ====
/- The projection call's five results: the scaled queries, the keys, the values, and the two regional means. -/
module

public import proofs.«01_k».proof.Proof.Spec
public import proofs.«01_k».proof.Proof.Gen.Own.KernelIdeal.K0.Frame
public import Idealize.ShloMosaic.Lib.Pipeline.Value
public import Idealize.ShloMosaic.Lib.Pointwise

@[expose] public section

set_option maxRecDepth 16384

noncomputable section

namespace Cert.Whole

open Cert.KernelIdeal Cert.KernelIdeal.Gen Cert.KernelIdeal.Own
open Idealize.ShloMosaic Idealize.ShloMosaic.TcCoe Idealize.SL.Sem Idealize.ShloMosaic.Tactic

/-! ## What the body stores -/

theorem prep_out_5 (c : Dev nD) (i : grid0.Coords) (arg1 : Memref sig .tc .vmem S4x96x16x224 .f32) (harg1 : arg1.IsWhole) (arg2 : Memref sig .tc .vmem S96x96 .f32) (harg2 : arg2.IsWhole) (arg3 : Memref sig .tc .vmem S96 .f32) (harg3 : arg3.IsWhole) (arg4 : Memref sig .tc .vmem S192x96 .f32) (harg4 : arg4.IsWhole) (arg5 : Memref sig .tc .vmem S192 .f32) (harg5 : arg5.IsWhole) (arg6 : Memref sig .tc .vmem S16x224x96 .bf16) (harg6 : arg6.IsWhole) (arg7 : Memref sig .tc .vmem S16x224x96 .bf16) (harg7 : arg7.IsWhole) (arg8 : Memref sig .tc .vmem S16x224x96 .bf16) (harg8 : arg8.IsWhole) (arg9 : Memref sig .tc .vmem S1x14x96 .f32) (harg9 : arg9.IsWhole) (arg10 : Memref sig .tc .vmem S1x14x96 .f32) (harg10 : arg10.IsWhole)
    (x0 : Vec Ideal S4x96x16x224 .f32) (x1 : Vec Ideal S96x96 .f32) (x2 : Vec Ideal S96 .f32) (x3 : Vec Ideal S192x96 .f32) (x4 : Vec Ideal S192 .f32) :
    K0.out0_A_5 (F := Ideal) (Ix := Unit) (U := UR sig nD τ) (Lvl := ℕ) Variants.none c i arg1 harg1 arg2 harg2 arg3 harg3 arg4 harg4 arg5 harg5 arg6 harg6 arg7 harg7 arg8 harg8 arg9 harg9 arg10 harg10 x0 x1 x2 x3 x4 = k0_pay2 (k0_pay5 x0 x1 x2) := by
  unfold K0.out0_A_5
  rw [View.read_writes_eq_canon (h := K0.cover0_A_5 Variants.none c i arg1 harg1 arg2 harg2 arg3 harg3 arg4 harg4 arg5 harg5 arg6 harg6 arg7 harg7 arg8 harg8 arg9 harg9 arg10 harg10 x0 x1 x2 x3 x4)]
  unfold K0.kernelRun0_A
  dsimp only
  sl_unfold_words
  refine (View.canon_unit_zero (S := S16x224x96) (by funext a; fin_cases a <;> rfl) _ _).trans ?_
  simp only [View.readAt_eq_ld, harg1.read_unread, harg2.read_unread, harg3.read_unread, harg4.read_unread, harg5.read_unread]
  simp only [View.ld_unit_zero (S := S4x96x16x224) (show (![0, 0, 0, 0] : Fin 4 → ℕ) = fun _ => 0 by funext a; fin_cases a <;> rfl),
    View.ld_unit_zero (S := S96x96) (show (![0, 0] : Fin 2 → ℕ) = fun _ => 0 by funext a; fin_cases a <;> rfl),
    View.ld_unit_zero (S := S192x96) (show (![0, 0] : Fin 2 → ℕ) = fun _ => 0 by funext a; fin_cases a <;> rfl),
    View.ld_unit_zero (S := S96) (show (![0] : Fin 1 → ℕ) = fun _ => 0 by funext a; fin_cases a <;> rfl),
    View.ld_unit_zero (S := S192) (show (![0] : Fin 1 → ℕ) = fun _ => 0 by funext a; fin_cases a <;> rfl)]

theorem prep_out_6 (c : Dev nD) (i : grid0.Coords) (arg1 : Memref sig .tc .vmem S4x96x16x224 .f32) (harg1 : arg1.IsWhole) (arg2 : Memref sig .tc .vmem S96x96 .f32) (harg2 : arg2.IsWhole) (arg3 : Memref sig .tc .vmem S96 .f32) (harg3 : arg3.IsWhole) (arg4 : Memref sig .tc .vmem S192x96 .f32) (harg4 : arg4.IsWhole) (arg5 : Memref sig .tc .vmem S192 .f32) (harg5 : arg5.IsWhole) (arg6 : Memref sig .tc .vmem S16x224x96 .bf16) (harg6 : arg6.IsWhole) (arg7 : Memref sig .tc .vmem S16x224x96 .bf16) (harg7 : arg7.IsWhole) (arg8 : Memref sig .tc .vmem S16x224x96 .bf16) (harg8 : arg8.IsWhole) (arg9 : Memref sig .tc .vmem S1x14x96 .f32) (harg9 : arg9.IsWhole) (arg10 : Memref sig .tc .vmem S1x14x96 .f32) (harg10 : arg10.IsWhole)
    (x0 : Vec Ideal S4x96x16x224 .f32) (x1 : Vec Ideal S96x96 .f32) (x2 : Vec Ideal S96 .f32) (x3 : Vec Ideal S192x96 .f32) (x4 : Vec Ideal S192 .f32) :
    K0.out0_A_6 (F := Ideal) (Ix := Unit) (U := UR sig nD τ) (Lvl := ℕ) Variants.none c i arg1 harg1 arg2 harg2 arg3 harg3 arg4 harg4 arg5 harg5 arg6 harg6 arg7 harg7 arg8 harg8 arg9 harg9 arg10 harg10 x0 x1 x2 x3 x4 = k0_pay3 (k0_pay7 x0 x3 x4) := by
  unfold K0.out0_A_6
  rw [View.read_writes_eq_canon (h := K0.cover0_A_6 Variants.none c i arg1 harg1 arg2 harg2 arg3 harg3 arg4 harg4 arg5 harg5 arg6 harg6 arg7 harg7 arg8 harg8 arg9 harg9 arg10 harg10 x0 x1 x2 x3 x4)]
  unfold K0.kernelRun0_A
  dsimp only
  sl_unfold_words
  refine (View.canon_unit_zero (S := S16x224x96) (by funext a; fin_cases a <;> rfl) _ _).trans ?_
  simp only [View.readAt_eq_ld, harg1.read_unread, harg2.read_unread, harg3.read_unread, harg4.read_unread, harg5.read_unread]
  simp only [View.ld_unit_zero (S := S4x96x16x224) (show (![0, 0, 0, 0] : Fin 4 → ℕ) = fun _ => 0 by funext a; fin_cases a <;> rfl),
    View.ld_unit_zero (S := S96x96) (show (![0, 0] : Fin 2 → ℕ) = fun _ => 0 by funext a; fin_cases a <;> rfl),
    View.ld_unit_zero (S := S192x96) (show (![0, 0] : Fin 2 → ℕ) = fun _ => 0 by funext a; fin_cases a <;> rfl),
    View.ld_unit_zero (S := S96) (show (![0] : Fin 1 → ℕ) = fun _ => 0 by funext a; fin_cases a <;> rfl),
    View.ld_unit_zero (S := S192) (show (![0] : Fin 1 → ℕ) = fun _ => 0 by funext a; fin_cases a <;> rfl)]

theorem prep_out_7 (c : Dev nD) (i : grid0.Coords) (arg1 : Memref sig .tc .vmem S4x96x16x224 .f32) (harg1 : arg1.IsWhole) (arg2 : Memref sig .tc .vmem S96x96 .f32) (harg2 : arg2.IsWhole) (arg3 : Memref sig .tc .vmem S96 .f32) (harg3 : arg3.IsWhole) (arg4 : Memref sig .tc .vmem S192x96 .f32) (harg4 : arg4.IsWhole) (arg5 : Memref sig .tc .vmem S192 .f32) (harg5 : arg5.IsWhole) (arg6 : Memref sig .tc .vmem S16x224x96 .bf16) (harg6 : arg6.IsWhole) (arg7 : Memref sig .tc .vmem S16x224x96 .bf16) (harg7 : arg7.IsWhole) (arg8 : Memref sig .tc .vmem S16x224x96 .bf16) (harg8 : arg8.IsWhole) (arg9 : Memref sig .tc .vmem S1x14x96 .f32) (harg9 : arg9.IsWhole) (arg10 : Memref sig .tc .vmem S1x14x96 .f32) (harg10 : arg10.IsWhole)
    (x0 : Vec Ideal S4x96x16x224 .f32) (x1 : Vec Ideal S96x96 .f32) (x2 : Vec Ideal S96 .f32) (x3 : Vec Ideal S192x96 .f32) (x4 : Vec Ideal S192 .f32) :
    K0.out0_A_7 (F := Ideal) (Ix := Unit) (U := UR sig nD τ) (Lvl := ℕ) Variants.none c i arg1 harg1 arg2 harg2 arg3 harg3 arg4 harg4 arg5 harg5 arg6 harg6 arg7 harg7 arg8 harg8 arg9 harg9 arg10 harg10 x0 x1 x2 x3 x4 = k0_pay4 (k0_pay8 x0 x3 x4) := by
  unfold K0.out0_A_7
  rw [View.read_writes_eq_canon (h := K0.cover0_A_7 Variants.none c i arg1 harg1 arg2 harg2 arg3 harg3 arg4 harg4 arg5 harg5 arg6 harg6 arg7 harg7 arg8 harg8 arg9 harg9 arg10 harg10 x0 x1 x2 x3 x4)]
  unfold K0.kernelRun0_A
  dsimp only
  sl_unfold_words
  refine (View.canon_unit_zero (S := S16x224x96) (by funext a; fin_cases a <;> rfl) _ _).trans ?_
  simp only [View.readAt_eq_ld, harg1.read_unread, harg2.read_unread, harg3.read_unread, harg4.read_unread, harg5.read_unread]
  simp only [View.ld_unit_zero (S := S4x96x16x224) (show (![0, 0, 0, 0] : Fin 4 → ℕ) = fun _ => 0 by funext a; fin_cases a <;> rfl),
    View.ld_unit_zero (S := S96x96) (show (![0, 0] : Fin 2 → ℕ) = fun _ => 0 by funext a; fin_cases a <;> rfl),
    View.ld_unit_zero (S := S192x96) (show (![0, 0] : Fin 2 → ℕ) = fun _ => 0 by funext a; fin_cases a <;> rfl),
    View.ld_unit_zero (S := S96) (show (![0] : Fin 1 → ℕ) = fun _ => 0 by funext a; fin_cases a <;> rfl),
    View.ld_unit_zero (S := S192) (show (![0] : Fin 1 → ℕ) = fun _ => 0 by funext a; fin_cases a <;> rfl)]

theorem prep_out_8 (c : Dev nD) (i : grid0.Coords) (arg1 : Memref sig .tc .vmem S4x96x16x224 .f32) (harg1 : arg1.IsWhole) (arg2 : Memref sig .tc .vmem S96x96 .f32) (harg2 : arg2.IsWhole) (arg3 : Memref sig .tc .vmem S96 .f32) (harg3 : arg3.IsWhole) (arg4 : Memref sig .tc .vmem S192x96 .f32) (harg4 : arg4.IsWhole) (arg5 : Memref sig .tc .vmem S192 .f32) (harg5 : arg5.IsWhole) (arg6 : Memref sig .tc .vmem S16x224x96 .bf16) (harg6 : arg6.IsWhole) (arg7 : Memref sig .tc .vmem S16x224x96 .bf16) (harg7 : arg7.IsWhole) (arg8 : Memref sig .tc .vmem S16x224x96 .bf16) (harg8 : arg8.IsWhole) (arg9 : Memref sig .tc .vmem S1x14x96 .f32) (harg9 : arg9.IsWhole) (arg10 : Memref sig .tc .vmem S1x14x96 .f32) (harg10 : arg10.IsWhole)
    (x0 : Vec Ideal S4x96x16x224 .f32) (x1 : Vec Ideal S96x96 .f32) (x2 : Vec Ideal S96 .f32) (x3 : Vec Ideal S192x96 .f32) (x4 : Vec Ideal S192 .f32) :
    K0.out0_A_8 (F := Ideal) (Ix := Unit) (U := UR sig nD τ) (Lvl := ℕ) Variants.none c i arg1 harg1 arg2 harg2 arg3 harg3 arg4 harg4 arg5 harg5 arg6 harg6 arg7 harg7 arg8 harg8 arg9 harg9 arg10 harg10 x0 x1 x2 x3 x4 = k0_pay10 x0 x1 x2 := by
  unfold K0.out0_A_8
  rw [View.read_writes_eq_canon (h := K0.cover0_A_8 Variants.none c i arg1 harg1 arg2 harg2 arg3 harg3 arg4 harg4 arg5 harg5 arg6 harg6 arg7 harg7 arg8 harg8 arg9 harg9 arg10 harg10 x0 x1 x2 x3 x4)]
  unfold K0.kernelRun0_A
  dsimp only
  sl_unfold_words
  refine (View.canon_unit_zero (S := S1x14x96) (by funext a; fin_cases a <;> rfl) _ _).trans ?_
  simp only [View.readAt_eq_ld, harg1.read_unread, harg2.read_unread, harg3.read_unread, harg4.read_unread, harg5.read_unread]
  simp only [View.ld_unit_zero (S := S4x96x16x224) (show (![0, 0, 0, 0] : Fin 4 → ℕ) = fun _ => 0 by funext a; fin_cases a <;> rfl),
    View.ld_unit_zero (S := S96x96) (show (![0, 0] : Fin 2 → ℕ) = fun _ => 0 by funext a; fin_cases a <;> rfl),
    View.ld_unit_zero (S := S192x96) (show (![0, 0] : Fin 2 → ℕ) = fun _ => 0 by funext a; fin_cases a <;> rfl),
    View.ld_unit_zero (S := S96) (show (![0] : Fin 1 → ℕ) = fun _ => 0 by funext a; fin_cases a <;> rfl),
    View.ld_unit_zero (S := S192) (show (![0] : Fin 1 → ℕ) = fun _ => 0 by funext a; fin_cases a <;> rfl)]

theorem prep_out_9 (c : Dev nD) (i : grid0.Coords) (arg1 : Memref sig .tc .vmem S4x96x16x224 .f32) (harg1 : arg1.IsWhole) (arg2 : Memref sig .tc .vmem S96x96 .f32) (harg2 : arg2.IsWhole) (arg3 : Memref sig .tc .vmem S96 .f32) (harg3 : arg3.IsWhole) (arg4 : Memref sig .tc .vmem S192x96 .f32) (harg4 : arg4.IsWhole) (arg5 : Memref sig .tc .vmem S192 .f32) (harg5 : arg5.IsWhole) (arg6 : Memref sig .tc .vmem S16x224x96 .bf16) (harg6 : arg6.IsWhole) (arg7 : Memref sig .tc .vmem S16x224x96 .bf16) (harg7 : arg7.IsWhole) (arg8 : Memref sig .tc .vmem S16x224x96 .bf16) (harg8 : arg8.IsWhole) (arg9 : Memref sig .tc .vmem S1x14x96 .f32) (harg9 : arg9.IsWhole) (arg10 : Memref sig .tc .vmem S1x14x96 .f32) (harg10 : arg10.IsWhole)
    (x0 : Vec Ideal S4x96x16x224 .f32) (x1 : Vec Ideal S96x96 .f32) (x2 : Vec Ideal S96 .f32) (x3 : Vec Ideal S192x96 .f32) (x4 : Vec Ideal S192 .f32) :
    K0.out0_A_9 (F := Ideal) (Ix := Unit) (U := UR sig nD τ) (Lvl := ℕ) Variants.none c i arg1 harg1 arg2 harg2 arg3 harg3 arg4 harg4 arg5 harg5 arg6 harg6 arg7 harg7 arg8 harg8 arg9 harg9 arg10 harg10 x0 x1 x2 x3 x4 = k0_pay1 (k0_pay9 x0 x3 x4) := by
  unfold K0.out0_A_9
  rw [View.read_writes_eq_canon (h := K0.cover0_A_9 Variants.none c i arg1 harg1 arg2 harg2 arg3 harg3 arg4 harg4 arg5 harg5 arg6 harg6 arg7 harg7 arg8 harg8 arg9 harg9 arg10 harg10 x0 x1 x2 x3 x4)]
  unfold K0.kernelRun0_A
  dsimp only
  sl_unfold_words
  refine (View.canon_unit_zero (S := S1x14x96) (by funext a; fin_cases a <;> rfl) _ _).trans ?_
  simp only [View.readAt_eq_ld, harg1.read_unread, harg2.read_unread, harg3.read_unread, harg4.read_unread, harg5.read_unread]
  simp only [View.ld_unit_zero (S := S4x96x16x224) (show (![0, 0, 0, 0] : Fin 4 → ℕ) = fun _ => 0 by funext a; fin_cases a <;> rfl),
    View.ld_unit_zero (S := S96x96) (show (![0, 0] : Fin 2 → ℕ) = fun _ => 0 by funext a; fin_cases a <;> rfl),
    View.ld_unit_zero (S := S192x96) (show (![0, 0] : Fin 2 → ℕ) = fun _ => 0 by funext a; fin_cases a <;> rfl),
    View.ld_unit_zero (S := S96) (show (![0] : Fin 1 → ℕ) = fun _ => 0 by funext a; fin_cases a <;> rfl),
    View.ld_unit_zero (S := S192) (show (![0] : Fin 1 → ℕ) = fun _ => 0 by funext a; fin_cases a <;> rfl)]

/-! ## The stored blocks at an index -/

theorem sum_row (t : S16x14x16x96.Idx → EReal) (w : Fin 14) (c : Fin 96) (h : S16x14x16x96.Reduces [0, 2] S14x96) :
    (∑ i ∈ Finset.univ.filter (fun i => h.drop i = ix2 w c), t i) = ∑ p : Fin 16 × Fin 16, t (ix4 p.1 w p.2 c) := by
  refine Finset.sum_bij' (fun i _ => (i 0, i 2)) (fun p _ => ix4 p.1 w p.2 c) (fun _ _ => Finset.mem_univ _) (fun p _ => ?_) (fun i hi => ?_) (fun _ _ => rfl) (fun i hi => ?_)
  · rw [Finset.mem_filter]
    exact ⟨Finset.mem_univ _, by funext k; fin_cases k <;> rfl⟩
  · have hd := (Finset.mem_filter.mp hi).2
    have h1 : i 1 = w := congrFun hd 0
    have h2 : i 3 = c := congrFun hd 1
    funext k; fin_cases k
    · rfl
    · exact h1.symm
    · rfl
    · exact h2.symm
  · have hd := (Finset.mem_filter.mp hi).2
    have h1 : i 1 = w := congrFun hd 0
    have h2 : i 3 = c := congrFun hd 1
    refine congrArg t ?_
    funext k; fin_cases k
    · rfl
    · exact h1
    · rfl
    · exact h2

section
variable (x0 : Vec Ideal S4x96x16x224 .f32) (x1 : Vec Ideal S96x96 .f32) (x2 : Vec Ideal S96 .f32) (x3 : Vec Ideal S192x96 .f32) (x4 : Vec Ideal S192 .f32)

theorem pay_q (a : Fin 16) (x : Fin 224) (c : Fin 96) :
    k0_pay2 (F := Ideal) (k0_pay5 x0 x1 x2) (ix3 a x c) = ((∑ k : Fin 96, x0 (ix4 3 k a x) * x1 (ix2 c k)) + x2 (ix1 c)) * Ideal.ofBits .f32 0x3DD105EC#32 := by
  unfold k0_pay2 k0_pay5
  pointwise []

theorem pay_k (a : Fin 16) (x : Fin 224) (c : Fin 96) :
    k0_pay3 (F := Ideal) (k0_pay7 x0 x3 x4) (ix3 a x c)
      = (∑ k : Fin 96, (x0 (ix4 0 k a x) * Ideal.ofBits .f32 0x3E0A9555#32 + x0 (ix4 1 k a x) * Ideal.ofBits .f32 0x3D4BED86#32 + x0 (ix4 2 k a x) * Ideal.ofBits .f32 0x3C960AAE#32)
          * x3 (ix2 ⟨c.val, by omega⟩ k)) + x4 (ix1 ⟨c.val, by omega⟩) := by
  unfold k0_pay3 k0_pay7 k0_pay6
  pointwise []

theorem pay_v (a : Fin 16) (x : Fin 224) (c : Fin 96) :
    k0_pay4 (F := Ideal) (k0_pay8 x0 x3 x4) (ix3 a x c)
      = (∑ k : Fin 96, (x0 (ix4 0 k a x) * Ideal.ofBits .f32 0x3E0A9555#32 + x0 (ix4 1 k a x) * Ideal.ofBits .f32 0x3D4BED86#32 + x0 (ix4 2 k a x) * Ideal.ofBits .f32 0x3C960AAE#32)
          * x3 (ix2 ⟨96 + c.val, by omega⟩ k)) + x4 (ix1 ⟨96 + c.val, by omega⟩) := by
  unfold k0_pay4 k0_pay8 k0_pay6
  pointwise []

theorem pay_qm (u : Fin 1) (w : Fin 14) (c : Fin 96) :
    k0_pay10 (F := Ideal) x0 x1 x2 (ix3 u w c)
      = Ideal.div (∑ p : Fin 16 × Fin 16, ((∑ k : Fin 96, x0 (ix4 3 k p.1 ⟨w.val * 16 + p.2.val, by omega⟩) * x1 (ix2 c k)) + x2 (ix1 c))) (Ideal.ofBits .f32 0x43800000#32) := by
  unfold k0_pay10
  pointwise []
  refine congrArg₂ Ideal.div ?_ rfl
  refine (sum_row _ w c _).trans (Finset.sum_congr rfl fun p _ => ?_)
  unfold k0_pay5
  pointwise []
  simp only [show (p.1.val * 224 + w.val * 16 + p.2.val) % 224 = w.val * 16 + p.2.val by omega]

theorem pay_km (u : Fin 1) (w : Fin 14) (c : Fin 96) :
    k0_pay1 (F := Ideal) (k0_pay9 x0 x3 x4) (ix3 u w c)
      = Ideal.div (∑ p : Fin 16 × Fin 16, ((∑ k : Fin 96, (x0 (ix4 0 k p.1 ⟨w.val * 16 + p.2.val, by omega⟩) * Ideal.ofBits .f32 0x3E0A9555#32 + x0 (ix4 1 k p.1 ⟨w.val * 16 + p.2.val, by omega⟩) * Ideal.ofBits .f32 0x3D4BED86#32 + x0 (ix4 2 k p.1 ⟨w.val * 16 + p.2.val, by omega⟩) * Ideal.ofBits .f32 0x3C960AAE#32)
          * x3 (ix2 ⟨c.val, by omega⟩ k)) + x4 (ix1 ⟨c.val, by omega⟩))) (Ideal.ofBits .f32 0x43800000#32) := by
  unfold k0_pay1
  pointwise []
  refine congrArg₂ Ideal.div ?_ rfl
  refine (sum_row _ w c _).trans (Finset.sum_congr rfl fun p _ => ?_)
  unfold k0_pay9 k0_pay7 k0_pay6
  pointwise []
  simp only [show (p.1.val * 224 + w.val * 16 + p.2.val) % 224 = w.val * 16 + p.2.val by omega]
end

/-! ## The stored blocks as parts of the arrays -/

section
variable (X : S4x96x224x224.Idx → EReal) (n : Fin 14) (x0 : Vec Ideal S4x96x16x224 .f32)
    (hx : ∀ (f : Fin 4) (k : Fin 96) (a : Fin 16) (x : Fin 224), x0 (ix4 f k a x) = X (ix4 f k ⟨n.val * 16 + a.val, by omega⟩ x))
    (W : S96x96.Idx → EReal) (B : S96.Idx → EReal) (K : S192x96.Idx → EReal) (L : S192.Idx → EReal)
include hx

theorem val_q (a : Fin 16) (x : Fin 224) (c : Fin 96) :
    k0_pay2 (F := Ideal) (k0_pay5 x0 W B) (ix3 a x c) = scaled (query X W B) (ix3 ⟨n.val * 16 + a.val, by omega⟩ x c) := by
  refine (pay_q x0 W B a x c).trans ?_
  simp only [hx]
  rfl

theorem val_k (a : Fin 16) (x : Fin 224) (c : Fin 96) :
    k0_pay3 (F := Ideal) (k0_pay7 x0 K L) (ix3 a x c) = keys X K L (ix3 ⟨n.val * 16 + a.val, by omega⟩ x c) := by
  refine (pay_k x0 K L a x c).trans ?_
  simp only [hx]
  rfl

theorem val_v (a : Fin 16) (x : Fin 224) (c : Fin 96) :
    k0_pay4 (F := Ideal) (k0_pay8 x0 K L) (ix3 a x c) = values X K L (ix3 ⟨n.val * 16 + a.val, by omega⟩ x c) := by
  refine (pay_v x0 K L a x c).trans ?_
  simp only [hx]
  rfl

theorem val_qm (u : Fin 1) (w : Fin 14) (c : Fin 96) :
    k0_pay10 (F := Ideal) x0 W B (ix3 u w c) = mean (query X W B) n w c := by
  refine (pay_qm x0 W B u w c).trans ?_
  simp only [hx]
  rfl

theorem val_km (u : Fin 1) (w : Fin 14) (c : Fin 96) :
    k0_pay1 (F := Ideal) (k0_pay9 x0 K L) (ix3 u w c) = mean (keys X K L) n w c := by
  refine (pay_km x0 K L u w c).trans ?_
  simp only [hx]
  rfl
end

/-! ## The blocks of the arrays -/

variable (V : (c : Dev nD) → (b : Ref sig .tc) → Buf (Elt Ideal) ((c : Thread nD τ).loc b)) (D : Dev nD → CellTallies nD τ sig Unit)

theorem prep_coords : ∀ t : Fin grid0.N, (grid0.coords t 0).val = t.val := by decide +kernel

theorem prep_row : ∀ t : Fin grid0.N, (BitVec.ofNat 32 (grid0.coords t 0).val).toNat = t.val := by decide +kernel

theorem prep_x (c : Dev nD) (t : Fin cfg0.N) (f : Fin 4) (k : Fin 96) (a : Fin 16) (x : Fin 224) :
    (K0.iblk V c 0 t : Vec Ideal S4x96x16x224 .f32) (ix4 f k a x) = V c main_arg0 (ix4 f k ⟨t.val * 16 + a.val, by have : t.val < 14 := t.isLt; omega⟩ x) := by
  show V c main_arg0 (((cfg0.win 0).rect t).emb (ix4 f k a x)) = _
  refine congrArg _ (funext fun z => Fin.ext ?_)
  refine (Pipeline.Window.rect_emb_val_off (cfg0.win 0) t _ z).trans ?_
  fin_cases z
  · exact Nat.zero_add _
  · exact Nat.zero_add _
  · show (BitVec.ofNat 32 (grid0.coords t 0).val).toNat * 16 + a.val = t.val * 16 + a.val
    rw [prep_row]
  · exact Nat.zero_add _

theorem prep_iblk_1 (c : Dev nD) (t : Fin cfg0.N) : (K0.iblk V c 1 t : Vec Ideal S96x96 .f32) = V c main_arg1 := by
  funext y
  show V c main_arg1 (((cfg0.win 1).rect t).emb y) = _
  refine congrArg _ (funext fun x => Fin.ext ?_)
  refine (Pipeline.Window.rect_emb_val_off (cfg0.win 1) t _ x).trans ?_
  fin_cases x <;> exact Nat.zero_add _

theorem prep_iblk_2 (c : Dev nD) (t : Fin cfg0.N) : (K0.iblk V c 2 t : Vec Ideal S96 .f32) = V c main_arg2 := by
  funext y
  show V c main_arg2 (((cfg0.win 2).rect t).emb y) = _
  refine congrArg _ (funext fun x => Fin.ext ?_)
  refine (Pipeline.Window.rect_emb_val_off (cfg0.win 2) t _ x).trans ?_
  fin_cases x <;> exact Nat.zero_add _

theorem prep_iblk_3 (c : Dev nD) (t : Fin cfg0.N) : (K0.iblk V c 3 t : Vec Ideal S192x96 .f32) = V c main_arg3 := by
  funext y
  show V c main_arg3 (((cfg0.win 3).rect t).emb y) = _
  refine congrArg _ (funext fun x => Fin.ext ?_)
  refine (Pipeline.Window.rect_emb_val_off (cfg0.win 3) t _ x).trans ?_
  fin_cases x <;> exact Nat.zero_add _

theorem prep_iblk_4 (c : Dev nD) (t : Fin cfg0.N) : (K0.iblk V c 4 t : Vec Ideal S192 .f32) = V c main_arg4 := by
  funext y
  show V c main_arg4 (((cfg0.win 4).rect t).emb y) = _
  refine congrArg _ (funext fun x => Fin.ext ?_)
  refine (Pipeline.Window.rect_emb_val_off (cfg0.win 4) t _ x).trans ?_
  fin_cases x <;> exact Nat.zero_add _

/-! ### Output q -/

theorem prep_read_5 (G : S224x224x96.Idx → EReal) (t : Fin cfg0.N) (a : Fin 16) (x : Fin 224) (ch : Fin 96) :
    (((cfg0.win 5).blk t).view.read (Elt Ideal) G : Vec Ideal S16x224x96 .bf16) (ix3 a x ch) = G (ix3 ⟨t.val * 16 + a.val, by have : t.val < 14 := t.isLt; omega⟩ x ch) := by
  show G (((cfg0.win 5).rect t).emb (ix3 a x ch)) = _
  refine congrArg _ (funext fun z => Fin.ext ?_)
  refine (Pipeline.Window.rect_emb_val_off (cfg0.win 5) t _ z).trans ?_
  fin_cases z
  · show (BitVec.ofNat 32 (grid0.coords t 0).val).toNat * 16 + a.val = t.val * 16 + a.val
    rw [prep_row]
  · exact Nat.zero_add _
  · exact Nat.zero_add _

theorem prep_stored_5 (c : Dev nD) (t : Fin cfg0.N) :
    (K0.outsAt0 (F := Ideal) (Ix := Unit) (U := UR sig nD τ) (Lvl := ℕ) Variants.none V c t).1 = k0_pay2 (k0_pay5 (K0.iblk V c 0 t : Vec Ideal S4x96x16x224 .f32) (V c main_arg1) (V c main_arg2)) := by
  unfold K0.outsAt0
  dsimp only
  refine (prep_out_5 c (grid0.coords t) _ (K0.hs0_0 t) _ (K0.hs0_1 t) _ (K0.hs0_2 t) _ (K0.hs0_3 t) _ (K0.hs0_4 t) _ (K0.hs0_5 t) _ (K0.hs0_6 t) _ (K0.hs0_7 t) _ (K0.hs0_8 t) _ (K0.hs0_9 t) (K0.iblk V c 0 t) (K0.iblk V c 1 t) (K0.iblk V c 2 t) (K0.iblk V c 3 t) (K0.iblk V c 4 t)).trans ?_
  rw [prep_iblk_1, prep_iblk_2]

theorem prep_outs_5 (c : Dev nD) (t : Fin cfg0.N) :
    (K0.outsAt0 (F := Ideal) (Ix := Unit) (U := UR sig nD τ) (Lvl := ℕ) Variants.none V c t).1
      = (((cfg0.win 5).blk t).view.read (Elt Ideal) (scaled (query (V c main_arg0) (V c main_arg1) (V c main_arg2))) : Vec Ideal S16x224x96 .bf16) := by
  refine (prep_stored_5 V c t).trans (funext fun y => ?_)
  obtain ⟨a, x, ch, rfl⟩ : ∃ (a : Fin 16) (x : Fin 224) (ch : Fin 96), y = ix3 a x ch := ⟨y 0, y 1, y 2, eq_ix3 y⟩
  exact (val_q (V c main_arg0) t (K0.iblk V c 0 t) (prep_x V c t) (V c main_arg1) (V c main_arg2) a x ch).trans (prep_read_5 _ t a x ch).symm

theorem prep_cover_5 (i : S224x224x96.Idx) : ∃ t : Fin cfg0.N, (cfg0.win 5).flush t = true ∧ i ∈ ((cfg0.win 5).blk t).view.set := by
  have h0 : (i 0).val < 224 := (i 0).isLt
  have h1 : (i 1).val < 224 := (i 1).isLt
  have h2 : (i 2).val < 96 := (i 2).isLt
  have hN : (i 0).val / 16 < grid0.N := by rw [N_0]; omega
  refine ⟨⟨(i 0).val / 16, hN⟩, flush0_5 _, (Iff.of_eq (congrArg (i ∈ ·) (View.set_slice_whole main_v2_0 ((cfg0.win 5).rect ⟨(i 0).val / 16, hN⟩)))).mpr (Rect.mem_set_unit.mpr fun a => ?_)⟩
  fin_cases a
  · show (BitVec.ofNat 32 (grid0.coords ⟨(i 0).val / 16, hN⟩ 0).val).toNat * 16 ≤ (i 0).val ∧ (i 0).val < (BitVec.ofNat 32 (grid0.coords ⟨(i 0).val / 16, hN⟩ 0).val).toNat * 16 + 16
    rw [prep_row]
    dsimp only
    omega
  · exact ⟨(Nat.zero_le _ : 0 * 224 ≤ (i 1).val), (by omega : (i 1).val < 0 * 224 + 224)⟩
  · exact ⟨(Nat.zero_le _ : 0 * 96 ≤ (i 2).val), (by omega : (i 2).val < 0 * 96 + 96)⟩

theorem prep_array_5 (c : Dev nD) :
    (K0.dat (F := Ideal) (Ix := Unit) (U := UR sig nD τ) (Lvl := ℕ) Variants.none V D c).arrAt 5 cfg0.N = (scaled (query (V c main_arg0) (V c main_arg1) (V c main_arg2))) :=
  Pipeline.Dat.arrAt_eq_of_cover _ 5 (scaled (query (V c main_arg0) (V c main_arg1) (V c main_arg2)))
    (fun t _ => (K0.after0_5 Variants.none V D c t).trans (prep_outs_5 V c t)) prep_cover_5

/-! ### Output k -/

theorem prep_read_6 (G : S224x224x96.Idx → EReal) (t : Fin cfg0.N) (a : Fin 16) (x : Fin 224) (ch : Fin 96) :
    (((cfg0.win 6).blk t).view.read (Elt Ideal) G : Vec Ideal S16x224x96 .bf16) (ix3 a x ch) = G (ix3 ⟨t.val * 16 + a.val, by have : t.val < 14 := t.isLt; omega⟩ x ch) := by
  show G (((cfg0.win 6).rect t).emb (ix3 a x ch)) = _
  refine congrArg _ (funext fun z => Fin.ext ?_)
  refine (Pipeline.Window.rect_emb_val_off (cfg0.win 6) t _ z).trans ?_
  fin_cases z
  · show (BitVec.ofNat 32 (grid0.coords t 0).val).toNat * 16 + a.val = t.val * 16 + a.val
    rw [prep_row]
  · exact Nat.zero_add _
  · exact Nat.zero_add _

theorem prep_stored_6 (c : Dev nD) (t : Fin cfg0.N) :
    (K0.outsAt0 (F := Ideal) (Ix := Unit) (U := UR sig nD τ) (Lvl := ℕ) Variants.none V c t).2.1 = k0_pay3 (k0_pay7 (K0.iblk V c 0 t : Vec Ideal S4x96x16x224 .f32) (V c main_arg3) (V c main_arg4)) := by
  unfold K0.outsAt0
  dsimp only
  refine (prep_out_6 c (grid0.coords t) _ (K0.hs0_0 t) _ (K0.hs0_1 t) _ (K0.hs0_2 t) _ (K0.hs0_3 t) _ (K0.hs0_4 t) _ (K0.hs0_5 t) _ (K0.hs0_6 t) _ (K0.hs0_7 t) _ (K0.hs0_8 t) _ (K0.hs0_9 t) (K0.iblk V c 0 t) (K0.iblk V c 1 t) (K0.iblk V c 2 t) (K0.iblk V c 3 t) (K0.iblk V c 4 t)).trans ?_
  rw [prep_iblk_3, prep_iblk_4]

theorem prep_outs_6 (c : Dev nD) (t : Fin cfg0.N) :
    (K0.outsAt0 (F := Ideal) (Ix := Unit) (U := UR sig nD τ) (Lvl := ℕ) Variants.none V c t).2.1
      = (((cfg0.win 6).blk t).view.read (Elt Ideal) (keys (V c main_arg0) (V c main_arg3) (V c main_arg4)) : Vec Ideal S16x224x96 .bf16) := by
  refine (prep_stored_6 V c t).trans (funext fun y => ?_)
  obtain ⟨a, x, ch, rfl⟩ : ∃ (a : Fin 16) (x : Fin 224) (ch : Fin 96), y = ix3 a x ch := ⟨y 0, y 1, y 2, eq_ix3 y⟩
  exact (val_k (V c main_arg0) t (K0.iblk V c 0 t) (prep_x V c t) (V c main_arg3) (V c main_arg4) a x ch).trans (prep_read_6 _ t a x ch).symm

theorem prep_cover_6 (i : S224x224x96.Idx) : ∃ t : Fin cfg0.N, (cfg0.win 6).flush t = true ∧ i ∈ ((cfg0.win 6).blk t).view.set := by
  have h0 : (i 0).val < 224 := (i 0).isLt
  have h1 : (i 1).val < 224 := (i 1).isLt
  have h2 : (i 2).val < 96 := (i 2).isLt
  have hN : (i 0).val / 16 < grid0.N := by rw [N_0]; omega
  refine ⟨⟨(i 0).val / 16, hN⟩, flush0_6 _, (Iff.of_eq (congrArg (i ∈ ·) (View.set_slice_whole main_v2_1 ((cfg0.win 6).rect ⟨(i 0).val / 16, hN⟩)))).mpr (Rect.mem_set_unit.mpr fun a => ?_)⟩
  fin_cases a
  · show (BitVec.ofNat 32 (grid0.coords ⟨(i 0).val / 16, hN⟩ 0).val).toNat * 16 ≤ (i 0).val ∧ (i 0).val < (BitVec.ofNat 32 (grid0.coords ⟨(i 0).val / 16, hN⟩ 0).val).toNat * 16 + 16
    rw [prep_row]
    dsimp only
    omega
  · exact ⟨(Nat.zero_le _ : 0 * 224 ≤ (i 1).val), (by omega : (i 1).val < 0 * 224 + 224)⟩
  · exact ⟨(Nat.zero_le _ : 0 * 96 ≤ (i 2).val), (by omega : (i 2).val < 0 * 96 + 96)⟩

theorem prep_array_6 (c : Dev nD) :
    (K0.dat (F := Ideal) (Ix := Unit) (U := UR sig nD τ) (Lvl := ℕ) Variants.none V D c).arrAt 6 cfg0.N = (keys (V c main_arg0) (V c main_arg3) (V c main_arg4)) :=
  Pipeline.Dat.arrAt_eq_of_cover _ 6 (keys (V c main_arg0) (V c main_arg3) (V c main_arg4))
    (fun t _ => (K0.after0_6 Variants.none V D c t).trans (prep_outs_6 V c t)) prep_cover_6

/-! ### Output v -/

theorem prep_read_7 (G : S224x224x96.Idx → EReal) (t : Fin cfg0.N) (a : Fin 16) (x : Fin 224) (ch : Fin 96) :
    (((cfg0.win 7).blk t).view.read (Elt Ideal) G : Vec Ideal S16x224x96 .bf16) (ix3 a x ch) = G (ix3 ⟨t.val * 16 + a.val, by have : t.val < 14 := t.isLt; omega⟩ x ch) := by
  show G (((cfg0.win 7).rect t).emb (ix3 a x ch)) = _
  refine congrArg _ (funext fun z => Fin.ext ?_)
  refine (Pipeline.Window.rect_emb_val_off (cfg0.win 7) t _ z).trans ?_
  fin_cases z
  · show (BitVec.ofNat 32 (grid0.coords t 0).val).toNat * 16 + a.val = t.val * 16 + a.val
    rw [prep_row]
  · exact Nat.zero_add _
  · exact Nat.zero_add _

theorem prep_stored_7 (c : Dev nD) (t : Fin cfg0.N) :
    (K0.outsAt0 (F := Ideal) (Ix := Unit) (U := UR sig nD τ) (Lvl := ℕ) Variants.none V c t).2.2.1 = k0_pay4 (k0_pay8 (K0.iblk V c 0 t : Vec Ideal S4x96x16x224 .f32) (V c main_arg3) (V c main_arg4)) := by
  unfold K0.outsAt0
  dsimp only
  refine (prep_out_7 c (grid0.coords t) _ (K0.hs0_0 t) _ (K0.hs0_1 t) _ (K0.hs0_2 t) _ (K0.hs0_3 t) _ (K0.hs0_4 t) _ (K0.hs0_5 t) _ (K0.hs0_6 t) _ (K0.hs0_7 t) _ (K0.hs0_8 t) _ (K0.hs0_9 t) (K0.iblk V c 0 t) (K0.iblk V c 1 t) (K0.iblk V c 2 t) (K0.iblk V c 3 t) (K0.iblk V c 4 t)).trans ?_
  rw [prep_iblk_3, prep_iblk_4]

theorem prep_outs_7 (c : Dev nD) (t : Fin cfg0.N) :
    (K0.outsAt0 (F := Ideal) (Ix := Unit) (U := UR sig nD τ) (Lvl := ℕ) Variants.none V c t).2.2.1
      = (((cfg0.win 7).blk t).view.read (Elt Ideal) (values (V c main_arg0) (V c main_arg3) (V c main_arg4)) : Vec Ideal S16x224x96 .bf16) := by
  refine (prep_stored_7 V c t).trans (funext fun y => ?_)
  obtain ⟨a, x, ch, rfl⟩ : ∃ (a : Fin 16) (x : Fin 224) (ch : Fin 96), y = ix3 a x ch := ⟨y 0, y 1, y 2, eq_ix3 y⟩
  exact (val_v (V c main_arg0) t (K0.iblk V c 0 t) (prep_x V c t) (V c main_arg3) (V c main_arg4) a x ch).trans (prep_read_7 _ t a x ch).symm

theorem prep_cover_7 (i : S224x224x96.Idx) : ∃ t : Fin cfg0.N, (cfg0.win 7).flush t = true ∧ i ∈ ((cfg0.win 7).blk t).view.set := by
  have h0 : (i 0).val < 224 := (i 0).isLt
  have h1 : (i 1).val < 224 := (i 1).isLt
  have h2 : (i 2).val < 96 := (i 2).isLt
  have hN : (i 0).val / 16 < grid0.N := by rw [N_0]; omega
  refine ⟨⟨(i 0).val / 16, hN⟩, flush0_7 _, (Iff.of_eq (congrArg (i ∈ ·) (View.set_slice_whole main_v2_2 ((cfg0.win 7).rect ⟨(i 0).val / 16, hN⟩)))).mpr (Rect.mem_set_unit.mpr fun a => ?_)⟩
  fin_cases a
  · show (BitVec.ofNat 32 (grid0.coords ⟨(i 0).val / 16, hN⟩ 0).val).toNat * 16 ≤ (i 0).val ∧ (i 0).val < (BitVec.ofNat 32 (grid0.coords ⟨(i 0).val / 16, hN⟩ 0).val).toNat * 16 + 16
    rw [prep_row]
    dsimp only
    omega
  · exact ⟨(Nat.zero_le _ : 0 * 224 ≤ (i 1).val), (by omega : (i 1).val < 0 * 224 + 224)⟩
  · exact ⟨(Nat.zero_le _ : 0 * 96 ≤ (i 2).val), (by omega : (i 2).val < 0 * 96 + 96)⟩

theorem prep_array_7 (c : Dev nD) :
    (K0.dat (F := Ideal) (Ix := Unit) (U := UR sig nD τ) (Lvl := ℕ) Variants.none V D c).arrAt 7 cfg0.N = (values (V c main_arg0) (V c main_arg3) (V c main_arg4)) :=
  Pipeline.Dat.arrAt_eq_of_cover _ 7 (values (V c main_arg0) (V c main_arg3) (V c main_arg4))
    (fun t _ => (K0.after0_7 Variants.none V D c t).trans (prep_outs_7 V c t)) prep_cover_7

/-! ### Output qm -/

theorem prep_read_8 (G : S14x14x96.Idx → EReal) (t : Fin cfg0.N) (u : Fin 1) (w : Fin 14) (ch : Fin 96) :
    (((cfg0.win 8).blk t).view.read (Elt Ideal) G : Vec Ideal S1x14x96 .f32) (ix3 u w ch) = G (ix3 ⟨t.val, t.isLt⟩ w ch) := by
  show G (((cfg0.win 8).rect t).emb (ix3 u w ch)) = _
  refine congrArg _ (funext fun z => Fin.ext ?_)
  refine (Pipeline.Window.rect_emb_val_off (cfg0.win 8) t _ z).trans ?_
  fin_cases z
  · show (BitVec.ofNat 32 (grid0.coords t 0).val).toNat * 1 + u.val = t.val
    rw [prep_row]
    omega
  · exact Nat.zero_add _
  · exact Nat.zero_add _

theorem prep_stored_8 (c : Dev nD) (t : Fin cfg0.N) :
    (K0.outsAt0 (F := Ideal) (Ix := Unit) (U := UR sig nD τ) (Lvl := ℕ) Variants.none V c t).2.2.2.1 = k0_pay10 (K0.iblk V c 0 t : Vec Ideal S4x96x16x224 .f32) (V c main_arg1) (V c main_arg2) := by
  unfold K0.outsAt0
  dsimp only
  refine (prep_out_8 c (grid0.coords t) _ (K0.hs0_0 t) _ (K0.hs0_1 t) _ (K0.hs0_2 t) _ (K0.hs0_3 t) _ (K0.hs0_4 t) _ (K0.hs0_5 t) _ (K0.hs0_6 t) _ (K0.hs0_7 t) _ (K0.hs0_8 t) _ (K0.hs0_9 t) (K0.iblk V c 0 t) (K0.iblk V c 1 t) (K0.iblk V c 2 t) (K0.iblk V c 3 t) (K0.iblk V c 4 t)).trans ?_
  rw [prep_iblk_1, prep_iblk_2]

theorem prep_outs_8 (c : Dev nD) (t : Fin cfg0.N) :
    (K0.outsAt0 (F := Ideal) (Ix := Unit) (U := UR sig nD τ) (Lvl := ℕ) Variants.none V c t).2.2.2.1
      = (((cfg0.win 8).blk t).view.read (Elt Ideal) (fun i => mean (query (V c main_arg0) (V c main_arg1) (V c main_arg2)) (i 0) (i 1) (i 2)) : Vec Ideal S1x14x96 .f32) := by
  refine (prep_stored_8 V c t).trans (funext fun y => ?_)
  obtain ⟨u, w, ch, rfl⟩ : ∃ (u : Fin 1) (w : Fin 14) (ch : Fin 96), y = ix3 u w ch := ⟨y 0, y 1, y 2, eq_ix3 y⟩
  exact (val_qm (V c main_arg0) t (K0.iblk V c 0 t) (prep_x V c t) (V c main_arg1) (V c main_arg2) u w ch).trans (prep_read_8 (fun i => mean (query (V c main_arg0) (V c main_arg1) (V c main_arg2)) (i 0) (i 1) (i 2)) t u w ch).symm

theorem prep_cover_8 (i : S14x14x96.Idx) : ∃ t : Fin cfg0.N, (cfg0.win 8).flush t = true ∧ i ∈ ((cfg0.win 8).blk t).view.set := by
  have h0 : (i 0).val < 14 := (i 0).isLt
  have h1 : (i 1).val < 14 := (i 1).isLt
  have h2 : (i 2).val < 96 := (i 2).isLt
  have hN : (i 0).val / 1 < grid0.N := by rw [N_0]; omega
  refine ⟨⟨(i 0).val / 1, hN⟩, flush0_8 _, (Iff.of_eq (congrArg (i ∈ ·) (View.set_slice_whole main_v2_3 ((cfg0.win 8).rect ⟨(i 0).val / 1, hN⟩)))).mpr (Rect.mem_set_unit.mpr fun a => ?_)⟩
  fin_cases a
  · show (BitVec.ofNat 32 (grid0.coords ⟨(i 0).val / 1, hN⟩ 0).val).toNat * 1 ≤ (i 0).val ∧ (i 0).val < (BitVec.ofNat 32 (grid0.coords ⟨(i 0).val / 1, hN⟩ 0).val).toNat * 1 + 1
    rw [prep_row]
    dsimp only
    omega
  · exact ⟨(Nat.zero_le _ : 0 * 14 ≤ (i 1).val), (by omega : (i 1).val < 0 * 14 + 14)⟩
  · exact ⟨(Nat.zero_le _ : 0 * 96 ≤ (i 2).val), (by omega : (i 2).val < 0 * 96 + 96)⟩

theorem prep_array_8 (c : Dev nD) :
    (K0.dat (F := Ideal) (Ix := Unit) (U := UR sig nD τ) (Lvl := ℕ) Variants.none V D c).arrAt 8 cfg0.N = (fun i => mean (query (V c main_arg0) (V c main_arg1) (V c main_arg2)) (i 0) (i 1) (i 2)) :=
  Pipeline.Dat.arrAt_eq_of_cover _ 8 (fun i => mean (query (V c main_arg0) (V c main_arg1) (V c main_arg2)) (i 0) (i 1) (i 2))
    (fun t _ => (K0.after0_8 Variants.none V D c t).trans (prep_outs_8 V c t)) prep_cover_8

/-! ### Output km -/

theorem prep_read_9 (G : S14x14x96.Idx → EReal) (t : Fin cfg0.N) (u : Fin 1) (w : Fin 14) (ch : Fin 96) :
    (((cfg0.win 9).blk t).view.read (Elt Ideal) G : Vec Ideal S1x14x96 .f32) (ix3 u w ch) = G (ix3 ⟨t.val, t.isLt⟩ w ch) := by
  show G (((cfg0.win 9).rect t).emb (ix3 u w ch)) = _
  refine congrArg _ (funext fun z => Fin.ext ?_)
  refine (Pipeline.Window.rect_emb_val_off (cfg0.win 9) t _ z).trans ?_
  fin_cases z
  · show (BitVec.ofNat 32 (grid0.coords t 0).val).toNat * 1 + u.val = t.val
    rw [prep_row]
    omega
  · exact Nat.zero_add _
  · exact Nat.zero_add _

theorem prep_stored_9 (c : Dev nD) (t : Fin cfg0.N) :
    (K0.outsAt0 (F := Ideal) (Ix := Unit) (U := UR sig nD τ) (Lvl := ℕ) Variants.none V c t).2.2.2.2 = k0_pay1 (k0_pay9 (K0.iblk V c 0 t : Vec Ideal S4x96x16x224 .f32) (V c main_arg3) (V c main_arg4)) := by
  unfold K0.outsAt0
  dsimp only
  refine (prep_out_9 c (grid0.coords t) _ (K0.hs0_0 t) _ (K0.hs0_1 t) _ (K0.hs0_2 t) _ (K0.hs0_3 t) _ (K0.hs0_4 t) _ (K0.hs0_5 t) _ (K0.hs0_6 t) _ (K0.hs0_7 t) _ (K0.hs0_8 t) _ (K0.hs0_9 t) (K0.iblk V c 0 t) (K0.iblk V c 1 t) (K0.iblk V c 2 t) (K0.iblk V c 3 t) (K0.iblk V c 4 t)).trans ?_
  rw [prep_iblk_3, prep_iblk_4]

theorem prep_outs_9 (c : Dev nD) (t : Fin cfg0.N) :
    (K0.outsAt0 (F := Ideal) (Ix := Unit) (U := UR sig nD τ) (Lvl := ℕ) Variants.none V c t).2.2.2.2
      = (((cfg0.win 9).blk t).view.read (Elt Ideal) (fun i => mean (keys (V c main_arg0) (V c main_arg3) (V c main_arg4)) (i 0) (i 1) (i 2)) : Vec Ideal S1x14x96 .f32) := by
  refine (prep_stored_9 V c t).trans (funext fun y => ?_)
  obtain ⟨u, w, ch, rfl⟩ : ∃ (u : Fin 1) (w : Fin 14) (ch : Fin 96), y = ix3 u w ch := ⟨y 0, y 1, y 2, eq_ix3 y⟩
  exact (val_km (V c main_arg0) t (K0.iblk V c 0 t) (prep_x V c t) (V c main_arg3) (V c main_arg4) u w ch).trans (prep_read_9 (fun i => mean (keys (V c main_arg0) (V c main_arg3) (V c main_arg4)) (i 0) (i 1) (i 2)) t u w ch).symm

theorem prep_cover_9 (i : S14x14x96.Idx) : ∃ t : Fin cfg0.N, (cfg0.win 9).flush t = true ∧ i ∈ ((cfg0.win 9).blk t).view.set := by
  have h0 : (i 0).val < 14 := (i 0).isLt
  have h1 : (i 1).val < 14 := (i 1).isLt
  have h2 : (i 2).val < 96 := (i 2).isLt
  have hN : (i 0).val / 1 < grid0.N := by rw [N_0]; omega
  refine ⟨⟨(i 0).val / 1, hN⟩, flush0_9 _, (Iff.of_eq (congrArg (i ∈ ·) (View.set_slice_whole main_v2_4 ((cfg0.win 9).rect ⟨(i 0).val / 1, hN⟩)))).mpr (Rect.mem_set_unit.mpr fun a => ?_)⟩
  fin_cases a
  · show (BitVec.ofNat 32 (grid0.coords ⟨(i 0).val / 1, hN⟩ 0).val).toNat * 1 ≤ (i 0).val ∧ (i 0).val < (BitVec.ofNat 32 (grid0.coords ⟨(i 0).val / 1, hN⟩ 0).val).toNat * 1 + 1
    rw [prep_row]
    dsimp only
    omega
  · exact ⟨(Nat.zero_le _ : 0 * 14 ≤ (i 1).val), (by omega : (i 1).val < 0 * 14 + 14)⟩
  · exact ⟨(Nat.zero_le _ : 0 * 96 ≤ (i 2).val), (by omega : (i 2).val < 0 * 96 + 96)⟩

theorem prep_array_9 (c : Dev nD) :
    (K0.dat (F := Ideal) (Ix := Unit) (U := UR sig nD τ) (Lvl := ℕ) Variants.none V D c).arrAt 9 cfg0.N = (fun i => mean (keys (V c main_arg0) (V c main_arg3) (V c main_arg4)) (i 0) (i 1) (i 2)) :=
  Pipeline.Dat.arrAt_eq_of_cover _ 9 (fun i => mean (keys (V c main_arg0) (V c main_arg3) (V c main_arg4)) (i 0) (i 1) (i 2))
    (fun t _ => (K0.after0_9 Variants.none V D c t).trans (prep_outs_9 V c t)) prep_cover_9

end Cert.Whole

end
-- ==== Proof.RouteArray.lean ====
/- The routing call's result: the routing table of the two means it is given. -/
module

public import proofs.«01_k».proof.Proof.Route
public import proofs.«01_k».proof.Proof.Gen.Own.KernelIdeal.K1.Frame
public import Idealize.ShloMosaic.Lib.Pipeline.Value

@[expose] public section

set_option maxRecDepth 16384

noncomputable section

namespace Cert.Whole

open Cert.KernelIdeal Cert.KernelIdeal.Gen Cert.KernelIdeal.Own
open Idealize.ShloMosaic Idealize.ShloMosaic.TcCoe Idealize.SL.Sem Idealize.ShloMosaic.Tactic

theorem route_out (c : Dev nD) (arg0 : Memref sig .tc .vmem S196x96 .f32) (harg0 : arg0.IsWhole) (arg1 : Memref sig .tc .vmem S196x96 .f32) (harg1 : arg1.IsWhole)
    (arg2 : Memref sig .tc .vmem S196x4 .i32) (harg2 : arg2.IsWhole) (x0 x1 : Vec Ideal S196x96 .f32) :
    K1.out1_A_2 (F := Ideal) (Ix := Unit) (U := UR sig nD τ) (Lvl := ℕ) Variants.none c arg0 harg0 arg1 harg1 arg2 harg2 x0 x1 = route x0 x1 := by
  unfold K1.out1_A_2
  rw [View.read_writes_eq_canon (h := K1.cover1_A_2 Variants.none c arg0 harg0 arg1 harg1 arg2 harg2 x0 x1)]
  unfold K1.kernelRun1_A
  dsimp only
  sl_unfold_words
  refine (View.canon_unit_zero (S := S196x4) (by funext a; fin_cases a <;> rfl) _ _).trans ?_
  simp only [View.readAt_eq_ld, harg0.read_unread, harg1.read_unread]
  simp only [View.ld_unit_zero (S := S196x96) (show (![0, 0] : Fin 2 → ℕ) = fun _ => 0 by funext a; fin_cases a <;> rfl)]
  exact pay1 x0 x1

variable (V : (c : Dev nD) → (b : Ref sig .tc) → Buf (Elt Ideal) ((c : Thread nD τ).loc b)) (D : Dev nD → CellTallies nD τ sig Unit)

theorem route_iblk_0 (c : Dev nD) (t : Fin cfg1.N) : (K1.iblk V c 0 t : Vec Ideal S196x96 .f32) = V c main_v3 := by
  funext y
  show V c main_v3 (((cfg1.win 0).rect t).emb y) = _
  refine congrArg _ (funext fun x => Fin.ext ?_)
  refine (Pipeline.Window.rect_emb_val_off (cfg1.win 0) t _ x).trans ?_
  fin_cases x <;> exact Nat.zero_add _

theorem route_iblk_1 (c : Dev nD) (t : Fin cfg1.N) : (K1.iblk V c 1 t : Vec Ideal S196x96 .f32) = V c main_v4 := by
  funext y
  show V c main_v4 (((cfg1.win 1).rect t).emb y) = _
  refine congrArg _ (funext fun x => Fin.ext ?_)
  refine (Pipeline.Window.rect_emb_val_off (cfg1.win 1) t _ x).trans ?_
  fin_cases x <;> exact Nat.zero_add _

theorem route_outs (c : Dev nD) (t : Fin cfg1.N) :
    K1.outsAt1 (F := Ideal) (Ix := Unit) (U := UR sig nD τ) (Lvl := ℕ) Variants.none V c t = route (V c main_v3) (V c main_v4) := by
  refine (route_out c _ (K1.hs1_0 t) _ (K1.hs1_1 t) _ (K1.hs1_2 t) (K1.iblk V c 0 t) (K1.iblk V c 1 t)).trans ?_
  rw [route_iblk_0, route_iblk_1]

theorem route_read (G : S196x4.Idx → BitVec 32) (t : Fin cfg1.N) :
    (((cfg1.win 2).blk t).view.read (Elt Ideal) G : Vec Ideal S196x4 .i32) = G := by
  funext y
  show G (((cfg1.win 2).rect t).emb y) = _
  refine congrArg _ (funext fun x => Fin.ext ?_)
  refine (Pipeline.Window.rect_emb_val_off (cfg1.win 2) t _ x).trans ?_
  fin_cases x <;> exact Nat.zero_add _

theorem route_cover (i : S196x4.Idx) : ∃ t : Fin cfg1.N, (cfg1.win 2).flush t = true ∧ i ∈ ((cfg1.win 2).blk t).view.set := by
  refine ⟨t1_0, flush1_2 _, (Iff.of_eq (congrArg (i ∈ ·) (View.set_slice_whole main_v5 ((cfg1.win 2).rect t1_0)))).mpr (Rect.mem_set_unit.mpr fun a => ?_)⟩
  fin_cases a
  · exact ⟨(Nat.zero_le _ : 0 * 196 ≤ (i 0).val), (by have : (i 0).val < 196 := (i 0).isLt; omega : (i 0).val < 0 * 196 + 196)⟩
  · exact ⟨(Nat.zero_le _ : 0 * 4 ≤ (i 1).val), (by have : (i 1).val < 4 := (i 1).isLt; omega : (i 1).val < 0 * 4 + 4)⟩

/-- The routing call's array at its end. -/
theorem route_array (c : Dev nD) :
    (K1.dat (F := Ideal) (Ix := Unit) (U := UR sig nD τ) (Lvl := ℕ) Variants.none V D c).arrAt 2 cfg1.N = route (V c main_v3) (V c main_v4) :=
  Pipeline.Dat.arrAt_eq_of_cover _ 2 (route (V c main_v3) (V c main_v4))
    (fun t _ => (K1.after1_2 Variants.none V D c t).trans ((route_outs V c t).trans (route_read _ t).symm)) route_cover

end Cert.Whole

end
-- ==== Proof.AttnArray.lean ====
/- The attention call's result inside the whole kernel: the routed attention of the arrays it is given, by the table it is given. -/
module

public import proofs.«01_k».proof.Proof.AttnCall
public import proofs.«01_k».proof.Proof.Rows
public import proofs.«01_k».proof.Proof.Array

@[expose] public section

set_option maxRecDepth 16384

noncomputable section

namespace Cert.Whole.AttnCall

open Cert.KernelIdeal Cert.KernelIdeal.Gen
open Idealize.ShloMosaic Idealize.ShloMosaic.TcCoe Idealize.SL.Sem Idealize.ShloMosaic.Tactic
open Cert.Attention (flat blockOf pixel windowOf channel attention rowOf colOf)

theorem row_2 (x : Vec Ideal S16x16x96 .bf16) : k2_pay2 (F := Ideal) x = flat x := by
  unfold k2_pay2; dsimp only; rw [shapeCast_self]; rfl

theorem row_3 (x : Vec Ideal S16x16x96 .bf16) : k2_pay3 (F := Ideal) x = flat x := by
  unfold k2_pay3; dsimp only; rw [shapeCast_self]; rfl

theorem row_4 (x : Vec Ideal S16x16x96 .bf16) : k2_pay4 (F := Ideal) x = flat x := by
  unfold k2_pay4; dsimp only; rw [shapeCast_self]; rfl

theorem row_5 (x : Vec Ideal S16x16x96 .bf16) : k2_pay5 (F := Ideal) x = flat x := by
  unfold k2_pay5; dsimp only; rw [shapeCast_self]; rfl

theorem row_6 (x : Vec Ideal S16x16x96 .bf16) : k2_pay6 (F := Ideal) x = flat x := by
  unfold k2_pay6; dsimp only; rw [shapeCast_self]; rfl

theorem row_7 (x : Vec Ideal S16x16x96 .bf16) : k2_pay7 (F := Ideal) x = flat x := by
  unfold k2_pay7; dsimp only; rw [shapeCast_self]; rfl

theorem row_8 (x : Vec Ideal S16x16x96 .bf16) : k2_pay8 (F := Ideal) x = flat x := by
  unfold k2_pay8; dsimp only; rw [shapeCast_self]; rfl

theorem row_9 (x : Vec Ideal S16x16x96 .bf16) : k2_pay9 (F := Ideal) x = flat x := by
  unfold k2_pay9; dsimp only; rw [shapeCast_self]; rfl

theorem row_10 (x : Vec Ideal S16x16x96 .bf16) : k2_pay10 (F := Ideal) x = flat x := by
  unfold k2_pay10; dsimp only; rw [shapeCast_self]; rfl

set_option maxHeartbeats 1000000 in
theorem left_eq (c : Dev nD) (i : grid2.Coords) (m0 : Memref sig .tc .vmem S16x16x96 .bf16) (h0 : m0.IsWhole) (m1 : Memref sig .tc .vmem S16x16x96 .bf16) (h1 : m1.IsWhole) (m2 : Memref sig .tc .vmem S16x16x96 .bf16) (h2 : m2.IsWhole) (m3 : Memref sig .tc .vmem S16x16x96 .bf16) (h3 : m3.IsWhole) (m4 : Memref sig .tc .vmem S16x16x96 .bf16) (h4 : m4.IsWhole) (m5 : Memref sig .tc .vmem S16x16x96 .bf16) (h5 : m5.IsWhole) (m6 : Memref sig .tc .vmem S16x16x96 .bf16) (h6 : m6.IsWhole) (m7 : Memref sig .tc .vmem S16x16x96 .bf16) (h7 : m7.IsWhole) (m8 : Memref sig .tc .vmem S16x16x96 .bf16) (h8 : m8.IsWhole) (m9 : Memref sig .tc .vmem S16x16x96 .f32) (h9 : m9.IsWhole)
    (x0 x1 x2 x3 x4 x5 x6 x7 x8 : Vec Ideal S16x16x96 .bf16) :
    left (F := Ideal) c i m0 h0 m1 h1 m2 h2 m3 h3 m4 h4 m5 h5 m6 h6 m7 h7 m8 h8 m9 h9 x0 x1 x2 x3 x4 x5 x6 x7 x8
      = blockOf (flat x0) (flat x1) (flat x2) (flat x3) (flat x4) (flat x5) (flat x6) (flat x7) (flat x8) := by
  unfold left
  rw [View.read_writes_eq_canon (h := cover c i m0 h0 m1 h1 m2 h2 m3 h3 m4 h4 m5 h5 m6 h6 m7 h7 m8 h8 m9 h9 x0 x1 x2 x3 x4 x5 x6 x7 x8)]
  unfold run
  dsimp only
  sl_unfold_words
  refine (View.canon_unit_zero (S := S16x16x96) (by funext a; fin_cases a <;> rfl) _ _).trans ?_
  simp only [View.readAt_eq_ld, h0.read_unread, h1.read_unread, h2.read_unread, h3.read_unread, h4.read_unread, h5.read_unread, h6.read_unread, h7.read_unread, h8.read_unread]
  simp only [View.ld_unit_zero (S := S16x16x96) (show (![0, 0, 0] : Fin 3 → ℕ) = fun _ => 0 by funext a; fin_cases a <;> rfl)]
  unfold k2_pay12 k2_pay13
  simp only [row_2, row_3, row_4, row_5, row_6, row_7, row_8, row_9, row_10]
  generalize flat x0 = y0; generalize flat x1 = y1; generalize flat x2 = y2; generalize flat x3 = y3; generalize flat x4 = y4
  generalize flat x5 = y5; generalize flat x6 = y6; generalize flat x7 = y7; generalize flat x8 = y8
  rfl

theorem coords_val2 : ∀ t : Fin grid2.N, (grid2.coords t 0).val = t.val := by decide +kernel

theorem transform2_0 (i : grid2.Coords) : cc2_transform_0 i = ![(i 0).val / 14, (i 0).val % 14, 0] := by
  have h := Cert.Attention.rowOf_colOf_fin (i 0)
  show ![(rowOf (BitVec.ofNat 32 (i 0).val)).toNat, (colOf (BitVec.ofNat 32 (i 0).val)).toNat, 0] = _
  rw [h.1, h.2]

theorem transform2_9 (i : grid2.Coords) : cc2_transform_9 i = ![(i 0).val / 14, (i 0).val % 14, 0] := transform2_0 i

variable (A : (pcfg2 (F := Ideal)).Adm) (V : (c : Dev nD) → (b : Ref sig .tc) → Buf (Elt Ideal) ((c : Thread nD τ).loc b))

theorem block_q (c : Dev nD) (t : Fin (cfg2 A).N) (a b : Fin 16) (ch : Fin 96) :
    (block A V c 0 t : Vec Ideal S16x16x96 .bf16) (ix3 a b ch)
      = V c main_v2_0 (ix3 ⟨t.val / 14 * 16 + a, by have : t.val < 196 := t.isLt; omega⟩ ⟨t.val % 14 * 16 + b, by omega⟩ ch) := by
  show V c main_v2_0 ((((cfg2 A).win 0).rect t).emb (ix3 a b ch)) = _
  refine congrArg _ (funext fun x => Fin.ext ?_)
  refine (Pipeline.Window.rect_emb_val_off ((cfg2 A).win 0) t _ x).trans ?_
  show cc2_transform_0 (grid2.coords t) x * S16x16x96.size x + (ix3 a b ch x).val = _
  rw [transform2_0, coords_val2]
  fin_cases x
  · rfl
  · rfl
  · show 0 * 96 + ch.val = ch.val; omega

variable (hw : ∀ j : S196x4.Idx, (A.1 0 j : BitVec 32).toNat < 196)
include hw

theorem block_1 (c : Dev nD) (t : Fin (cfg2 A).N) (a b : Fin 16) (ch : Fin 96) :
    (block A V c 1 t : Vec Ideal S16x16x96 .bf16) (ix3 a b ch)
      = V c main_v2_1 (pixel (word2 A.1 (grid2.coords t) 0) ⟨a * 16 + b, by omega⟩ ch) := by
  show V c main_v2_1 ((((cfg2 A).win 1).rect t).emb (ix3 a b ch)) = _
  refine congrArg _ (funext fun x => Fin.ext ?_)
  refine (Pipeline.Window.rect_emb_val_off ((cfg2 A).win 1) t _ x).trans ?_
  show cc2_transform_1 k2_off1_inb numel1_S1x1 A.1 (grid2.coords t) x * S16x16x96.size x + (ix3 a b ch x).val = _
  rw [Cert.Whole.block_1]
  exact Cert.Attention.pixel_eq _ (hw _) a b ch x

theorem block_2 (c : Dev nD) (t : Fin (cfg2 A).N) (a b : Fin 16) (ch : Fin 96) :
    (block A V c 2 t : Vec Ideal S16x16x96 .bf16) (ix3 a b ch)
      = V c main_v2_1 (pixel (word2 A.1 (grid2.coords t) 1) ⟨a * 16 + b, by omega⟩ ch) := by
  show V c main_v2_1 ((((cfg2 A).win 2).rect t).emb (ix3 a b ch)) = _
  refine congrArg _ (funext fun x => Fin.ext ?_)
  refine (Pipeline.Window.rect_emb_val_off ((cfg2 A).win 2) t _ x).trans ?_
  show cc2_transform_2 k2_off2_inb numel1_S1x1 A.1 (grid2.coords t) x * S16x16x96.size x + (ix3 a b ch x).val = _
  rw [Cert.Whole.block_2]
  exact Cert.Attention.pixel_eq _ (hw _) a b ch x

theorem block_3 (c : Dev nD) (t : Fin (cfg2 A).N) (a b : Fin 16) (ch : Fin 96) :
    (block A V c 3 t : Vec Ideal S16x16x96 .bf16) (ix3 a b ch)
      = V c main_v2_1 (pixel (word2 A.1 (grid2.coords t) 2) ⟨a * 16 + b, by omega⟩ ch) := by
  show V c main_v2_1 ((((cfg2 A).win 3).rect t).emb (ix3 a b ch)) = _
  refine congrArg _ (funext fun x => Fin.ext ?_)
  refine (Pipeline.Window.rect_emb_val_off ((cfg2 A).win 3) t _ x).trans ?_
  show cc2_transform_3 k2_off3_inb numel1_S1x1 A.1 (grid2.coords t) x * S16x16x96.size x + (ix3 a b ch x).val = _
  rw [Cert.Whole.block_3]
  exact Cert.Attention.pixel_eq _ (hw _) a b ch x

theorem block_4 (c : Dev nD) (t : Fin (cfg2 A).N) (a b : Fin 16) (ch : Fin 96) :
    (block A V c 4 t : Vec Ideal S16x16x96 .bf16) (ix3 a b ch)
      = V c main_v2_1 (pixel (word2 A.1 (grid2.coords t) 3) ⟨a * 16 + b, by omega⟩ ch) := by
  show V c main_v2_1 ((((cfg2 A).win 4).rect t).emb (ix3 a b ch)) = _
  refine congrArg _ (funext fun x => Fin.ext ?_)
  refine (Pipeline.Window.rect_emb_val_off ((cfg2 A).win 4) t _ x).trans ?_
  show cc2_transform_4 k2_off4_inb numel1_S1x1 A.1 (grid2.coords t) x * S16x16x96.size x + (ix3 a b ch x).val = _
  rw [Cert.Whole.block_4]
  exact Cert.Attention.pixel_eq _ (hw _) a b ch x

theorem block_5 (c : Dev nD) (t : Fin (cfg2 A).N) (a b : Fin 16) (ch : Fin 96) :
    (block A V c 5 t : Vec Ideal S16x16x96 .bf16) (ix3 a b ch)
      = V c main_v2_2 (pixel (word2 A.1 (grid2.coords t) 0) ⟨a * 16 + b, by omega⟩ ch) := by
  show V c main_v2_2 ((((cfg2 A).win 5).rect t).emb (ix3 a b ch)) = _
  refine congrArg _ (funext fun x => Fin.ext ?_)
  refine (Pipeline.Window.rect_emb_val_off ((cfg2 A).win 5) t _ x).trans ?_
  show cc2_transform_1 k2_off1_inb numel1_S1x1 A.1 (grid2.coords t) x * S16x16x96.size x + (ix3 a b ch x).val = _
  rw [Cert.Whole.block_1]
  exact Cert.Attention.pixel_eq _ (hw _) a b ch x

theorem block_6 (c : Dev nD) (t : Fin (cfg2 A).N) (a b : Fin 16) (ch : Fin 96) :
    (block A V c 6 t : Vec Ideal S16x16x96 .bf16) (ix3 a b ch)
      = V c main_v2_2 (pixel (word2 A.1 (grid2.coords t) 1) ⟨a * 16 + b, by omega⟩ ch) := by
  show V c main_v2_2 ((((cfg2 A).win 6).rect t).emb (ix3 a b ch)) = _
  refine congrArg _ (funext fun x => Fin.ext ?_)
  refine (Pipeline.Window.rect_emb_val_off ((cfg2 A).win 6) t _ x).trans ?_
  show cc2_transform_2 k2_off2_inb numel1_S1x1 A.1 (grid2.coords t) x * S16x16x96.size x + (ix3 a b ch x).val = _
  rw [Cert.Whole.block_2]
  exact Cert.Attention.pixel_eq _ (hw _) a b ch x

theorem block_7 (c : Dev nD) (t : Fin (cfg2 A).N) (a b : Fin 16) (ch : Fin 96) :
    (block A V c 7 t : Vec Ideal S16x16x96 .bf16) (ix3 a b ch)
      = V c main_v2_2 (pixel (word2 A.1 (grid2.coords t) 2) ⟨a * 16 + b, by omega⟩ ch) := by
  show V c main_v2_2 ((((cfg2 A).win 7).rect t).emb (ix3 a b ch)) = _
  refine congrArg _ (funext fun x => Fin.ext ?_)
  refine (Pipeline.Window.rect_emb_val_off ((cfg2 A).win 7) t _ x).trans ?_
  show cc2_transform_3 k2_off3_inb numel1_S1x1 A.1 (grid2.coords t) x * S16x16x96.size x + (ix3 a b ch x).val = _
  rw [Cert.Whole.block_3]
  exact Cert.Attention.pixel_eq _ (hw _) a b ch x

theorem block_8 (c : Dev nD) (t : Fin (cfg2 A).N) (a b : Fin 16) (ch : Fin 96) :
    (block A V c 8 t : Vec Ideal S16x16x96 .bf16) (ix3 a b ch)
      = V c main_v2_2 (pixel (word2 A.1 (grid2.coords t) 3) ⟨a * 16 + b, by omega⟩ ch) := by
  show V c main_v2_2 ((((cfg2 A).win 8).rect t).emb (ix3 a b ch)) = _
  refine congrArg _ (funext fun x => Fin.ext ?_)
  refine (Pipeline.Window.rect_emb_val_off ((cfg2 A).win 8) t _ x).trans ?_
  show cc2_transform_4 k2_off4_inb numel1_S1x1 A.1 (grid2.coords t) x * S16x16x96.size x + (ix3 a b ch x).val = _
  rw [Cert.Whole.block_4]
  exact Cert.Attention.pixel_eq _ (hw _) a b ch x

/-- The body's block at a point, of the arrays. -/
theorem leftAt_apply (c : Dev nD) (t : Fin (cfg2 A).N) (a b : Fin 16) (ch : Fin 96) :
    (leftAt A V c t) (ix3 a b ch)
      = attention (A.1 0) (V c main_v2_0) (V c main_v2_1) (V c main_v2_2)
          (ix3 ⟨t.val / 14 * 16 + a, by have : t.val < 196 := t.isLt; omega⟩ ⟨t.val % 14 * 16 + b, by omega⟩ ch) := by
  have ht : t.val < 196 := t.isLt
  refine (congrFun (left_eq c (grid2.coords t) _ (h0 A t) _ (h1 A t) _ (h2 A t) _ (h3 A t) _ (h4 A t) _ (h5 A t)
    _ (h6 A t) _ (h7 A t) _ (h8 A t) _ (h9 A t) (block A V c 0 t) (block A V c 1 t) (block A V c 2 t) (block A V c 3 t)
    (block A V c 4 t) (block A V c 5 t) (block A V c 6 t) (block A V c 7 t) (block A V c 8 t)) (ix3 a b ch)).trans ?_
  obtain ⟨h, d, rfl⟩ : ∃ (h : Fin 8) (d : Fin 12), ch = ⟨12 * h + d, by omega⟩ :=
    ⟨⟨ch / 12, by omega⟩, ⟨ch % 12, by omega⟩, Fin.ext (by dsimp only; omega)⟩
  refine (Cert.Attention.blockOf_apply _ _ _ _ _ _ _ _ _ a b h d).trans ?_
  have hc (e : Fin 12) : (⟨12 * h + e, by omega⟩ : Fin 96) = channel ⟨12 * h + d, by omega⟩ e := Fin.ext (by
    show 12 * h.val + e.val = 12 * ((12 * h.val + d.val) / 12) + e.val; omega)
  have hd : d = ⟨(12 * h.val + d.val) % 12, Nat.mod_lt _ (by decide)⟩ := Fin.ext (by dsimp only; omega)
  have hwin : windowOf ⟨t.val / 14 * 16 + a, by omega⟩ ⟨t.val % 14 * 16 + b, by omega⟩ = grid2.coords t 0 := Fin.ext (by
    rw [coords_val2]; show (t.val / 14 * 16 + a.val) / 16 * 14 + (t.val % 14 * 16 + b.val) / 16 = t.val; omega)
  have hm (k : Fin 256) : (⟨(⟨k / 16, by omega⟩ : Fin 16) * 16 + (⟨k % 16, by omega⟩ : Fin 16), by dsimp only; omega⟩ : Fin 256) = k :=
    Fin.ext (by dsimp only; omega)
  have key (j : Fin 4) (k : Fin 256) (e : Fin 12) :
      pixel (word2 A.1 (grid2.coords t) j) ⟨(⟨k / 16, by omega⟩ : Fin 16) * 16 + (⟨k % 16, by omega⟩ : Fin 16), by dsimp only; omega⟩ ⟨12 * h + e, by omega⟩
        = pixel (A.1 0 (ix2 (windowOf ⟨t.val / 14 * 16 + a, by omega⟩ ⟨t.val % 14 * 16 + b, by omega⟩) j)) k (channel ⟨12 * h + d, by omega⟩ e) := by
    rw [hm k, hc e, hwin]
  unfold attention
  congr 1
  · funext e
    refine (block_q A V c t a b _).trans ?_
    rw [hc e]; rfl
  · funext j k e
    fin_cases j
    · exact (block_1 A V hw c t _ _ _).trans (congrArg (V c main_v2_1) (key 0 k e))
    · exact (block_2 A V hw c t _ _ _).trans (congrArg (V c main_v2_1) (key 1 k e))
    · exact (block_3 A V hw c t _ _ _).trans (congrArg (V c main_v2_1) (key 2 k e))
    · exact (block_4 A V hw c t _ _ _).trans (congrArg (V c main_v2_1) (key 3 k e))
  · funext j k e
    fin_cases j
    · exact (block_5 A V hw c t _ _ _).trans (congrArg (V c main_v2_2) (key 0 k e))
    · exact (block_6 A V hw c t _ _ _).trans (congrArg (V c main_v2_2) (key 1 k e))
    · exact (block_7 A V hw c t _ _ _).trans (congrArg (V c main_v2_2) (key 2 k e))
    · exact (block_8 A V hw c t _ _ _).trans (congrArg (V c main_v2_2) (key 3 k e))

omit hw in
theorem read_blk (G : S224x224x96.Idx → EReal) (t : Fin (cfg2 A).N) (a b : Fin 16) (ch : Fin 96) :
    ((((cfg2 A).win 9).blk t).view.read (Elt Ideal) G : Vec Ideal S16x16x96 .f32) (ix3 a b ch)
      = G (ix3 ⟨t.val / 14 * 16 + a, by have : t.val < 196 := t.isLt; omega⟩ ⟨t.val % 14 * 16 + b, by omega⟩ ch) := by
  show G ((((cfg2 A).win 9).rect t).emb (ix3 a b ch)) = _
  refine congrArg _ (funext fun x => Fin.ext ?_)
  refine (Pipeline.Window.rect_emb_val_off ((cfg2 A).win 9) t _ x).trans ?_
  show cc2_transform_9 (grid2.coords t) x * S16x16x96.size x + (ix3 a b ch x).val = _
  rw [transform2_9, coords_val2]
  fin_cases x
  · rfl
  · rfl
  · show 0 * 96 + ch.val = ch.val; omega

theorem left_read (c : Dev nD) (t : Fin (cfg2 A).N) (y : S16x16x96.Idx) :
    leftAt A V c t y = ((((cfg2 A).win 9).blk t).view.read (Elt Ideal) (attention (A.1 0) (V c main_v2_0) (V c main_v2_1) (V c main_v2_2)) : Vec Ideal S16x16x96 .f32) y := by
  obtain ⟨a, b, ch, rfl⟩ : ∃ (a b : Fin 16) (ch : Fin 96), y = ix3 a b ch := ⟨y 0, y 1, y 2, by funext k; fin_cases k <;> rfl⟩
  exact (leftAt_apply A V hw c t a b ch).trans (read_blk A _ t a b ch).symm

omit hw in
theorem mem_blk (t : Fin (cfg2 A).N) (i : S224x224x96.Idx) :
    i ∈ (((cfg2 A).win 9).blk t).view.set
      ↔ ∀ a : Fin 3, cc2_transform_9 (grid2.coords t) a * S16x16x96.size a ≤ i a ∧ (i a).val < cc2_transform_9 (grid2.coords t) a * S16x16x96.size a + S16x16x96.size a := by
  refine (Iff.of_eq (congrArg (i ∈ ·) (View.set_slice_whole main_v7 (((cfg2 A).win 9).rect t)))).trans ?_
  exact Rect.mem_set_unit

omit hw in
theorem flush9 : ∀ t : Fin grid2.N, Pipeline.Window.flushOf grid2 true cc2_transform_9 t = true := by decide +kernel

omit hw in
theorem covered (i : S224x224x96.Idx) :
    ∃ t : Fin (cfg2 A).N, ((cfg2 A).win 9).flush t = true ∧ i ∈ (((cfg2 A).win 9).blk t).view.set := by
  have h0 : (i 0).val < 224 := (i 0).isLt
  have h1 : (i 1).val < 224 := (i 1).isLt
  have h2 : (i 2).val < 96 := (i 2).isLt
  have hN : (i 0).val / 16 * 14 + (i 1).val / 16 < grid2.N := by
    have : grid2.N = 196 := by decide +kernel
    omega
  refine ⟨⟨(i 0).val / 16 * 14 + (i 1).val / 16, hN⟩, flush9 _, (mem_blk A _ i).2 ?_⟩
  rw [transform2_9, coords_val2]
  intro a
  fin_cases a
  · show ((i 0).val / 16 * 14 + (i 1).val / 16) / 14 * 16 ≤ (i 0).val ∧ (i 0).val < ((i 0).val / 16 * 14 + (i 1).val / 16) / 14 * 16 + 16; omega
  · show ((i 0).val / 16 * 14 + (i 1).val / 16) % 14 * 16 ≤ (i 1).val ∧ (i 1).val < ((i 0).val / 16 * 14 + (i 1).val / 16) % 14 * 16 + 16; omega
  · show 0 * 96 ≤ (i 2).val ∧ (i 2).val < 0 * 96 + 96; omega

/-- The attention call's array at its end. -/
theorem array (c : Dev nD) : (dat A V c).arrAt 9 (cfg2 A).N = attention (A.1 0) (V c main_v2_0) (V c main_v2_1) (V c main_v2_2) :=
  Pipeline.Dat.arrAt_eq_of_cover (dat A V c) 9 (attention (A.1 0) (V c main_v2_0) (V c main_v2_1) (V c main_v2_2))
    (fun t _ => (after9 A V c t).trans (funext (left_read A V hw c t))) (covered A)

end Cert.Whole.AttnCall

end
-- ==== Proof.FinalArray.lean ====
/- The last call's result inside the whole kernel: the output projection of the attention and the depthwise sum of the values, the rows
   above and below a block being those of the blocks next to it, and zero outside the map. -/
module

public import proofs.«01_k».proof.Proof.FinalCall
public import proofs.«01_k».proof.Proof.Rows
public import proofs.«01_k».proof.Proof.Spec
public import Idealize.ShloMosaic.Lib.Pointwise

@[expose] public section

set_option maxRecDepth 16384

noncomputable section

namespace Cert.Whole.FinalCall

open Cert.KernelIdeal Cert.KernelIdeal.Gen
open Idealize.ShloMosaic Idealize.ShloMosaic.TcCoe Idealize.SL.Sem Idealize.ShloMosaic.Tactic

/-! ## What the body stores -/

/-- The row above the block, and the one below. -/
def above (x1 : Vec Ideal S16x224x96 .bf16) : Vec Ideal S1x224x96 .bf16 := extractStridedSlice S1x224x96 ![15, 0, 0] x1 ⟨rfl, inb_S16x224x96_S1x224x96_15_0_0⟩
def below (x3 : Vec Ideal S16x224x96 .bf16) : Vec Ideal S1x224x96 .bf16 := extractStridedSlice S1x224x96 ![0, 0, 0] x3 ⟨rfl, inb_S16x224x96_S1x224x96_0_0_0⟩

theorem left_eq (c : Dev nD) (i : grid3.Coords) (m0 : Memref sig .tc .vmem S16x224x96 .f32) (h0 : m0.IsWhole) (m1 : Memref sig .tc .vmem S16x224x96 .bf16) (h1 : m1.IsWhole) (m2 : Memref sig .tc .vmem S16x224x96 .bf16) (h2 : m2.IsWhole) (m3 : Memref sig .tc .vmem S16x224x96 .bf16) (h3 : m3.IsWhole) (m4 : Memref sig .tc .vmem S9x96 .f32) (h4 : m4.IsWhole) (m5 : Memref sig .tc .vmem S96 .f32) (h5 : m5.IsWhole) (m6 : Memref sig .tc .vmem S96x96 .f32) (h6 : m6.IsWhole) (m7 : Memref sig .tc .vmem S96 .f32) (h7 : m7.IsWhole) (m8 : Memref sig .tc .vmem S96x16x224 .f32) (h8 : m8.IsWhole)
    (x0 : Vec Ideal S16x224x96 .f32) (x1 : Vec Ideal S16x224x96 .bf16) (x2 : Vec Ideal S16x224x96 .bf16) (x3 : Vec Ideal S16x224x96 .bf16) (x4 : Vec Ideal S9x96 .f32) (x5 : Vec Ideal S96 .f32) (x6 : Vec Ideal S96x96 .f32) (x7 : Vec Ideal S96 .f32) (xt : Words (F := Ideal) c table) (hz : ∀ j, xt j = (0#32 : BitVec 32)) :
    left (F := Ideal) c i m0 h0 m1 h1 m2 h2 m3 h3 m4 h4 m5 h5 m6 h6 m7 h7 m8 h8 x0 x1 x2 x3 x4 x5 x6 x7 xt
      = k3_pay1 (k3_pay7 (k3_pay2 i (0#32 : BitVec 32) x2 (above x1) (below x3)) (k3_pay3 x4) (k3_pay4 x5)
          (k3_pay5 i (0#32 : BitVec 32) x2 (above x1) (below x3) x4) (k3_pay6 x4)) (k3_pay8 x0) x6 x7 := by
  unfold left
  rw [View.read_writes_eq_canon (h := cover c i m0 h0 m1 h1 m2 h2 m3 h3 m4 h4 m5 h5 m6 h6 m7 h7 m8 h8 x0 x1 x2 x3 x4 x5 x6 x7 xt)]
  unfold run
  dsimp only
  sl_unfold_words
  refine (View.canon_unit_zero (S := S96x16x224) (by funext a; fin_cases a <;> rfl) _ _).trans ?_
  simp only [View.readAt_eq_ld, h0.read_unread, h1.read_unread, h2.read_unread, h3.read_unread, h4.read_unread, h5.read_unread, h6.read_unread, h7.read_unread]
  simp only [View.ld_unit_zero (S := S16x224x96) (show (![0, 0, 0] : Fin 3 → ℕ) = fun _ => 0 by funext a; fin_cases a <;> rfl),
    View.ld_unit_zero (S := S96x96) (show (![0, 0] : Fin 2 → ℕ) = fun _ => 0 by funext a; fin_cases a <;> rfl),
    View.ld_unit_zero (S := S9x96) (show (![0, 0] : Fin 2 → ℕ) = fun _ => 0 by funext a; fin_cases a <;> rfl),
    View.ld_unit_zero (S := S96) (show (![0] : Fin 1 → ℕ) = fun _ => 0 by funext a; fin_cases a <;> rfl)]
  have hs (h : 0 < S1.numel) : View.ld (View.read (Elt Ideal) (View.whole main_v8) xt) (Rect.unit (s := S1) ![0] ![1] inb_S1_S1_0) (Shape.Idx.first h) = (0#32 : BitVec 32) := hz _
  simp only [hs]
  rw [View.ld_unit x1, View.ld_unit x3]
  rfl

/-! ## The bordered values -/

theorem edges : ∀ n : Fin 14,
    Scalar.cmpi .sgt (Scalar.addi (0#32 : BitVec 32) (BitVec.ofNat 32 n.val)) 0#32 = (if n.val = 0 then 0#1 else 1#1)
    ∧ Scalar.cmpi .slt (Scalar.addi (0#32 : BitVec 32) (BitVec.ofNat 32 n.val)) 13#32 = (if n.val = 13 then 0#1 else 1#1) := by
  decide +kernel

theorem padded (i : grid3.Coords) (x2 : Vec Ideal S16x224x96 .bf16) (up dn : Vec Ideal S1x224x96 .bf16) (v : S224x224x96.Idx → EReal) (n : Fin 14) (hn : (i 0).val = n.val)
    (hx : ∀ (a : Fin 16) (x : Fin 224) (c : Fin 96), x2 (ix3 a x c) = v (ix3 ⟨n.val * 16 + a.val, by omega⟩ x c))
    (hu : ∀ (x : Fin 224) (c : Fin 96), up (ix3 0 x c) = v (ix3 ⟨(n.val - 1) * 16 + 15, by omega⟩ x c))
    (hd : ∀ (x : Fin 224) (c : Fin 96), dn (ix3 0 x c) = v (ix3 ⟨min 13 (n.val + 1) * 16, by omega⟩ x c))
    (y : Fin 18) (x : Fin 226) (c : Fin 96) :
    k3_pay2 (F := Ideal) i (0#32 : BitVec 32) x2 up dn (ix3 y x c) = border v ⟨n.val * 16 + y.val, by omega⟩ x c := by
  unfold k3_pay2
  pointwise []
  have hzero : (((0#32 : BitVec 32).toInt : ℝ) : EReal) = 0 := by simp
  rw [hn, (edges n).1, (edges n).2]
  simp only [hzero, hx, hu, hd]
  unfold border
  dsimp only
  by_cases h225 : x.val < 225
  · rw [dif_pos h225]
    by_cases h1 : x.val < 1
    · rw [dif_pos h1, dif_neg (by omega)]
    · rw [dif_neg h1]
      by_cases hy : y.val < 1
      · rw [dif_pos hy]
        by_cases hn0 : n.val = 0
        · rw [if_pos hn0, dif_neg (by omega)]; rfl
        · rw [if_neg hn0, dif_pos (by omega)]
          refine Eq.trans (b := v (ix3 ⟨(n.val - 1) * 16 + 15, by omega⟩ ⟨x.val - 1, by omega⟩ c)) rfl ?_
          exact congrArg (fun z => v (ix3 z ⟨x.val - 1, by omega⟩ c)) (Fin.ext (by dsimp only; omega))
      · rw [dif_neg hy]
        by_cases hy16 : y.val - 1 < 16
        · rw [dif_pos hy16, dif_pos (by omega)]
          exact congrArg (fun z => v (ix3 z ⟨x.val - 1, by omega⟩ c)) (Fin.ext (by dsimp only; omega))
        · rw [dif_neg hy16]
          by_cases hn13 : n.val = 13
          · rw [if_pos hn13, dif_neg (by omega)]; rfl
          · rw [if_neg hn13, dif_pos (by omega)]
            refine Eq.trans (b := v (ix3 ⟨min 13 (n.val + 1) * 16, by omega⟩ ⟨x.val - 1, by omega⟩ c)) rfl ?_
            exact congrArg (fun z => v (ix3 z ⟨x.val - 1, by omega⟩ c)) (Fin.ext (by dsimp only; omega))
  · rw [dif_neg h225, dif_neg (by omega)]

/-! ## The depthwise sum and the output projection -/

theorem taps (p : FVec Ideal S18x226x96 .f32) (w : FVec Ideal S9x96 .f32) (b : FVec Ideal S1x1x96 .f32) (f : FVec Ideal S16x224x96 .f32) (g : FVec Ideal S1x1x96 .f32)
    (v : S224x224x96.Idx → EReal) (lw : S96x1x3x3.Idx → EReal) (lb : S96.Idx → EReal) (n : Fin 14)
    (hp : ∀ (y : Fin 18) (x : Fin 226) (c : Fin 96), p (ix3 y x c) = border v ⟨n.val * 16 + y.val, by omega⟩ x c)
    (hw : ∀ (dy dx : Fin 3) (c : Fin 96), w (ix2 ⟨3 * dy.val + dx.val, by omega⟩ c) = lw (ix4 c 0 dy dx))
    (hb : ∀ c : Fin 96, b (ix3 0 0 c) = lb (ix1 c)) (hg : ∀ c : Fin 96, g (ix3 0 0 c) = w (ix2 1 c))
    (hf : ∀ (a : Fin 16) (x : Fin 224) (c : Fin 96), f (ix3 a x c) = w (ix2 0 c) * p (ix3 ⟨a.val, by omega⟩ ⟨x.val, by omega⟩ c))
    (a : Fin 16) (x : Fin 224) (c : Fin 96) :
    k3_pay7 (F := Ideal) p w b f g (ix3 a x c) = depthwise v lw lb ⟨n.val * 16 + a.val, by omega⟩ x c := by
  unfold k3_pay7
  pointwise []
  have e00 : p (ix3 ⟨a.val, by omega⟩ ⟨x.val, by omega⟩ c) = border v ⟨(n.val * 16 + a.val) + ((0 : Fin 3) : ℕ), by have : ((0 : Fin 3) : ℕ) = 0 := rfl; omega⟩ ⟨x.val + ((0 : Fin 3) : ℕ), by have : ((0 : Fin 3) : ℕ) = 0 := rfl; omega⟩ c :=
    (hp _ _ _).trans (congrArg₂ (fun y z => border v y z c) (Fin.ext (by show n.val * 16 + a.val = n.val * 16 + a.val + 0; omega)) (Fin.ext (by show x.val = x.val + 0; omega)))
  have e01 : p (ix3 ⟨a.val, by omega⟩ ⟨1 + x.val, by omega⟩ c) = border v ⟨(n.val * 16 + a.val) + ((0 : Fin 3) : ℕ), by have : ((0 : Fin 3) : ℕ) = 0 := rfl; omega⟩ ⟨x.val + ((1 : Fin 3) : ℕ), by have : ((1 : Fin 3) : ℕ) = 1 := rfl; omega⟩ c :=
    (hp _ _ _).trans (congrArg₂ (fun y z => border v y z c) (Fin.ext (by show n.val * 16 + a.val = n.val * 16 + a.val + 0; omega)) (Fin.ext (by show 1 + x.val = x.val + 1; omega)))
  have e02 : p (ix3 ⟨a.val, by omega⟩ ⟨2 + x.val, by omega⟩ c) = border v ⟨(n.val * 16 + a.val) + ((0 : Fin 3) : ℕ), by have : ((0 : Fin 3) : ℕ) = 0 := rfl; omega⟩ ⟨x.val + ((2 : Fin 3) : ℕ), by have : ((2 : Fin 3) : ℕ) = 2 := rfl; omega⟩ c :=
    (hp _ _ _).trans (congrArg₂ (fun y z => border v y z c) (Fin.ext (by show n.val * 16 + a.val = n.val * 16 + a.val + 0; omega)) (Fin.ext (by show 2 + x.val = x.val + 2; omega)))
  have e10 : p (ix3 ⟨1 + a.val, by omega⟩ ⟨x.val, by omega⟩ c) = border v ⟨(n.val * 16 + a.val) + ((1 : Fin 3) : ℕ), by have : ((1 : Fin 3) : ℕ) = 1 := rfl; omega⟩ ⟨x.val + ((0 : Fin 3) : ℕ), by have : ((0 : Fin 3) : ℕ) = 0 := rfl; omega⟩ c :=
    (hp _ _ _).trans (congrArg₂ (fun y z => border v y z c) (Fin.ext (by show n.val * 16 + (1 + a.val) = n.val * 16 + a.val + 1; omega)) (Fin.ext (by show x.val = x.val + 0; omega)))
  have e11 : p (ix3 ⟨1 + a.val, by omega⟩ ⟨1 + x.val, by omega⟩ c) = border v ⟨(n.val * 16 + a.val) + ((1 : Fin 3) : ℕ), by have : ((1 : Fin 3) : ℕ) = 1 := rfl; omega⟩ ⟨x.val + ((1 : Fin 3) : ℕ), by have : ((1 : Fin 3) : ℕ) = 1 := rfl; omega⟩ c :=
    (hp _ _ _).trans (congrArg₂ (fun y z => border v y z c) (Fin.ext (by show n.val * 16 + (1 + a.val) = n.val * 16 + a.val + 1; omega)) (Fin.ext (by show 1 + x.val = x.val + 1; omega)))
  have e12 : p (ix3 ⟨1 + a.val, by omega⟩ ⟨2 + x.val, by omega⟩ c) = border v ⟨(n.val * 16 + a.val) + ((1 : Fin 3) : ℕ), by have : ((1 : Fin 3) : ℕ) = 1 := rfl; omega⟩ ⟨x.val + ((2 : Fin 3) : ℕ), by have : ((2 : Fin 3) : ℕ) = 2 := rfl; omega⟩ c :=
    (hp _ _ _).trans (congrArg₂ (fun y z => border v y z c) (Fin.ext (by show n.val * 16 + (1 + a.val) = n.val * 16 + a.val + 1; omega)) (Fin.ext (by show 2 + x.val = x.val + 2; omega)))
  have e20 : p (ix3 ⟨2 + a.val, by omega⟩ ⟨x.val, by omega⟩ c) = border v ⟨(n.val * 16 + a.val) + ((2 : Fin 3) : ℕ), by have : ((2 : Fin 3) : ℕ) = 2 := rfl; omega⟩ ⟨x.val + ((0 : Fin 3) : ℕ), by have : ((0 : Fin 3) : ℕ) = 0 := rfl; omega⟩ c :=
    (hp _ _ _).trans (congrArg₂ (fun y z => border v y z c) (Fin.ext (by show n.val * 16 + (2 + a.val) = n.val * 16 + a.val + 2; omega)) (Fin.ext (by show x.val = x.val + 0; omega)))
  have e21 : p (ix3 ⟨2 + a.val, by omega⟩ ⟨1 + x.val, by omega⟩ c) = border v ⟨(n.val * 16 + a.val) + ((2 : Fin 3) : ℕ), by have : ((2 : Fin 3) : ℕ) = 2 := rfl; omega⟩ ⟨x.val + ((1 : Fin 3) : ℕ), by have : ((1 : Fin 3) : ℕ) = 1 := rfl; omega⟩ c :=
    (hp _ _ _).trans (congrArg₂ (fun y z => border v y z c) (Fin.ext (by show n.val * 16 + (2 + a.val) = n.val * 16 + a.val + 2; omega)) (Fin.ext (by show 1 + x.val = x.val + 1; omega)))
  have e22 : p (ix3 ⟨2 + a.val, by omega⟩ ⟨2 + x.val, by omega⟩ c) = border v ⟨(n.val * 16 + a.val) + ((2 : Fin 3) : ℕ), by have : ((2 : Fin 3) : ℕ) = 2 := rfl; omega⟩ ⟨x.val + ((2 : Fin 3) : ℕ), by have : ((2 : Fin 3) : ℕ) = 2 := rfl; omega⟩ c :=
    (hp _ _ _).trans (congrArg₂ (fun y z => border v y z c) (Fin.ext (by show n.val * 16 + (2 + a.val) = n.val * 16 + a.val + 2; omega)) (Fin.ext (by show 2 + x.val = x.val + 2; omega)))
  rw [hb, hg, hf, e00, e01, e02, e10, e11, e12, e20, e21, e22, mul_comm (w (ix2 0 c)), mul_comm (w (ix2 1 c)), mul_comm (w (ix2 2 c)), mul_comm (w (ix2 3 c)), mul_comm (w (ix2 4 c)), mul_comm (w (ix2 5 c)), mul_comm (w (ix2 6 c)), mul_comm (w (ix2 7 c)), mul_comm (w (ix2 8 c)), (show w (ix2 0 c) = lw (ix4 c 0 0 0) from hw 0 0 c), (show w (ix2 1 c) = lw (ix4 c 0 0 1) from hw 0 1 c), (show w (ix2 2 c) = lw (ix4 c 0 0 2) from hw 0 2 c), (show w (ix2 3 c) = lw (ix4 c 0 1 0) from hw 1 0 c), (show w (ix2 4 c) = lw (ix4 c 0 1 1) from hw 1 1 c), (show w (ix2 5 c) = lw (ix4 c 0 1 2) from hw 1 2 c), (show w (ix2 6 c) = lw (ix4 c 0 2 0) from hw 2 0 c), (show w (ix2 7 c) = lw (ix4 c 0 2 1) from hw 2 1 c), (show w (ix2 8 c) = lw (ix4 c 0 2 2) from hw 2 2 c), add_comm (lb (ix1 c))]
  rfl

theorem stored (i : grid3.Coords) (x0 : Vec Ideal S16x224x96 .f32) (x2 : Vec Ideal S16x224x96 .bf16) (x4 : Vec Ideal S9x96 .f32) (x5 : Vec Ideal S96 .f32) (x6 : Vec Ideal S96x96 .f32) (x7 : Vec Ideal S96 .f32) (up dn : Vec Ideal S1x224x96 .bf16)
    (t v : S224x224x96.Idx → EReal) (lw : S96x1x3x3.Idx → EReal) (n : Fin 14) (hn : (i 0).val = n.val)
    (ht : ∀ (a : Fin 16) (x : Fin 224) (c : Fin 96), x0 (ix3 a x c) = t (ix3 ⟨n.val * 16 + a.val, by omega⟩ x c))
    (hx : ∀ (a : Fin 16) (x : Fin 224) (c : Fin 96), x2 (ix3 a x c) = v (ix3 ⟨n.val * 16 + a.val, by omega⟩ x c))
    (hu : ∀ (x : Fin 224) (c : Fin 96), up (ix3 0 x c) = v (ix3 ⟨(n.val - 1) * 16 + 15, by omega⟩ x c))
    (hd : ∀ (x : Fin 224) (c : Fin 96), dn (ix3 0 x c) = v (ix3 ⟨min 13 (n.val + 1) * 16, by omega⟩ x c))
    (hw : ∀ (dy dx : Fin 3) (c : Fin 96), x4 (ix2 ⟨3 * dy.val + dx.val, by omega⟩ c) = lw (ix4 c 0 dy dx))
    (o : Fin 96) (a : Fin 16) (x : Fin 224) :
    k3_pay1 (F := Ideal) (k3_pay7 (k3_pay2 i (0#32 : BitVec 32) x2 up dn) (k3_pay3 x4) (k3_pay4 x5) (k3_pay5 i (0#32 : BitVec 32) x2 up dn x4) (k3_pay6 x4)) (k3_pay8 x0) x6 x7 (ix3 o a x)
      = final t v lw x5 x6 x7 o ⟨n.val * 16 + a.val, by omega⟩ x := by
  have h3 : k3_pay3 (F := Ideal) x4 = x4 := by unfold k3_pay3; exact shapeCast_self _ _
  have h8 : k3_pay8 (F := Ideal) x0 = x0 := by unfold k3_pay8; exact shapeCast_self _ _
  have hb (c : Fin 96) : k3_pay4 (F := Ideal) x5 (ix3 0 0 c) = x5 (ix1 c) := by unfold k3_pay4; pointwise []
  have hg (c : Fin 96) : k3_pay6 (F := Ideal) x4 (ix3 0 0 c) = x4 (ix2 1 c) := by unfold k3_pay6; pointwise []; rw [h3]
  have hf (a : Fin 16) (x : Fin 224) (c : Fin 96) : k3_pay5 (F := Ideal) i (0#32 : BitVec 32) x2 up dn x4 (ix3 a x c)
      = x4 (ix2 0 c) * k3_pay2 (F := Ideal) i (0#32 : BitVec 32) x2 up dn (ix3 ⟨a.val, by omega⟩ ⟨x.val, by omega⟩ c) := by
    unfold k3_pay5; pointwise []; rw [h3]
  have hp := padded i x2 up dn v n hn hx hu hd
  have hk (a : Fin 16) (x : Fin 224) (c : Fin 96) := taps (k3_pay2 i (0#32 : BitVec 32) x2 up dn) x4 (k3_pay4 x5)
    (k3_pay5 i (0#32 : BitVec 32) x2 up dn x4) (k3_pay6 x4) v lw x5 n hp hw hb hg hf a x c
  rw [h3, h8]
  generalize k3_pay7 (F := Ideal) (k3_pay2 i (0#32 : BitVec 32) x2 up dn) x4 (k3_pay4 x5) (k3_pay5 i (0#32 : BitVec 32) x2 up dn x4) (k3_pay6 x4) = k at hk
  unfold k3_pay1
  pointwise []
  simp only [hk, ht]
  rfl

/-! ## The blocks of the arrays -/

theorem coords_val3 : ∀ t : Fin grid3.N, (grid3.coords t 0).val = t.val := by decide +kernel

theorem transform3_0 (i : grid3.Coords) : cc3_transform_0 i = ![(i 0).val, 0, 0] := by
  have h : (BitVec.ofNat 32 (i 0).val).toNat = (i 0).val := by
    have : (i 0).val < 14 := (i 0).isLt
    rw [BitVec.toNat_ofNat]; omega
  show ![(BitVec.ofNat 32 (i 0).val).toNat, 0, 0] = _
  rw [h]

theorem transform3_8 (i : grid3.Coords) : cc3_transform_8 i = ![0, (i 0).val, 0] := by
  have h : (BitVec.ofNat 32 (i 0).val).toNat = (i 0).val := by
    have : (i 0).val < 14 := (i 0).isLt
    rw [BitVec.toNat_ofNat]; omega
  show ![0, (BitVec.ofNat 32 (i 0).val).toNat, 0] = _
  rw [h]

variable (A : (pcfg3 (F := Ideal)).Adm) (V : (c : Dev nD) → (b : Ref sig .tc) → Buf (Elt Ideal) ((c : Thread nD τ).loc b))

theorem block_t (c : Dev nD) (t : Fin (cfg3 A).N) (a : Fin 16) (x : Fin 224) (ch : Fin 96) :
    (block A V c 0 t : Vec Ideal S16x224x96 .f32) (ix3 a x ch)
      = V c main_v7 (ix3 ⟨t.val * 16 + a, by have : t.val < 14 := t.isLt; omega⟩ x ch) := by
  show V c main_v7 ((((cfg3 A).win 0).rect t).emb (ix3 a x ch)) = _
  refine congrArg _ (funext fun z => Fin.ext ?_)
  refine (Pipeline.Window.rect_emb_val_off ((cfg3 A).win 0) t _ z).trans ?_
  show cc3_transform_0 (grid3.coords t) z * S16x224x96.size z + (ix3 a x ch z).val = _
  rw [transform3_0, coords_val3]
  fin_cases z
  · rfl
  · show 0 * 224 + x.val = x.val; omega
  · show 0 * 96 + ch.val = ch.val; omega

theorem block_1 (hz : ∀ j : S1.Idx, A.1 0 j = (0#32 : BitVec 32)) (c : Dev nD) (t : Fin (cfg3 A).N) (a : Fin 16) (x : Fin 224) (ch : Fin 96) :
    (block A V c 1 t : Vec Ideal S16x224x96 .bf16) (ix3 a x ch)
      = V c main_v2_2 (ix3 ⟨(t.val - 1) * 16 + a, by have : t.val < 14 := t.isLt; omega⟩ x ch) := by
  show V c main_v2_2 ((((cfg3 A).win 1).rect t).emb (ix3 a x ch)) = _
  refine congrArg _ (funext fun z => Fin.ext ?_)
  refine (Pipeline.Window.rect_emb_val_off ((cfg3 A).win 1) t _ z).trans ?_
  show cc3_transform_1 inb_S1_S1_0 numel1_S1 A.1 (grid3.coords t) z * S16x224x96.size z + (ix3 a x ch z).val = _
  rw [rows_1 A.1 hz, coords_val3]
  fin_cases z
  · rfl
  · show 0 * 224 + x.val = x.val; omega
  · show 0 * 96 + ch.val = ch.val; omega

theorem block_2 (hz : ∀ j : S1.Idx, A.1 0 j = (0#32 : BitVec 32)) (c : Dev nD) (t : Fin (cfg3 A).N) (a : Fin 16) (x : Fin 224) (ch : Fin 96) :
    (block A V c 2 t : Vec Ideal S16x224x96 .bf16) (ix3 a x ch)
      = V c main_v2_2 (ix3 ⟨t.val * 16 + a, by have : t.val < 14 := t.isLt; omega⟩ x ch) := by
  show V c main_v2_2 ((((cfg3 A).win 2).rect t).emb (ix3 a x ch)) = _
  refine congrArg _ (funext fun z => Fin.ext ?_)
  refine (Pipeline.Window.rect_emb_val_off ((cfg3 A).win 2) t _ z).trans ?_
  show cc3_transform_2 inb_S1_S1_0 numel1_S1 A.1 (grid3.coords t) z * S16x224x96.size z + (ix3 a x ch z).val = _
  rw [rows_2 A.1 hz, coords_val3]
  fin_cases z
  · rfl
  · show 0 * 224 + x.val = x.val; omega
  · show 0 * 96 + ch.val = ch.val; omega

theorem block_3 (hz : ∀ j : S1.Idx, A.1 0 j = (0#32 : BitVec 32)) (c : Dev nD) (t : Fin (cfg3 A).N) (a : Fin 16) (x : Fin 224) (ch : Fin 96) :
    (block A V c 3 t : Vec Ideal S16x224x96 .bf16) (ix3 a x ch)
      = V c main_v2_2 (ix3 ⟨min 13 (t.val + 1) * 16 + a, by have : t.val < 14 := t.isLt; omega⟩ x ch) := by
  show V c main_v2_2 ((((cfg3 A).win 3).rect t).emb (ix3 a x ch)) = _
  refine congrArg _ (funext fun z => Fin.ext ?_)
  refine (Pipeline.Window.rect_emb_val_off ((cfg3 A).win 3) t _ z).trans ?_
  show cc3_transform_3 inb_S1_S1_0 numel1_S1 A.1 (grid3.coords t) z * S16x224x96.size z + (ix3 a x ch z).val = _
  rw [rows_3 A.1 hz, coords_val3]
  fin_cases z
  · rfl
  · show 0 * 224 + x.val = x.val; omega
  · show 0 * 96 + ch.val = ch.val; omega

theorem block_4 (c : Dev nD) (t : Fin (cfg3 A).N) : (block A V c 4 t : Vec Ideal S9x96 .f32) = V c main_v1 := by
  funext y
  show V c main_v1 ((((cfg3 A).win 4).rect t).emb y) = _
  refine congrArg _ (funext fun x => Fin.ext ?_)
  refine (Pipeline.Window.rect_emb_val_off ((cfg3 A).win 4) t _ x).trans ?_
  fin_cases x <;> exact Nat.zero_add _

theorem block_5 (c : Dev nD) (t : Fin (cfg3 A).N) : (block A V c 5 t : Vec Ideal S96 .f32) = V c main_arg8 := by
  funext y
  show V c main_arg8 ((((cfg3 A).win 5).rect t).emb y) = _
  refine congrArg _ (funext fun x => Fin.ext ?_)
  refine (Pipeline.Window.rect_emb_val_off ((cfg3 A).win 5) t _ x).trans ?_
  fin_cases x <;> exact Nat.zero_add _

theorem block_6 (c : Dev nD) (t : Fin (cfg3 A).N) : (block A V c 6 t : Vec Ideal S96x96 .f32) = V c main_arg5 := by
  funext y
  show V c main_arg5 ((((cfg3 A).win 6).rect t).emb y) = _
  refine congrArg _ (funext fun x => Fin.ext ?_)
  refine (Pipeline.Window.rect_emb_val_off ((cfg3 A).win 6) t _ x).trans ?_
  fin_cases x <;> exact Nat.zero_add _

theorem block_7 (c : Dev nD) (t : Fin (cfg3 A).N) : (block A V c 7 t : Vec Ideal S96 .f32) = V c main_arg6 := by
  funext y
  show V c main_arg6 ((((cfg3 A).win 7).rect t).emb y) = _
  refine congrArg _ (funext fun x => Fin.ext ?_)
  refine (Pipeline.Window.rect_emb_val_off ((cfg3 A).win 7) t _ x).trans ?_
  fin_cases x <;> exact Nat.zero_add _

theorem read_blk (G : S96x224x224.Idx → EReal) (t : Fin (cfg3 A).N) (o : Fin 96) (a : Fin 16) (x : Fin 224) :
    ((((cfg3 A).win 8).blk t).view.read (Elt Ideal) G : Vec Ideal S96x16x224 .f32) (ix3 o a x)
      = G (ix3 o ⟨t.val * 16 + a, by have : t.val < 14 := t.isLt; omega⟩ x) := by
  show G ((((cfg3 A).win 8).rect t).emb (ix3 o a x)) = _
  refine congrArg _ (funext fun z => Fin.ext ?_)
  refine (Pipeline.Window.rect_emb_val_off ((cfg3 A).win 8) t _ z).trans ?_
  show cc3_transform_8 (grid3.coords t) z * S96x16x224.size z + (ix3 o a x z).val = _
  rw [transform3_8, coords_val3]
  fin_cases z
  · show 0 * 96 + o.val = o.val; omega
  · rfl
  · show 0 * 224 + x.val = x.val; omega

section
variable (hz : ∀ j : S1.Idx, A.1 0 j = (0#32 : BitVec 32)) (lw : S96x1x3x3.Idx → EReal) (c : Dev nD)
    (hw : ∀ (dy dx : Fin 3) (ch : Fin 96), V c main_v1 (ix2 ⟨3 * dy.val + dx.val, by omega⟩ ch) = lw (ix4 ch 0 dy dx))
include hz hw

theorem leftAt_eq (t : Fin (cfg3 A).N) :
    leftAt A V c t = k3_pay1 (k3_pay7 (k3_pay2 (grid3.coords t) (0#32 : BitVec 32) (block A V c 2 t) (above (block A V c 1 t)) (below (block A V c 3 t))) (k3_pay3 (V c main_v1)) (k3_pay4 (V c main_arg8))
          (k3_pay5 (grid3.coords t) (0#32 : BitVec 32) (block A V c 2 t) (above (block A V c 1 t)) (below (block A V c 3 t)) (V c main_v1)) (k3_pay6 (V c main_v1))) (k3_pay8 (block A V c 0 t)) (V c main_arg5) (V c main_arg6) := by
  unfold leftAt
  refine (left_eq c (grid3.coords t) _ (h0 A t) _ (h1 A t) _ (h2 A t) _ (h3 A t) _ (h4 A t) _ (h5 A t) _ (h6 A t) _ (h7 A t) _ (h8 A t) (block A V c 0 t) (block A V c 1 t) (block A V c 2 t) (block A V c 3 t) (block A V c 4 t) (block A V c 5 t) (block A V c 6 t) (block A V c 7 t) (A.1 0) hz).trans ?_
  rw [block_4, block_5, block_6, block_7]

theorem leftAt_apply (t : Fin (cfg3 A).N) (o : Fin 96) (a : Fin 16) (x : Fin 224) :
    leftAt A V c t (ix3 o a x)
      = final (V c main_v7) (V c main_v2_2) lw (V c main_arg8) (V c main_arg5) (V c main_arg6) o ⟨t.val * 16 + a, by have : t.val < 14 := t.isLt; omega⟩ x := by
  refine (congrFun (leftAt_eq A V hz lw c hw t) _).trans ?_
  refine stored (grid3.coords t) (block A V c 0 t) (block A V c 2 t) (V c main_v1) (V c main_arg8) (V c main_arg5) (V c main_arg6) _ _
    (V c main_v7) (V c main_v2_2) lw t (coords_val3 t) (block_t A V c t) (block_2 A V hz c t) (fun x ch => ?_) (fun x ch => ?_) hw o a x
  · refine Eq.trans ?_ ((block_1 A V hz c t 15 x ch).trans rfl)
    exact congrArg (block A V c 1 t) (funext fun z => Fin.ext (by fin_cases z <;> first | rfl | exact Nat.zero_add _))
  · refine Eq.trans ?_ ((block_3 A V hz c t 0 x ch).trans rfl)
    exact congrArg (block A V c 3 t) (funext fun z => Fin.ext (by fin_cases z <;> first | rfl | exact Nat.zero_add _))

theorem left_read (t : Fin (cfg3 A).N) :
    leftAt A V c t = ((((cfg3 A).win 8).blk t).view.read (Elt Ideal) (fun i : S96x224x224.Idx => final (V c main_v7) (V c main_v2_2) lw (V c main_arg8) (V c main_arg5) (V c main_arg6) (i 0) (i 1) (i 2)) : Vec Ideal S96x16x224 .f32) := by
  funext y
  obtain ⟨o, a, x, rfl⟩ : ∃ (o : Fin 96) (a : Fin 16) (x : Fin 224), y = ix3 o a x := ⟨y 0, y 1, y 2, eq_ix3 y⟩
  exact (leftAt_apply A V hz lw c hw t o a x).trans (read_blk A (fun i : S96x224x224.Idx => final (V c main_v7) (V c main_v2_2) lw (V c main_arg8) (V c main_arg5) (V c main_arg6) (i 0) (i 1) (i 2)) t o a x).symm
end

theorem flush8 : ∀ t : Fin grid3.N, Pipeline.Window.flushOf grid3 true cc3_transform_8 t = true := by decide +kernel

theorem mem_blk (t : Fin (cfg3 A).N) (i : S96x224x224.Idx) :
    i ∈ (((cfg3 A).win 8).blk t).view.set
      ↔ ∀ a : Fin 3, cc3_transform_8 (grid3.coords t) a * S96x16x224.size a ≤ i a ∧ (i a).val < cc3_transform_8 (grid3.coords t) a * S96x16x224.size a + S96x16x224.size a := by
  refine (Iff.of_eq (congrArg (i ∈ ·) (View.set_slice_whole main_v9 (((cfg3 A).win 8).rect t)))).trans ?_
  exact Rect.mem_set_unit

theorem covered (i : S96x224x224.Idx) :
    ∃ t : Fin (cfg3 A).N, ((cfg3 A).win 8).flush t = true ∧ i ∈ (((cfg3 A).win 8).blk t).view.set := by
  have h0 : (i 0).val < 96 := (i 0).isLt
  have h1 : (i 1).val < 224 := (i 1).isLt
  have h2 : (i 2).val < 224 := (i 2).isLt
  have hN : (i 1).val / 16 < grid3.N := by
    have : grid3.N = 14 := by decide +kernel
    omega
  refine ⟨⟨(i 1).val / 16, hN⟩, flush8 _, (mem_blk A _ i).2 ?_⟩
  rw [transform3_8, coords_val3]
  intro a
  fin_cases a
  · show 0 * 96 ≤ (i 0).val ∧ (i 0).val < 0 * 96 + 96; omega
  · show (i 1).val / 16 * 16 ≤ (i 1).val ∧ (i 1).val < (i 1).val / 16 * 16 + 16; omega
  · show 0 * 224 ≤ (i 2).val ∧ (i 2).val < 0 * 224 + 224; omega

/-- The last call's array at its end. -/
theorem array (hz : ∀ j : S1.Idx, A.1 0 j = (0#32 : BitVec 32)) (lw : S96x1x3x3.Idx → EReal) (c : Dev nD)
    (hw : ∀ (dy dx : Fin 3) (ch : Fin 96), V c main_v1 (ix2 ⟨3 * dy.val + dx.val, by omega⟩ ch) = lw (ix4 ch 0 dy dx)) :
    (dat A V c).arrAt 8 (cfg3 A).N = (fun i : S96x224x224.Idx => final (V c main_v7) (V c main_v2_2) lw (V c main_arg8) (V c main_arg5) (V c main_arg6) (i 0) (i 1) (i 2)) :=
  Pipeline.Dat.arrAt_eq_of_cover (dat A V c) 8 (fun i : S96x224x224.Idx => final (V c main_v7) (V c main_v2_2) lw (V c main_arg8) (V c main_arg5) (V c main_arg6) (i 0) (i 1) (i 2))
    (fun t _ => (after8 A V c t).trans (left_read A V hz lw c hw t)) (covered A)

end Cert.Whole.FinalCall

end
-- ==== Proof.KernelResult.lean ====
/- The whole kernel's result: each call's arrays from the contents it is entered with, and those from what the calls before it left. -/
module

public import proofs.«01_k».proof.Proof.Outs
public import proofs.«01_k».proof.Proof.PrepArray
public import proofs.«01_k».proof.Proof.RouteArray
public import proofs.«01_k».proof.Proof.AttnArray
public import proofs.«01_k».proof.Proof.FinalArray

@[expose] public section

set_option maxRecDepth 16384

noncomputable section

namespace Cert.Whole

open Cert.KernelIdeal Cert.KernelIdeal.Gen Cert.KernelIdeal.Own
open Idealize.ShloMosaic Idealize.ShloMosaic.TcCoe Idealize.SL.Sem

/-! ## The host's re-layouts, at an index -/

theorem flat_means (t : S224x224x96.Idx → EReal) :
    shapeCast S196x96 (fun i : S14x14x96.Idx => mean t (i 0) (i 1) (i 2)) shapeCasts_S14x14x96_S196x96 = means t := by
  funext i
  obtain ⟨r, ch, rfl⟩ : ∃ (r : Fin 196) (ch : Fin 96), i = ix2 r ch := ⟨i 0, i 1, eq_ix2 i⟩
  generalize hf : (fun i : S14x14x96.Idx => mean t (i 0) (i 1) (i 2)) = f
  have e : means t (ix2 r ch) = f (ix3 ⟨r.val / 14, by omega⟩ ⟨r.val % 14, by omega⟩ ch) := by subst hf; rfl
  rw [e]
  pointwise []

theorem weight_at (w : S96x1x3x3.Idx → EReal) (dy dx : Fin 3) (ch : Fin 96) :
    transpose S9x96 [1, 0] (shapeCast S96x9 w shapeCasts_S96x1x3x3_S96x9) transposes_S96x9_S9x96_1_0 (ix2 ⟨3 * dy.val + dx.val, by omega⟩ ch) = w (ix4 ch 0 dy dx) := by
  fin_cases dy <;> fin_cases dx <;> pointwise []

theorem lead (f : S96x224x224.Idx → EReal) (i : S1x96x224x224.Idx) :
    shapeCast S1x96x224x224 f shapeCasts_S96x224x224_S1x96x224x224 i = f (ix3 (i 1) (i 2) (i 3)) := by
  obtain ⟨a, b, c, d, rfl⟩ : ∃ (a : Fin 1) (b : Fin 96) (c : Fin 224) (d : Fin 224), i = ix4 a b c d := ⟨i 0, i 1, i 2, i 3, eq_ix4 i⟩
  pointwise []

/-! ## The run's contents -/

section
variable (m : (ℓ : Loc nD τ sig) → Buf (Elt Ideal) ℓ) (outs : Outs (F := Ideal)) (A : (pcfg2 (F := Ideal)).Adm) (B : (pcfg3 (F := Ideal)).Adm)
  (h : Left m outs A B) (c : Dev nD)

abbrev q0 : S224x224x96.Idx → EReal :=
  query (m ((c : Thread nD τ).loc main_arg0)) (m ((c : Thread nD τ).loc main_arg1)) (m ((c : Thread nD τ).loc main_arg2))
abbrev k0 : S224x224x96.Idx → EReal :=
  keys (m ((c : Thread nD τ).loc main_arg0)) (m ((c : Thread nD τ).loc main_arg3)) (m ((c : Thread nD τ).loc main_arg4))
abbrev v0 : S224x224x96.Idx → EReal :=
  values (m ((c : Thread nD τ).loc main_arg0)) (m ((c : Thread nD τ).loc main_arg3)) (m ((c : Thread nD τ).loc main_arg4))

theorem launch0 : Ve0 m c main_arg0 = m ((c : Thread nD τ).loc main_arg0) := V1_of m c main_arg0 (by decide)
theorem launch1 : Ve0 m c main_arg1 = m ((c : Thread nD τ).loc main_arg1) := V1_of m c main_arg1 (by decide)
theorem launch2 : Ve0 m c main_arg2 = m ((c : Thread nD τ).loc main_arg2) := V1_of m c main_arg2 (by decide)
theorem launch3 : Ve0 m c main_arg3 = m ((c : Thread nD τ).loc main_arg3) := V1_of m c main_arg3 (by decide)
theorem launch4 : Ve0 m c main_arg4 = m ((c : Thread nD τ).loc main_arg4) := V1_of m c main_arg4 (by decide)

include h

theorem left_q : outs 2 main_v2_0 c = scaled (q0 m c) :=
  (h.o0 c).trans ((prep_array_5 (Ve0 m) _ c).trans (by rw [launch0, launch1, launch2]))
theorem left_k : outs 2 main_v2_1 c = k0 m c :=
  (h.o1 c).trans ((prep_array_6 (Ve0 m) _ c).trans (by rw [launch0, launch3, launch4]))
theorem left_v : outs 2 main_v2_2 c = v0 m c :=
  (h.o2 c).trans ((prep_array_7 (Ve0 m) _ c).trans (by rw [launch0, launch3, launch4]))
theorem left_qm : outs 2 main_v2_3 c = (fun i : S14x14x96.Idx => mean (q0 m c) (i 0) (i 1) (i 2)) :=
  (h.o3 c).trans ((prep_array_8 (Ve0 m) _ c).trans (by rw [launch0, launch1, launch2]; rfl))
theorem left_km : outs 2 main_v2_4 c = (fun i : S14x14x96.Idx => mean (k0 m c) (i 0) (i 1) (i 2)) :=
  (h.o4 c).trans ((prep_array_9 (Ve0 m) _ c).trans (by rw [launch0, launch3, launch4]; rfl))

theorem means_q : Ve1 m outs c main_v3 = means (q0 m c) := by
  refine (means_after_q (V2 m outs c)).trans ?_
  rw [V2_at_main_v2_3, left_qm m outs A B h c]
  exact flat_means _
theorem means_k : Ve1 m outs c main_v4 = means (k0 m c) := by
  refine (means_after_k (V2 m outs c)).trans ?_
  rw [V2_at_main_v2_4, left_km m outs A B h c]
  exact flat_means _

theorem left_route : outs 4 main_v5 c = route (means (q0 m c)) (means (k0 m c)) :=
  (h.o5 c).trans ((route_array (Ve1 m outs) _ c).trans (by rw [means_q m outs A B h c, means_k m outs A B h c]))

theorem table_left : A.1 0 = route (means (q0 m c)) (means (k0 m c)) :=
  (h.tA c 0).symm.trans ((table_eq m outs c).trans (left_route m outs A B h c))

theorem entry_q : AttnCall.entry m outs c main_v2_0 = scaled (q0 m c) :=
  (V5_of m outs c main_v2_0 (by decide)).trans ((V4_of m outs c main_v2_0 (by decide)).trans ((V3_of m outs c main_v2_0 (by decide)).trans
    ((V2_at_main_v2_0 m outs c).trans (left_q m outs A B h c))))
theorem entry_k : AttnCall.entry m outs c main_v2_1 = k0 m c :=
  (V5_of m outs c main_v2_1 (by decide)).trans ((V4_of m outs c main_v2_1 (by decide)).trans ((V3_of m outs c main_v2_1 (by decide)).trans
    ((V2_at_main_v2_1 m outs c).trans (left_k m outs A B h c))))
theorem entry_v : AttnCall.entry m outs c main_v2_2 = v0 m c :=
  (V5_of m outs c main_v2_2 (by decide)).trans ((V4_of m outs c main_v2_2 (by decide)).trans ((V3_of m outs c main_v2_2 (by decide)).trans
    ((V2_at_main_v2_2 m outs c).trans (left_v m outs A B h c))))

abbrev attended : S224x224x96.Idx → EReal :=
  Cert.Attention.attention (route (means (q0 m c)) (means (k0 m c))) (scaled (q0 m c)) (k0 m c) (v0 m c)

theorem left_attended : outs 6 main_v7 c = attended m c := by
  have ht := table_left m outs A B h c
  refine (h.o7 c).trans ((AttnCall.array A (AttnCall.entry m outs) (fun j => by rw [ht]; exact route_lt _ _ j) c).trans ?_)
  rw [ht, entry_q m outs A B h c, entry_k m outs A B h c, entry_v m outs A B h c]

theorem final_v7 : FinalCall.entry m outs c main_v7 = attended m c :=
  (V7_of m outs c main_v7 (by decide)).trans (Eq.trans (by simp only [V6, Function.update_self]) (left_attended m outs A B h c))
theorem final_v : FinalCall.entry m outs c main_v2_2 = v0 m c :=
  (V7_of m outs c main_v2_2 (by decide)).trans ((V6_of m outs c main_v2_2 (by decide)).trans (entry_v m outs A B h c))

omit h
theorem final_w (dy dx : Fin 3) (ch : Fin 96) :
    FinalCall.entry m outs c main_v1 (ix2 ⟨3 * dy.val + dx.val, by omega⟩ ch) = m ((c : Thread nD τ).loc main_arg7) (ix4 ch 0 dy dx) := by
  have e : FinalCall.entry m outs c main_v1 = V1 m c (Proc.devRef .tc main_v1) :=
    (V7_of m outs c main_v1 (by decide)).trans ((V6_of m outs c main_v1 (by decide)).trans ((V5_of m outs c main_v1 (by decide)).trans
      ((V4_of m outs c main_v1 (by decide)).trans ((V3_of m outs c main_v1 (by decide)).trans (V2_of m outs c main_v1 (by decide))))))
  rw [e]
  exact (congrFun (weights_after (V0 m c)) _).trans (weight_at _ dy dx ch)
theorem final_arg5 : FinalCall.entry m outs c main_arg5 = m ((c : Thread nD τ).loc main_arg5) :=
  ((V9_of m outs c main_arg5 (by decide)).trans (V8_of m outs c main_arg5 (by decide))).symm.trans (V9_main_arg5 m outs c)
theorem final_arg6 : FinalCall.entry m outs c main_arg6 = m ((c : Thread nD τ).loc main_arg6) :=
  ((V9_of m outs c main_arg6 (by decide)).trans (V8_of m outs c main_arg6 (by decide))).symm.trans (V9_main_arg6 m outs c)
theorem final_arg8 : FinalCall.entry m outs c main_arg8 = m ((c : Thread nD τ).loc main_arg8) :=
  ((V9_of m outs c main_arg8 (by decide)).trans (V8_of m outs c main_arg8 (by decide))).symm.trans (V9_main_arg8 m outs c)
include h

theorem left_final : outs 8 main_v9 c = (fun i : S96x224x224.Idx => final (attended m c) (v0 m c) (m ((c : Thread nD τ).loc main_arg7))
    (m ((c : Thread nD τ).loc main_arg8)) (m ((c : Thread nD τ).loc main_arg5)) (m ((c : Thread nD τ).loc main_arg6)) (i 0) (i 1) (i 2)) := by
  have hz : ∀ j : S1.Idx, B.1 0 j = (0#32 : BitVec 32) := fun j => (congrFun (h.tB c 0) j).symm.trans (offset_eq m outs c j)
  refine (h.o9 c).trans ((FinalCall.array B (FinalCall.entry m outs) hz (m ((c : Thread nD τ).loc main_arg7)) c (final_w m outs c)).trans ?_)
  rw [final_v7 m outs A B h c, final_v m outs A B h c, final_arg5 m outs c, final_arg6 m outs c, final_arg8 m outs c]

/-- The result's array at the end. -/
theorem result_left : V9 m outs c (Proc.devRef .tc main_v10)
    = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (result_after (V8 m outs c)).trans (funext fun i => (lead _ i).trans ?_)
  have e : V8 m outs c (Proc.devRef .tc main_v9) = outs 8 main_v9 c := by simp only [V8, Function.update_self]
  rw [e, left_final m outs A B h c]
  rfl

end

/-- Every run of the whole kernel ends with its result's array at the result, its arguments as launched, and no semaphore raised. -/
theorem kernel_run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v10)
          = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) := by
  obtain ⟨outs, A, B, h⟩ := left_exists m (fun V c j => by rw [route_array]; exact route_lt _ _ j)
  refine (θ_run _ _ _).mono (fun r hr => ⟨fun c => ?_, hr.2⟩) (run m outs A B h ρ)
  have at_end (b : Ref sig .tc) (hb : Proc.devRef .tc b ∈ Pipeline.ucRefs τ sig) : r.2.mem ((c.tc : Thread nD τ).loc b) = V9 m outs c (Proc.devRef .tc b) := hr.1 c _ hb
  exact ⟨(at_end main_v10 (Finset.mem_filter.mpr ⟨StableHlo.devRef_mem_tcRefs main_v10, by decide⟩)).trans (result_left m outs A B h c),
    (at_end main_arg0 (Finset.mem_filter.mpr ⟨StableHlo.devRef_mem_tcRefs main_arg0, by decide⟩)).trans (V9_main_arg0 m outs c),
    (at_end main_arg1 (Finset.mem_filter.mpr ⟨StableHlo.devRef_mem_tcRefs main_arg1, by decide⟩)).trans (V9_main_arg1 m outs c),
    (at_end main_arg2 (Finset.mem_filter.mpr ⟨StableHlo.devRef_mem_tcRefs main_arg2, by decide⟩)).trans (V9_main_arg2 m outs c),
    (at_end main_arg3 (Finset.mem_filter.mpr ⟨StableHlo.devRef_mem_tcRefs main_arg3, by decide⟩)).trans (V9_main_arg3 m outs c),
    (at_end main_arg4 (Finset.mem_filter.mpr ⟨StableHlo.devRef_mem_tcRefs main_arg4, by decide⟩)).trans (V9_main_arg4 m outs c),
    (at_end main_arg5 (Finset.mem_filter.mpr ⟨StableHlo.devRef_mem_tcRefs main_arg5, by decide⟩)).trans (V9_main_arg5 m outs c),
    (at_end main_arg6 (Finset.mem_filter.mpr ⟨StableHlo.devRef_mem_tcRefs main_arg6, by decide⟩)).trans (V9_main_arg6 m outs c),
    (at_end main_arg7 (Finset.mem_filter.mpr ⟨StableHlo.devRef_mem_tcRefs main_arg7, by decide⟩)).trans (V9_main_arg7 m outs c),
    (at_end main_arg8 (Finset.mem_filter.mpr ⟨StableHlo.devRef_mem_tcRefs main_arg8, by decide⟩)).trans (V9_main_arg8 m outs c)⟩

end Cert.Whole

end
-- ==== Proof.TopK.lean ====
/- The four greatest of a row of finite scores: what the routing's four picks find, and what a stable sort puts first. -/
module

public import proofs.«01_k».proof.Proof.Route
public import Idealize.ShloMosaic.Lib.SortPrefix

@[expose] public section

noncomputable section

namespace Cert.Whole

open Idealize.ShloMosaic

/-! ## A stable sort orders by the position where the comparison does not -/

theorem insertBefore_congr {ι : Type} (B B' : ι → ι → Bool) (a : ι) : ∀ l : List ι, (∀ b ∈ l, B b a = B' b a) → insertBefore B a l = insertBefore B' a l
  | [], _ => rfl
  | b :: l, h => by
    unfold insertBefore
    rw [h b (List.mem_cons_self), insertBefore_congr B B' a l fun b hb => h b (List.mem_cons_of_mem _ hb)]

theorem stableSort_congr {ι : Type} (B B' : ι → ι → Bool) : ∀ l : List ι, l.Pairwise (fun a b => B b a = B' b a) → stableSort B l = stableSort B' l
  | [], _ => rfl
  | a :: l, h => by
    rw [List.pairwise_cons] at h
    show insertBefore B a (stableSort B l) = insertBefore B' a (stableSort B' l)
    rw [stableSort_congr B B' l h.2]
    exact insertBefore_congr B B' a _ fun b hb => h.1 b ((perm_stableSort B' l).mem_iff.mp hb)

/-- `k` comes before `k'`: the greater score, and of two equal ones the earlier. -/
def ahead (s : Fin 196 → EReal) (k k' : Fin 196) : Bool := decide (s k' < s k) || (decide (s k = s k') && decide (k < k'))

theorem ahead_total (s : Fin 196 → EReal) : StrictTotalBefore (ahead s) :=
  StrictTotalBefore.of_key_then_position (fun a b : EReal => decide (b < a)) s (fun a => by simp)
    (fun a b c hab hbc => by simp only [decide_eq_true_eq] at *; exact hbc.trans hab)
    (fun a b => by
      simp only [decide_eq_true_eq]
      rcases lt_trichotomy a b with h | h | h
      · exact .inr (.inr h)
      · exact .inr (.inl h)
      · exact .inl h)

theorem sorted_ahead (s : Fin 196 → EReal) :
    sortedFrom (fun k k' => (FloatOps.cmpfTotal (F := Ideal) (φ := .f32) .gt (s k) (s k') : BitVec 1) == 1#1) = sortedFrom (ahead s) := by
  have hB (k k' : Fin 196) : ((FloatOps.cmpfTotal (F := Ideal) (φ := .f32) .gt (s k) (s k') : BitVec 1) == 1#1) = decide (s k' < s k) := by
    show (BitVec.ofBool (decide (s k' < s k)) == 1#1) = _
    by_cases h : s k' < s k <;> simp [h]
  have h : sortPositions 196 (fun k k' => (FloatOps.cmpfTotal (F := Ideal) (φ := .f32) .gt (s k) (s k') : BitVec 1) == 1#1) = sortPositions 196 (ahead s) := by
    refine stableSort_congr _ _ _ ((List.pairwise_lt_finRange 196).imp fun {a b} hab => ?_)
    rw [hB]
    unfold ahead
    rw [show decide (b < a) = false from decide_eq_false (not_lt.mpr hab.le), Bool.and_false, Bool.or_false]
  funext k
  unfold sortedFrom
  rw [List.get_eq_getElem, List.get_eq_getElem]
  simp only [h, Fin.val_cast]

/-! ## The picks are the sort's first four -/

/-- A pick's position. -/
def at' (s : Fin 196 → EReal) (n : ℕ) : Fin 196 := (pick_spec (rest s n)).choose

theorem pick_at (s : Fin 196 → EReal) (n : ℕ) : pick (rest s n) = BitVec.ofNat 32 (at' s n).val := (pick_spec (rest s n)).choose_spec.1
theorem at_ge (s : Fin 196 → EReal) (n : ℕ) (j : Fin 196) : rest s n j ≤ rest s n (at' s n) := (pick_spec (rest s n)).choose_spec.2.1 j
theorem at_gt (s : Fin 196 → EReal) (n : ℕ) (j : Fin 196) (h : j < at' s n) : rest s n j < rest s n (at' s n) := (pick_spec (rest s n)).choose_spec.2.2 j h

theorem rest_succ (s : Fin 196 → EReal) (n : ℕ) (j : Fin 196) : rest s (n + 1) j = if j = at' s n then ⊥ else rest s n j := by
  show (if BitVec.ofNat 32 j.val = pick (rest s n) then ⊥ else rest s n j) = _
  rw [pick_at]
  by_cases h : j = at' s n
  · rw [h]; simp
  · rw [if_neg h, if_neg]
    intro e
    have := congrArg BitVec.toNat e
    rw [BitVec.toNat_ofNat, BitVec.toNat_ofNat] at this
    exact h (Fin.ext (by have := j.isLt; have := (at' s n).isLt; omega))

theorem rest_eq (s : Fin 196 → EReal) (j : Fin 196) : ∀ n : ℕ, (∀ m < n, at' s m ≠ j) → rest s n j = s j
  | 0, _ => rfl
  | n + 1, h => by
    rw [rest_succ, if_neg (fun e => h n (Nat.lt_succ_self n) e.symm), rest_eq s j n fun m hm => h m (Nat.lt_succ_of_lt hm)]

theorem rest_struck (s : Fin 196 → EReal) (m : ℕ) : ∀ n : ℕ, m < n → rest s n (at' s m) = ⊥
  | 0, h => absurd h (Nat.not_lt_zero _)
  | n + 1, h => by
    rw [rest_succ]
    split
    · rfl
    · rename_i hne
      exact rest_struck s m n (lt_of_le_of_ne (Nat.lt_succ_iff.mp h) fun e => hne (by rw [e]))

theorem at_ne (s : Fin 196 → EReal) (hs : ∀ j, ⊥ < s j) (m n : ℕ) (h : m < n) (hn : n < 196) : at' s m ≠ at' s n := by
  intro e
  obtain ⟨j, hj⟩ : ∃ j : Fin 196, ∀ k < n, at' s k ≠ j := by
    by_contra hall
    push Not at hall
    have hc : (Finset.univ : Finset (Fin 196)) ⊆ (Finset.range n).image (at' s) := fun j _ => by
      obtain ⟨k, hk, e⟩ := hall j
      exact Finset.mem_image.mpr ⟨k, Finset.mem_range.mpr hk, e⟩
    have := (Finset.card_le_card hc).trans Finset.card_image_le
    simp at this
    omega
  have h1 := at_ge s n j
  rw [rest_eq s j n hj, ← e, rest_struck s m n h] at h1
  exact absurd (hs j) (not_lt.mpr h1)

theorem at_first (s : Fin 196 → EReal) (n : ℕ) (p : Fin 196) (hn : ∀ m < n, at' s m ≠ at' s n) (hp : ∀ m < n, at' s m ≠ p) :
    ahead s p (at' s n) = false := by
  have hge := at_ge s n p
  rw [rest_eq s p n hp, rest_eq s _ n hn] at hge
  unfold ahead
  rw [decide_eq_false (not_lt.mpr hge), Bool.false_or, Bool.and_eq_false_iff]
  by_cases h : p < at' s n
  · have hgt := at_gt s n p h
    rw [rest_eq s p n hp, rest_eq s _ n hn] at hgt
    exact .inl (decide_eq_false hgt.ne)
  · exact .inr (decide_eq_false h)

theorem sorted_pick (s : Fin 196 → EReal) (hs : ∀ j, ⊥ < s j) (n : Fin 4) :
    BitVec.ofNat 32 (sortedFrom (fun k k' => (FloatOps.cmpfTotal (F := Ideal) (φ := .f32) .gt (s k) (s k') : BitVec 1) == 1#1) (n.castLE (by decide : 4 ≤ 196))).val
      = pick (rest s n.val) := by
  have hne (m k : Fin 4) (h : m < k) : at' s m ≠ at' s k := at_ne s hs m k h (by have := k.isLt; omega)
  rw [pick_at, sorted_ahead, (ahead_total s).sortedFrom_eq_of_prefix (by decide) (fun m : Fin 4 => at' s m.val)
    (fun a b e => by
      rcases lt_trichotomy a b with h | h | h
      · exact absurd e (hne a b h)
      · exact h
      · exact absurd e.symm (hne b a h))
    (fun i j h => at_first s i _ (fun m hm => hne ⟨m, by omega⟩ i hm) fun m hm => hne ⟨m, by omega⟩ j (show m < j.val from lt_trans hm h))
    (fun i p hp => at_first s i p (fun m hm => hne ⟨m, by omega⟩ i hm) fun m hm => hp ⟨m, by omega⟩) n]

end Cert.Whole

end
-- ==== Proof.RefValue.lean ====
/- The whole reference's value in closed form. -/
module

public import proofs.«01_k».proof.Proof.Spec
public import proofs.«01_k».proof.Proof.TopK
public import proofs.«01_k».proof.Proof.Reference
public import proofs.«01_k».proof.Proof.Gen.ReferenceIdeal.Read
public import Idealize.ShloMosaic.Lib.Pointwise

@[expose] public section

set_option maxRecDepth 8192

noncomputable section

namespace Cert.Whole

open Cert.ReferenceIdeal Cert.ReferenceIdeal.Gen Cert.ReferenceIdeal.Read
open Idealize.ShloMosaic

theorem ref_query (x0 : S4x96x224x224.Idx → EReal) (x1 : S96x96.Idx → EReal) (x2 : S96.Idx → EReal) :
    val_main_v21 (F := Ideal) x0 x1 x2 = query x0 x1 x2 := by
  funext i
  obtain ⟨y, x, c, rfl⟩ : ∃ (y x : Fin 224) (c : Fin 96), i = ix3 y x c := ⟨i 0, i 1, i 2, eq_ix3 i⟩
  unfold val_main_v21 val_main_v20 val_main_v19 val_main_v18 val_main_v1 val_main_v0
  pointwise []
  rfl

theorem ref_history (x0 : S4x96x224x224.Idx → EReal) (k : Fin 96) (y x : Fin 224) :
    val_main_v17 (F := Ideal) x0 (ix3 k y x) = history x0 k y x := by
  unfold val_main_v17 val_main_v16 val_main_v12 val_main_v11 val_main_v7 val_main_v6 val_main_v5 val_main_v3 val_main_v2 val_main_v4 val_main_v9 val_main_v8 val_main_v10
    val_main_v14 val_main_v13 val_main_v15 val_main_cst val_main_cst_0 val_main_cst_1 val_main_cst_2
  pointwise []
  rfl

theorem ref_projected (x0 : S4x96x224x224.Idx → EReal) (x3 : S192x96.Idx → EReal) (x4 : S192.Idx → EReal) (y x : Fin 224) (o : Fin 192) :
    val_main_v25 (F := Ideal) x0 x3 x4 (ix3 y x o) = projected x0 x3 x4 y x o := by
  unfold val_main_v25 val_main_v24 val_main_v23 val_main_v22
  pointwise [ref_history]
  rfl

theorem ref_keys (x0 : S4x96x224x224.Idx → EReal) (x3 : S192x96.Idx → EReal) (x4 : S192.Idx → EReal) :
    val_main_v26 (F := Ideal) x0 x3 x4 = keys x0 x3 x4 := by
  funext i
  obtain ⟨y, x, c, rfl⟩ : ∃ (y x : Fin 224) (c : Fin 96), i = ix3 y x c := ⟨i 0, i 1, i 2, eq_ix3 i⟩
  unfold val_main_v26
  pointwise [ref_projected]
  rfl

theorem ref_values (x0 : S4x96x224x224.Idx → EReal) (x3 : S192x96.Idx → EReal) (x4 : S192.Idx → EReal) :
    val_main_v27 (F := Ideal) x0 x3 x4 = values x0 x3 x4 := by
  funext i
  obtain ⟨y, x, c, rfl⟩ : ∃ (y x : Fin 224) (c : Fin 96), i = ix3 y x c := ⟨i 0, i 1, i 2, eq_ix3 i⟩
  unfold val_main_v27
  pointwise [ref_projected]
  rfl

theorem sum_regions (t : S14x16x14x16x96.Idx → EReal) (a b : Fin 14) (c : Fin 96) (h : S14x16x14x16x96.ReducesTo [1, 3] S14x14x96) :
    (∑ i ∈ Finset.univ.filter (fun i => h.drop i = ix3 a b c), t i) = ∑ p : Fin 16 × Fin 16, t (ix5 a p.1 b p.2 c) := by
  refine Finset.sum_bij' (fun i _ => (i 1, i 3)) (fun p _ => ix5 a p.1 b p.2 c) (fun _ _ => Finset.mem_univ _) (fun p _ => ?_) (fun i hi => ?_) (fun _ _ => rfl) (fun i hi => ?_)
  · rw [Finset.mem_filter]
    exact ⟨Finset.mem_univ _, by funext k; fin_cases k <;> rfl⟩
  · have hd := (Finset.mem_filter.mp hi).2
    have h0 : i 0 = a := congrFun hd 0
    have h1 : i 2 = b := congrFun hd 1
    have h2 : i 4 = c := congrFun hd 2
    funext k; fin_cases k
    · exact h0.symm
    · rfl
    · exact h1.symm
    · rfl
    · exact h2.symm
  · have hd := (Finset.mem_filter.mp hi).2
    have h0 : i 0 = a := congrFun hd 0
    have h1 : i 2 = b := congrFun hd 1
    have h2 : i 4 = c := congrFun hd 2
    refine congrArg t ?_
    funext k; fin_cases k
    · exact h0
    · rfl
    · exact h1
    · rfl
    · exact h2

theorem mean_eq (t : S224x224x96.Idx → EReal) (a b : Fin 14) (c : Fin 96) :
    Ideal.div (Ideal.hostReduceAdd reducesTo_S14x16x14x16x96_S14x14x96_d1_3 (shapeCast S14x16x14x16x96 t shapeCasts_S224x224x96_S14x16x14x16x96) 0 (ix3 a b c))
      (Ideal.ofBits .f32 1132462080#32) = mean t a b c := by
  refine congrArg₂ Ideal.div ?_ rfl
  refine (zero_add _).trans ((sum_regions _ a b c _).trans (Finset.sum_congr rfl fun p _ => ?_))
  pointwise []

theorem ref_means_q (x0 : S4x96x224x224.Idx → EReal) (x1 : S96x96.Idx → EReal) (x2 : S96.Idx → EReal) :
    val_main_v32 (F := Ideal) x0 x1 x2 = means (query x0 x1 x2) := by
  funext i
  obtain ⟨r, c, rfl⟩ : ∃ (r : Fin 196) (c : Fin 96), i = ix2 r c := ⟨i 0, i 1, eq_ix2 i⟩
  unfold val_main_v32 val_main_v31 val_main_v30 val_main_v29 val_main_v28 val_main_cst_3 val_main_cst_4
  rw [ref_query]
  pointwise []
  exact mean_eq _ _ _ _

theorem ref_means_k (x0 : S4x96x224x224.Idx → EReal) (x3 : S192x96.Idx → EReal) (x4 : S192.Idx → EReal) :
    val_main_v37 (F := Ideal) x0 x3 x4 = means (keys x0 x3 x4) := by
  funext i
  obtain ⟨r, c, rfl⟩ : ∃ (r : Fin 196) (c : Fin 96), i = ix2 r c := ⟨i 0, i 1, eq_ix2 i⟩
  unfold val_main_v37 val_main_v36 val_main_v35 val_main_v34 val_main_v33 val_main_cst_5 val_main_cst_6
  rw [ref_keys]
  pointwise []
  exact mean_eq _ _ _ _

theorem ref_score (x0 : S4x96x224x224.Idx → EReal) (x1 : S96x96.Idx → EReal) (x2 : S96.Idx → EReal) (x3 : S192x96.Idx → EReal) (x4 : S192.Idx → EReal) (i j : Fin 196) :
    val_main_v39 (F := Ideal) x0 x1 x2 x3 x4 (ix2 i j) = score (val_main_v32 (F := Ideal) x0 x1 x2) (val_main_v37 (F := Ideal) x0 x3 x4) i j := by
  unfold val_main_v39 val_main_v38
  pointwise []
  rfl

/-! ## Real numbers -/

open Cert.Softmax (IsReal)

theorem real_add {x y : EReal} (hx : IsReal x) (hy : IsReal y) : IsReal (x + y) := by
  obtain ⟨a, rfl⟩ := hx; obtain ⟨b, rfl⟩ := hy
  exact ⟨a + b, (EReal.coe_add a b).symm⟩

theorem real_div {x y : EReal} (hx : IsReal x) (hy : IsReal y) (h0 : y ≠ 0) : IsReal (Ideal.div x y) := by
  unfold Ideal.div
  rw [if_neg h0]
  obtain ⟨a, rfl⟩ := hx; obtain ⟨b, rfl⟩ := hy
  exact ⟨a / b, (EReal.coe_div a b).symm⟩

theorem real_256 : IsReal (Ideal.ofBits .f32 0x43800000#32) ∧ Ideal.ofBits .f32 0x43800000#32 ≠ 0 := by
  have h : Ideal.ofBits .f32 0x43800000#32 = ((256 : ℝ) : EReal) := by
    simp [Ideal.ofBits, Ideal.ieee]
    rw [← EReal.coe_mul]
    norm_num
  rw [h]
  exact ⟨⟨256, rfl⟩, by norm_num⟩

theorem real_c0 : IsReal (Ideal.ofBits .f32 0x3E0A9555#32) := by
  simp [Ideal.ofBits, Ideal.ieee]
  exact IsReal.mul ⟨_, rfl⟩ ⟨_, rfl⟩

theorem real_c1 : IsReal (Ideal.ofBits .f32 0x3D4BED86#32) := by
  simp [Ideal.ofBits, Ideal.ieee]
  exact IsReal.mul ⟨_, rfl⟩ ⟨_, rfl⟩

theorem real_c2 : IsReal (Ideal.ofBits .f32 0x3C960AAE#32) := by
  simp [Ideal.ofBits, Ideal.ieee]
  exact IsReal.mul ⟨_, rfl⟩ ⟨_, rfl⟩

theorem real_scale : IsReal (Ideal.ofBits .f32 0x3DD105EC#32) := by
  simp [Ideal.ofBits, Ideal.ieee]
  exact IsReal.mul ⟨_, rfl⟩ ⟨_, rfl⟩

structure Reals (X : S4x96x224x224.Idx → EReal) (qw : S96x96.Idx → EReal) (qb : S96.Idx → EReal) (kw : S192x96.Idx → EReal) (kb : S192.Idx → EReal) : Prop where
  x : ∀ j, IsReal (X j)
  qw : ∀ j, IsReal (qw j)
  qb : ∀ j, IsReal (qb j)
  kw : ∀ j, (j 0).val < 96 → IsReal (kw j)
  kb : ∀ j, (j 0).val < 96 → IsReal (kb j)

/-! ## The attention -/

theorem ref_attention (x0 : S4x96x224x224.Idx → EReal) (x1 : S96x96.Idx → EReal) (x2 : S96.Idx → EReal) (x3 : S192x96.Idx → EReal) (x4 : S192.Idx → EReal) :
    val_main_v84 (F := Ideal) x0 x1 x2 x3 x4 = AttnReferenceIdeal.Read.val_main_v45 (F := Ideal) (val_main_indices (F := Ideal) x0 x1 x2 x3 x4)
      (val_main_v41 (F := Ideal) x0 x1 x2) (val_main_v26 (F := Ideal) x0 x3 x4) (val_main_v27 (F := Ideal) x0 x3 x4) := rfl

/-! ## The depthwise sum -/

theorem ref_border (x0 : S4x96x224x224.Idx → EReal) (x3 : S192x96.Idx → EReal) (x4 : S192.Idx → EReal) (y x : Fin 226) (c : Fin 96) :
    val_main_v85 (F := Ideal) x0 x3 x4 (ix3 y x c) = border (values x0 x3 x4) y x c := by
  unfold val_main_v85 val_main_call0_v0 val_main_c_14
  rw [ref_values]
  pointwise []
  unfold border
  have h0 : (FloatOps.sitofp (F := Ideal) FTy.f32 0#32) = (0 : EReal) := by
    show (((0#32 : BitVec 32).toInt : ℝ) : EReal) = 0
    simp
  rw [h0]
  by_cases h : (1 ≤ y.val ∧ y.val ≤ 224) ∧ 1 ≤ x.val ∧ x.val ≤ 224
  · rw [dif_pos h, dif_pos (by omega)]
  · rw [dif_neg h, dif_neg (by omega)]

theorem ref_depthwise (x0 : S4x96x224x224.Idx → EReal) (x3 : S192x96.Idx → EReal) (x4 : S192.Idx → EReal) (x7 : S96x1x3x3.Idx → EReal) (x8 : S96.Idx → EReal) (y x : Fin 224) (c : Fin 96) :
    val_main_v152 (F := Ideal) x0 x3 x4 x7 x8 (ix3 y x c) = depthwise (values x0 x3 x4) x7 x8 y x c := by
  unfold val_main_v152 val_main_v151 val_main_v150
  unfold val_main_v149 val_main_v148 val_main_v147 val_main_v146 val_main_v145 val_main_v144 val_main_v143
  unfold val_main_v142 val_main_v141 val_main_v140 val_main_v139 val_main_v138 val_main_v137 val_main_v136
  unfold val_main_v135 val_main_v134 val_main_v133 val_main_v132 val_main_v131 val_main_v130 val_main_v129
  unfold val_main_v128 val_main_v127 val_main_v126 val_main_v125 val_main_v124 val_main_v123 val_main_v122
  unfold val_main_v121 val_main_v120 val_main_v119 val_main_v118 val_main_v117 val_main_v116 val_main_v115
  unfold val_main_v114 val_main_v113 val_main_v112 val_main_v111 val_main_v110 val_main_v109 val_main_v108
  unfold val_main_v107 val_main_v106 val_main_v105 val_main_v104 val_main_v103 val_main_v102 val_main_v101
  unfold val_main_v100 val_main_v99 val_main_v98 val_main_v97 val_main_v96 val_main_v95 val_main_v94
  unfold val_main_v93 val_main_v92 val_main_cst_15 val_main_v91 val_main_v90 val_main_v89 val_main_v88 val_main_v87 val_main_v86
  pointwise [ref_border]
  have h1y (h) : (⟨1 + y.val, h⟩ : Fin 226) = ⟨y.val + (1 : Fin 3).val, by omega⟩ := Fin.ext (Nat.add_comm _ _)
  have h2y (h) : (⟨2 + y.val, h⟩ : Fin 226) = ⟨y.val + (2 : Fin 3).val, by omega⟩ := Fin.ext (Nat.add_comm _ _)
  have h1x (h) : (⟨1 + x.val, h⟩ : Fin 226) = ⟨x.val + (1 : Fin 3).val, by omega⟩ := Fin.ext (Nat.add_comm _ _)
  have h2x (h) : (⟨2 + x.val, h⟩ : Fin 226) = ⟨x.val + (2 : Fin 3).val, by omega⟩ := Fin.ext (Nat.add_comm _ _)
  simp only [h1y, h2y, h1x, h2x]
  rfl

theorem ref_final (x0 : S4x96x224x224.Idx → EReal) (x1 : S96x96.Idx → EReal) (x2 : S96.Idx → EReal) (x3 : S192x96.Idx → EReal) (x4 : S192.Idx → EReal) (x5 : S96x96.Idx → EReal) (x6 : S96.Idx → EReal) (x7 : S96x1x3x3.Idx → EReal) (x8 : S96.Idx → EReal) (b : Fin 1) (o : Fin 96) (y x : Fin 224) :
    val_main_v158 (F := Ideal) x0 x1 x2 x3 x4 x5 x6 x7 x8 (ix4 b o y x) = final (val_main_v84 (F := Ideal) x0 x1 x2 x3 x4) (values x0 x3 x4) x7 x8 x5 x6 o y x := by
  unfold val_main_v158 val_main_v157 val_main_v156 val_main_v155 val_main_v154 val_main_v153
  pointwise [ref_depthwise]
  rfl

end Cert.Whole

end
-- ==== Proof.Finite.lean ====
/- The whole kernel's precondition, read at an index: the input and the queries' and the keys' weights and biases are real numbers. -/
module

public import proofs.«01_k».proof.Proof.Precond
public import proofs.«01_k».proof.Proof.RefValue
public import proofs.«01_k».proof.Proof.Gen.Pre_projections_finite
public import Idealize.ShloMosaic.Lib.Pointwise

@[expose] public section

noncomputable section

namespace Cert.Whole

open Idealize.ShloMosaic Idealize.ShloMosaic.TcCoe
open Cert.Attention (andi_one isReal_of_abs)
open Cert.Pre_projections_finite

theorem reals_of_finite (x0 : FVec Ideal S4x96x224x224 .f32) (x1 : FVec Ideal S96x96 .f32) (x2 : FVec Ideal S96 .f32) (x3 : FVec Ideal S192x96 .f32)
    (x4 : FVec Ideal S192 .f32) (x5 : FVec Ideal S96x96 .f32) (x6 : FVec Ideal S96 .f32) (x7 : FVec Ideal S96x1x3x3 .f32) (x8 : FVec Ideal S96 .f32)
    (h : fn (F := Ideal) x0 x1 x2 x3 x4 x5 x6 x7 x8 = fun _ => 1#1) : Reals x0 x1 x2 x3 x4 := by
  have e := congrFun h (fun a => a.elim0)
  dsimp only [fn, fn_part1] at e
  have e4 := (andi_one _ _).1 e
  have e3 := (andi_one _ _).1 e4.1
  have e2 := (andi_one _ _).1 e3.1
  have e1 := (andi_one _ _).1 e2.1
  refine ⟨fun j => isReal_of_abs _ (Host.reduce_andi_all _ _ _ _ _ e1.1 j), fun j => isReal_of_abs _ (Host.reduce_andi_all _ _ _ _ _ e1.2 j),
    fun j => isReal_of_abs _ (Host.reduce_andi_all _ _ _ _ _ e2.2 j), fun j hj => ?_, fun j hj => ?_⟩
  · obtain ⟨o, k, rfl⟩ : ∃ (o : Fin 192) (k : Fin 96), j = ix2 o k := ⟨j 0, j 1, eq_ix2 j⟩
    have r := isReal_of_abs _ (Host.reduce_andi_all _ _ _ _ _ e3.2 (ix2 ⟨o.val, hj⟩ k))
    have a : extractStridedSlice S96x96 ![0, 0] x3 Gen.slices_S192x96_S96x96_0_0 (ix2 ⟨o.val, hj⟩ k) = x3 (ix2 o k) := by pointwise []
    exact a ▸ r
  · obtain ⟨o, rfl⟩ : ∃ o : Fin 192, j = ix1 o := ⟨j 0, eq_ix1 j⟩
    have r := isReal_of_abs _ (Host.reduce_andi_all _ _ _ _ _ e4.2 (ix1 ⟨o.val, hj⟩))
    have a : extractStridedSlice S96 ![0] x4 Gen.slices_S192_S96_0 (ix1 ⟨o.val, hj⟩) = x4 (ix1 o) := by pointwise []
    exact a ▸ r

end Cert.Whole

end
-- ==== Proof.RefResult.lean ====
/- The reference's result over real operands: its routing is Route.lean's table, its attention Array.lean's, and the whole is Spec.lean's result. -/
module

public import proofs.«01_k».proof.Proof.RefValue
public import proofs.«01_k».proof.Proof.TopK

@[expose] public section

set_option maxRecDepth 16384

noncomputable section

namespace Cert.Whole

open Cert.ReferenceIdeal Cert.ReferenceIdeal.Gen Cert.ReferenceIdeal.Read
open Idealize.ShloMosaic
open Cert.Softmax (IsReal)

/-! ## What is real -/

theorem real_query {X : S4x96x224x224.Idx → EReal} {W : S96x96.Idx → EReal} {B : S96.Idx → EReal} (hX : ∀ j, IsReal (X j)) (hW : ∀ j, IsReal (W j)) (hB : ∀ j, IsReal (B j))
    (i : S224x224x96.Idx) : IsReal (query X W B i) :=
  real_add (IsReal.sum _ fun k => (hX _).mul (hW _)) (hB _)

theorem real_scaled {q : S224x224x96.Idx → EReal} (h : ∀ i, IsReal (q i)) (i : S224x224x96.Idx) : IsReal (scaled q i) := (h i).mul real_scale

theorem real_keys {X : S4x96x224x224.Idx → EReal} {W : S192x96.Idx → EReal} {B : S192.Idx → EReal} (hX : ∀ j, IsReal (X j)) (hW : ∀ j, (j 0).val < 96 → IsReal (W j)) (hB : ∀ j, (j 0).val < 96 → IsReal (B j))
    (i : S224x224x96.Idx) : IsReal (keys X W B i) :=
  real_add (IsReal.sum _ fun k => (real_add (real_add ((hX _).mul real_c0) ((hX _).mul real_c1)) ((hX _).mul real_c2)).mul (hW _ (i 2).isLt)) (hB _ (i 2).isLt)

theorem real_means {t : S224x224x96.Idx → EReal} (h : ∀ i, IsReal (t i)) (i : S196x96.Idx) : IsReal (means t i) :=
  real_div (IsReal.sum _ fun p => h _) real_256.1 real_256.2

theorem real_score {x y : S196x96.Idx → EReal} (hx : ∀ i, IsReal (x i)) (hy : ∀ i, IsReal (y i)) (i j : Fin 196) : IsReal (score x y i j) :=
  IsReal.sum _ fun k => (hx _).mul (hy _)

theorem bot_lt_real {x : EReal} (h : IsReal x) : ⊥ < x := by
  obtain ⟨r, rfl⟩ := h
  exact EReal.bot_lt_coe r

/-! ## The routing -/

theorem along_row (r m : Fin 196) (hd : 1 < S196x196.rank) (k : Fin (S196x196.size ⟨1, hd⟩)) :
    (ix2 r m : S196x196.Idx).along ⟨1, hd⟩ k = ix2 r k := by
  funext a; fin_cases a <;> rfl

theorem first_four (y : S196x196.Idx → BitVec 32) (r : Fin 196) (n : Fin 4) (h) :
    extractStridedSlice S196x4 (fun _ => 0) y h (ix2 r n) = y (ix2 r (n.castLE (by decide : 4 ≤ 196))) := by
  refine congrArg y (funext fun a => Fin.ext ?_)
  fin_cases a <;> exact Nat.zero_add _

theorem sorted_row (x : S196x196.Idx → EReal) (y : S196x196.Idx → BitVec 32) (r m : Fin 196) :
    (Host.sort2 S196x196 1 (fun l r => FloatOps.cmpfTotal (F := Ideal) (φ := .f32) .gt l.1 r.1) x y).2 (ix2 r m)
      = y (ix2 r (sortedFrom (fun k k' => (FloatOps.cmpfTotal (F := Ideal) (φ := .f32) .gt (x (ix2 r k)) (x (ix2 r k')) : BitVec 1) == 1#1) m)) := by
  unfold Host.sort2
  rw [dif_pos (show 1 < S196x196.rank by decide)]
  dsimp only
  simp only [along_row]
  rfl

theorem topk_route (x : S196x196.Idx → EReal) (u v : S196x96.Idx → EReal) (hx : ∀ i j, x (ix2 i j) = score u v i j) (hr : ∀ i j, ⊥ < score u v i j) :
    (Host.topK S196x4 1 (FloatOps.cmpfTotal (F := Ideal) (φ := .f32) .gt) x sliceFits_S196x196_S196x4).2 = route u v := by
  funext i
  obtain ⟨r, n, rfl⟩ : ∃ (r : Fin 196) (n : Fin 4), i = ix2 r n := ⟨i 0, i 1, eq_ix2 i⟩
  refine Eq.trans ?_ ((sorted_pick (score u v r) (hr r) n).trans rfl)
  have e : score u v r = fun k => x (ix2 r k) := funext fun k => (hx r k).symm
  rw [e]
  unfold Host.topK
  dsimp only
  refine (first_four _ r n _).trans ?_
  refine (sorted_row x _ r _).trans ?_
  rfl

section
variable (x0 : S4x96x224x224.Idx → EReal) (x1 : S96x96.Idx → EReal) (x2 : S96.Idx → EReal) (x3 : S192x96.Idx → EReal) (x4 : S192.Idx → EReal)

theorem ref_scaled : val_main_v41 (F := Ideal) x0 x1 x2 = scaled (query x0 x1 x2) := by
  funext i
  unfold val_main_v41 val_main_v40 val_main_cst_7
  rw [ref_query]
  rfl

theorem ref_route (h : Reals x0 x1 x2 x3 x4) :
    val_main_indices (F := Ideal) x0 x1 x2 x3 x4 = route (means (query x0 x1 x2)) (means (keys x0 x3 x4)) := by
  unfold val_main_indices
  refine topk_route _ _ _ (fun i j => ?_) fun i j => bot_lt_real (real_score (real_means (real_query h.x h.qw h.qb)) (real_means (real_keys h.x h.kw h.kb)) i j)
  rw [ref_score, ref_means_q, ref_means_k]

theorem ref_attended (h : Reals x0 x1 x2 x3 x4) :
    val_main_v84 (F := Ideal) x0 x1 x2 x3 x4
      = Cert.Attention.attention (route (means (query x0 x1 x2)) (means (keys x0 x3 x4))) (scaled (query x0 x1 x2)) (keys x0 x3 x4) (values x0 x3 x4) := by
  rw [ref_attention, ref_route x0 x1 x2 x3 x4 h, ref_scaled, ref_keys, ref_values]
  exact Cert.Attention.Reference.result_eq _ _ _ _ (fun j => route_lt _ _ j) (real_scaled (real_query h.x h.qw h.qb)) (real_keys h.x h.kw h.kb)

/-- The reference's result. -/
theorem ref_result (x5 : S96x96.Idx → EReal) (x6 : S96.Idx → EReal) (x7 : S96x1x3x3.Idx → EReal) (x8 : S96.Idx → EReal) (h : Reals x0 x1 x2 x3 x4) :
    val_main_v158 (F := Ideal) x0 x1 x2 x3 x4 x5 x6 x7 x8 = result x0 x1 x2 x3 x4 x5 x6 x7 x8 := by
  funext i
  obtain ⟨b, o, y, x, rfl⟩ : ∃ (b : Fin 1) (o : Fin 96) (y x : Fin 224), i = ix4 b o y x := ⟨i 0, i 1, i 2, i 3, eq_ix4 i⟩
  rw [ref_final, ref_attended x0 x1 x2 x3 x4 h]
  rfl
end

end Cert.Whole

end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnReferenceIdeal
public import proofs.«01_k».proof.Proof.Gen.AttnReferenceIdeal.Run
public import proofs.«01_k».proof.Proof.Gen.AttnReferenceIdeal.Read
public import proofs.«01_k».proof.Proof.Gen.Pre_regions_in_range
public import proofs.«01_k».proof.Proof.Gen.Pre_regions_in_range_scores_finite
public import proofs.«01_k».proof.Proof.Gen.Pre_projections_finite
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.Own.KernelIdeal.K0.Frame
public import proofs.«01_k».proof.Proof.Gen.Own.KernelIdeal.K1.Frame
public import proofs.«01_k».proof.Proof.Gen.Own.KernelIdeal.RegionsD
public import proofs.«01_k».proof.Proof.Gen.ReferenceIdeal
public import proofs.«01_k».proof.Proof.Gen.ReferenceIdeal.Run
public import proofs.«01_k».proof.Proof.Gen.ReferenceIdeal.Read
public import proofs.«01_k».proof.Proof.Precond
public import proofs.«01_k».proof.Proof.Array
public import proofs.«01_k».proof.Proof.Reference
public import proofs.«01_k».proof.Proof.KernelResult
public import proofs.«01_k».proof.Proof.Finite
public import proofs.«01_k».proof.Proof.RefResult
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame: its arguments end unchanged, and it has no semaphores. -/
theorem reference_frame (m : (ℓ : Loc AttnReferenceIdeal.nD AttnReferenceIdeal.τ AttnReferenceIdeal.sig) → Buf (Elt Ideal) ℓ) (g : Dev AttnReferenceIdeal.nD → PrngReg) :
    θ_run (AttnReferenceIdeal.defs (F := Ideal)) (onTc (τ := AttnReferenceIdeal.τ) (AttnReferenceIdeal.main (F := Ideal))) ⟨m, fun _ => 0, g⟩
      (fun r => (∀ c : Dev AttnReferenceIdeal.nD,
        r.2.mem ((c.tc : Thread AttnReferenceIdeal.nD AttnReferenceIdeal.τ).loc AttnReferenceIdeal.main_arg0) = m ((c.tc : Thread AttnReferenceIdeal.nD AttnReferenceIdeal.τ).loc AttnReferenceIdeal.main_arg0)
        ∧ r.2.mem ((c.tc : Thread AttnReferenceIdeal.nD AttnReferenceIdeal.τ).loc AttnReferenceIdeal.main_arg1) = m ((c.tc : Thread AttnReferenceIdeal.nD AttnReferenceIdeal.τ).loc AttnReferenceIdeal.main_arg1)
        ∧ r.2.mem ((c.tc : Thread AttnReferenceIdeal.nD AttnReferenceIdeal.τ).loc AttnReferenceIdeal.main_arg2) = m ((c.tc : Thread AttnReferenceIdeal.nD AttnReferenceIdeal.τ).loc AttnReferenceIdeal.main_arg2)
        ∧ r.2.mem ((c.tc : Thread AttnReferenceIdeal.nD AttnReferenceIdeal.τ).loc AttnReferenceIdeal.main_arg3) = m ((c.tc : Thread AttnReferenceIdeal.nD AttnReferenceIdeal.τ).loc AttnReferenceIdeal.main_arg3))
        ∧ r.2.sem = fun _ => 0) :=
  (θ_run _ _ _).mono (fun r h => ⟨fun c => (h c).2, sem_eq_zero_of_no_sems rfl r.2⟩) (AttnReferenceIdeal.Value.run m g)

/-- The kernel and the reference end with the same array. -/
theorem same_result : Cert.algebraic_AttnIdeal_AttnReferenceIdeal_pre_regions_in_range_scores_finite := by
  intro m g m' g' hp ha
  have hO := Attention.ok_of_scores_finite m hp
  refine ⟨fun c => Attention.result m c, ?_, ?_⟩
  · refine (θ_run _ _ _).mono (fun r h c => ⟨?_, h.2 c⟩) (θ_run_and (AttnIdeal.Gen.run_main m g hO) (AttnIdeal.Gen.unchanged m g hO))
    exact ((h.1 c).1 9).trans (Attention.arrAt_eq m hO (fun i j => Attention.words_of_scores_finite _ _ _ _ (hp 0) _) c)
  · refine (θ_run _ _ _).mono (fun r h c => ⟨(h c).1.trans ?_, (h c).2⟩) (AttnReferenceIdeal.Value.run m' g')
    rw [AttnReferenceIdeal.Read.val_main_v45_eq, (ha c).1, (ha c).2.1, (ha c).2.2.1, (ha c).2.2.2]
    have hc : c = 0 := Subsingleton.elim _ _
    subst hc
    exact Attention.Reference.result_eq _ _ _ _ (fun j => Attention.words_of_scores_finite _ _ _ _ (hp 0) j)
      (fun j => (Attention.real_of_scores_finite _ _ _ _ (hp 0) j).1) (fun j => (Attention.real_of_scores_finite _ _ _ _ (hp 0) j).2)

/-- The whole kernel's frame. -/
theorem whole_frame (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩
      (fun r => (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4)
        ∧ r.2.mem ((c.tc : Thread KernelIdeal.nD KernelIdeal.τ).loc KernelIdeal.main_arg5) = m ((c.tc : Thread KernelIdeal.nD KernelIdeal.τ).loc KernelIdeal.main_arg5)
        ∧ r.2.mem ((c.tc : Thread KernelIdeal.nD KernelIdeal.τ).loc KernelIdeal.main_arg6) = m ((c.tc : Thread KernelIdeal.nD KernelIdeal.τ).loc KernelIdeal.main_arg6)
        ∧ r.2.mem ((c.tc : Thread KernelIdeal.nD KernelIdeal.τ).loc KernelIdeal.main_arg7) = m ((c.tc : Thread KernelIdeal.nD KernelIdeal.τ).loc KernelIdeal.main_arg7)
        ∧ r.2.mem ((c.tc : Thread KernelIdeal.nD KernelIdeal.τ).loc KernelIdeal.main_arg8) = m ((c.tc : Thread KernelIdeal.nD KernelIdeal.τ).loc KernelIdeal.main_arg8))
        ∧ r.2.sem = fun _ => 0) :=
  (θ_run _ _ _).mono (fun r h => ⟨fun c => (h.1 c).2, h.2⟩) (Whole.kernel_run m g)

/-- The whole reference's frame. -/
theorem whole_reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4)
        ∧ r.2.mem ((c.tc : Thread ReferenceIdeal.nD ReferenceIdeal.τ).loc ReferenceIdeal.main_arg5) = m ((c.tc : Thread ReferenceIdeal.nD ReferenceIdeal.τ).loc ReferenceIdeal.main_arg5)
        ∧ r.2.mem ((c.tc : Thread ReferenceIdeal.nD ReferenceIdeal.τ).loc ReferenceIdeal.main_arg6) = m ((c.tc : Thread ReferenceIdeal.nD ReferenceIdeal.τ).loc ReferenceIdeal.main_arg6)
        ∧ r.2.mem ((c.tc : Thread ReferenceIdeal.nD ReferenceIdeal.τ).loc ReferenceIdeal.main_arg7) = m ((c.tc : Thread ReferenceIdeal.nD ReferenceIdeal.τ).loc ReferenceIdeal.main_arg7)
        ∧ r.2.mem ((c.tc : Thread ReferenceIdeal.nD ReferenceIdeal.τ).loc ReferenceIdeal.main_arg8) = m ((c.tc : Thread ReferenceIdeal.nD ReferenceIdeal.τ).loc ReferenceIdeal.main_arg8))
        ∧ r.2.sem = fun _ => 0) :=
  (θ_run _ _ _).mono (fun r h => ⟨fun c => (h c).2, sem_eq_zero_of_no_sems rfl r.2⟩) (ReferenceIdeal.Value.run m g)

/-- The whole kernel and the whole reference end with the same array. -/
theorem same_whole : Cert.algebraic_KernelIdeal_ReferenceIdeal_pre_projections_finite := by
  intro m g m' g' hp ha
  refine ⟨fun c => Whole.result (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) (m ((c.tc : Thread KernelIdeal.nD KernelIdeal.τ).loc KernelIdeal.main_arg7)) (m ((c.tc : Thread KernelIdeal.nD KernelIdeal.τ).loc KernelIdeal.main_arg8)), ?_, ?_⟩
  · exact (θ_run _ _ _).mono (fun r h c => h.1 c) (Whole.kernel_run m g)
  · refine (θ_run _ _ _).mono (fun r h c => ⟨(h c).1.trans ?_, (h c).2⟩) (ReferenceIdeal.Value.run m' g')
    obtain ⟨a0, a1, a2, a3, a4, a5, a6, a7, a8⟩ := ha c
    rw [ReferenceIdeal.Read.val_main_v158_eq, a0, a1, a2, a3, a4, a5, a6, a7, a8]
    exact Whole.ref_result _ _ _ _ _ _ _ _ _ (Whole.reals_of_finite _ _ _ _ _ _ _ _ _ (hp c))

theorem claim : Cert.Claim := ⟨Cert.Attn.Gen.facts, Cert.AttnIdeal.Gen.facts, Cert.AttnReferenceIdeal.Gen.facts, Cert.KernelIdeal.Gen.facts, Cert.ReferenceIdeal.Gen.facts,
  Cert.Pre_regions_in_range.Gen.facts, Cert.Pre_regions_in_range_scores_finite.Gen.facts, Cert.Pre_projections_finite.Gen.facts,
  fun m g h => Attn.Gen.frame m g (Attention.ok_of_Attn m h),
  fun m g h => AttnIdeal.Gen.frame m g (Attention.ok_of_AttnIdeal m h),
  fun m g h => AttnIdeal.Gen.frame m g (Attention.ok_of_scores_finite m h),
  fun m g _ => reference_frame m g,
  fun m g _ => reference_frame m g,
  fun m g _ => whole_frame m g,
  fun m g _ => whole_frame m g,
  fun m g _ => whole_reference_frame m g,
  fun m g _ => whole_reference_frame m g,
  trivial, same_result, same_whole⟩

end Cert.Proof

end
